-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_sections_finite [hPre_sections_finite : Cert.Pre_sections_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_sections_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_sections_finite [hPre_sections_finite : Cert.Pre_sections_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_sections_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_sections_finite [hKernel4Ideal : Cert.Kernel4Ideal.Facts] [hPre_sections_finite : Cert.Pre_sections_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_sections_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_sections_finite [hReference4Ideal : Cert.Reference4Ideal.Facts] [hPre_sections_finite : Cert.Pre_sections_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_sections_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v28) = v1 c
          ∧ r.2.mem ((c.tc : Thread Cert.Reference3Ideal.nD Cert.Reference3Ideal.τ).loc Cert.Reference3Ideal.main_v30) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel5_Kernel5Ideal : Prop :=
  IdealRules.named_const.Statement Cert.Kernel5Ideal.κ "mask" .f32 0xF149F2CA#32 ⊥

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v67) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel4_Kernel4Ideal : Prop :=
  True

def algebraic_Kernel4Ideal_Reference4Ideal_pre_sections_finite [hKernel4Ideal : Cert.Kernel4Ideal.Facts] [hReference4Ideal : Cert.Reference4Ideal.Facts] [hPre_sections_finite : Cert.Pre_sections_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_sections_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v52)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v52) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v120) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel4 : Cert.Kernel4.Facts) (hKernel4Ideal : Cert.Kernel4Ideal.Facts) (hReference4Ideal : Cert.Reference4Ideal.Facts) (hPre_finite : Cert.Pre_finite.Facts) (hPre_sections_finite : Cert.Pre_sections_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ quiescent_Kernel4 (hKernel4 := hKernel4)
    ∧ quiescent_Kernel4Ideal (hKernel4Ideal := hKernel4Ideal)
    ∧ quiescent_Kernel4Ideal_pre_sections_finite (hKernel4Ideal := hKernel4Ideal) (hPre_sections_finite := hPre_sections_finite)
    ∧ quiescent_Reference4Ideal (hReference4Ideal := hReference4Ideal)
    ∧ quiescent_Reference4Ideal_pre_sections_finite (hReference4Ideal := hReference4Ideal) (hPre_sections_finite := hPre_sections_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal_pre_finite (hKernel5Ideal := hKernel5Ideal) (hReference5Ideal := hReference5Ideal) (hPre_finite := hPre_finite)
    ∧ preserves_Kernel4_Kernel4Ideal
    ∧ algebraic_Kernel4Ideal_Reference4Ideal_pre_sections_finite (hKernel4Ideal := hKernel4Ideal) (hReference4Ideal := hReference4Ideal) (hPre_sections_finite := hPre_sections_finite)
-- ==== Pre_finite.lean ====
abbrev S2x4x2x8192x64 : Shape := ⟨5, ![2, 4, 2, 8192, 64]⟩
abbrev S2x4x8192x128 : Shape := ⟨4, ![2, 4, 8192, 128]⟩
abbrev S1x4x64 : Shape := ⟨3, ![1, 4, 64]⟩
abbrev S1x128 : Shape := ⟨2, ![1, 128]⟩
abbrev S2x4x8192x2x64 : Shape := ⟨5, ![2, 4, 8192, 2, 64]⟩
abbrev S_ : Shape := ⟨0, ![]⟩
abbrev S1x4x1x1x64 : Shape := ⟨5, ![1, 4, 1, 1, 64]⟩

class Facts : Prop where
  shapeCasts_S2x4x8192x128_S2x4x8192x2x64 : S2x4x8192x128.ShapeCasts S2x4x8192x2x64
  transposes_S2x4x8192x2x64_S2x4x2x8192x64_0_1_3_2_4 : S2x4x8192x2x64.Transposes [0, 1, 3, 2, 4] S2x4x2x8192x64
  bcast_S_S1x4x64 : S_.BroadcastsInDim S1x4x64 (![] : Fin 0 → Fin S1x4x64.rank)
  shapeCasts_S1x4x64_S1x4x1x1x64 : S1x4x64.ShapeCasts S1x4x1x1x64
  bcast_S1x4x1x1x64_S2x4x2x8192x64_0_1_2_3_4 : S1x4x1x1x64.BroadcastsInDim S2x4x2x8192x64 (![0, 1, 2, 3, 4] : Fin 5 → Fin S2x4x2x8192x64.rank)
  bcast_S_S2x4x2x8192x64 : S_.BroadcastsInDim S2x4x2x8192x64 (![] : Fin 0 → Fin S2x4x2x8192x64.rank)

variable [Facts]

def fn_part1 {F : FTy → Type} [FloatOps F] (main_v1 : FVec F S2x4x2x8192x64 .f32) (main_v8 : IVec S2x4x2x8192x64 1) (main_v13 : IVec S2x4x2x8192x64 1) (main_v15 : IVec S2x4x2x8192x64 1) (main_v17 : IVec S2x4x2x8192x64 1) : IVec S2x4x2x8192x64 1 :=
  let main_v18 : IVec S2x4x2x8192x64 1 := andi main_v15 main_v17
  let main_v19 : IVec S2x4x2x8192x64 1 := andi main_v13 main_v18
  let main_cst_5 : FVec F S_ .f32 := constant S_ .f32 0xFF800000#32
  let main_v20 : FVec F S2x4x2x8192x64 .f32 := broadcastInDim S2x4x2x8192x64 ![] bcast_S_S2x4x2x8192x64 main_cst_5
  let main_v21 : IVec S2x4x2x8192x64 1 := cmpf .ogt main_v1 main_v20
  let main_cst_6 : FVec F S_ .f32 := constant S_ .f32 0x7F800000#32
  let main_v22 : FVec F S2x4x2x8192x64 .f32 := broadcastInDim S2x4x2x8192x64 ![] bcast_S_S2x4x2x8192x64 main_cst_6
  let main_v23 : IVec S2x4x2x8192x64 1 := cmpf .olt main_v1 main_v22
  let main_v24 : IVec S2x4x2x8192x64 1 := andi main_v21 main_v23
  let main_v25 : IVec S2x4x2x8192x64 1 := andi main_v19 main_v24
  let main_v26 : IVec S2x4x2x8192x64 1 := andi main_v25 main_v8
  main_v26

def fn {F : FTy → Type} [FloatOps F] (main_arg0 : FVec F S2x4x2x8192x64 .f32) (main_arg1 : FVec F S2x4x2x8192x64 .f32) (main_arg2 : FVec F S2x4x8192x128 .f32) (main_arg3 : FVec F S1x4x64 .f32) (main_arg4 : FVec F S1x128 .f32) : IVec S2x4x2x8192x64 1 :=
  let main_v0 : FVec F S2x4x8192x2x64 .f32 := shapeCast S2x4x8192x2x64 main_arg2 shapeCasts_S2x4x8192x128_S2x4x8192x2x64
  let main_v1 : FVec F S2x4x2x8192x64 .f32 := (transpose S2x4x2x8192x64 [0, 1, 3, 2, 4] · transposes_S2x4x8192x2x64_S2x4x2x8192x64_0_1_3_2_4) main_v0
  let main_cst : FVec F S_ .f32 := constant S_ .f32 0xFF800000#32
  let main_v2 : FVec F S1x4x64 .f32 := broadcastInDim S1x4x64 ![] bcast_S_S1x4x64 main_cst
  let main_v3 : IVec S1x4x64 1 := cmpf .ogt main_arg3 main_v2
  let main_cst_0 : FVec F S_ .f32 := constant S_ .f32 0x7F800000#32
  let main_v4 : FVec F S1x4x64 .f32 := broadcastInDim S1x4x64 ![] bcast_S_S1x4x64 main_cst_0
  let main_v5 : IVec S1x4x64 1 := cmpf .olt main_arg3 main_v4
  let main_v6 : IVec S1x4x64 1 := andi main_v3 main_v5
  let main_v7 : IVec S1x4x1x1x64 1 := shapeCast S1x4x1x1x64 main_v6 shapeCasts_S1x4x64_S1x4x1x1x64
  let main_v8 : IVec S2x4x2x8192x64 1 := broadcastInDim S2x4x2x8192x64 ![0, 1, 2, 3, 4] bcast_S1x4x1x1x64_S2x4x2x8192x64_0_1_2_3_4 main_v7
  let main_cst_1 : FVec F S_ .f32 := constant S_ .f32 0xFF800000#32
  let main_v9 : FVec F S2x4x2x8192x64 .f32 := broadcastInDim S2x4x2x8192x64 ![] bcast_S_S2x4x2x8192x64 main_cst_1
  let main_v10 : IVec S2x4x2x8192x64 1 := cmpf .ogt main_arg0 main_v9
  let main_cst_2 : FVec F S_ .f32 := constant S_ .f32 0x7F800000#32
  let main_v11 : FVec F S2x4x2x8192x64 .f32 := broadcastInDim S2x4x2x8192x64 ![] bcast_S_S2x4x2x8192x64 main_cst_2
  let main_v12 : IVec S2x4x2x8192x64 1 := cmpf .olt main_arg0 main_v11
  let main_v13 : IVec S2x4x2x8192x64 1 := andi main_v10 main_v12
  let main_cst_3 : FVec F S_ .f32 := constant S_ .f32 0xFF800000#32
  let main_v14 : FVec F S2x4x2x8192x64 .f32 := broadcastInDim S2x4x2x8192x64 ![] bcast_S_S2x4x2x8192x64 main_cst_3
  let main_v15 : IVec S2x4x2x8192x64 1 := cmpf .ogt main_arg1 main_v14
  let main_cst_4 : FVec F S_ .f32 := constant S_ .f32 0x7F800000#32
  let main_v16 : FVec F S2x4x2x8192x64 .f32 := broadcastInDim S2x4x2x8192x64 ![] bcast_S_S2x4x2x8192x64 main_cst_4
  let main_v17 : IVec S2x4x2x8192x64 1 := cmpf .olt main_arg1 main_v16
  fn_part1 (F := F) main_v1 main_v8 main_v13 main_v15 main_v17
-- ==== Pre_sections_finite.lean ====
abbrev S2x8192x1024 : Shape := ⟨3, ![2, 8192, 1024]⟩
abbrev S1x1024 : Shape := ⟨2, ![1, 1024]⟩
abbrev S1x1024x3072 : Shape := ⟨3, ![1, 1024, 3072]⟩
abbrev S1x2x64 : Shape := ⟨3, ![1, 2, 64]⟩
abbrev S1x1024x1024 : Shape := ⟨3, ![1, 1024, 1024]⟩
abbrev S_ : Shape := ⟨0, ![]⟩
abbrev S1x1024x1 : Shape := ⟨3, ![1, 1024, 1]⟩

class Facts : Prop where
  slices_S1x1024x3072_S1x1024x1024_0_0_0 : S1x1024x3072.Slices ![0, 0, 0] S1x1024x1024
  bcast_S_S1x1024x1024 : S_.BroadcastsInDim S1x1024x1024 (![] : Fin 0 → Fin S1x1024x1024.rank)
  bcast_S_S1x1024 : S_.BroadcastsInDim S1x1024 (![] : Fin 0 → Fin S1x1024.rank)
  bcast_S1x1024_S1x1024x1_0_1 : S1x1024.BroadcastsInDim S1x1024x1 (![0, 1] : Fin 2 → Fin S1x1024x1.rank)
  bcast_S1x1024x1_S1x1024x1024_0_1_2 : S1x1024x1.BroadcastsInDim S1x1024x1024 (![0, 1, 2] : Fin 3 → Fin S1x1024x1024.rank)

variable [Facts]

def fn {F : FTy → Type} [FloatOps F] (main_arg0 : FVec F S2x8192x1024 .f32) (main_arg1 : FVec F S1x1024 .f32) (main_arg2 : FVec F S1x1024x3072 .f32) (main_arg3 : FVec F S1x2x64 .f32) : IVec S1x1024x1024 1 :=
  let main_v0 : FVec F S1x1024x1024 .f32 := (extractStridedSlice S1x1024x1024 ![0, 0, 0] · slices_S1x1024x3072_S1x1024x1024_0_0_0) main_arg2
  let main_cst : FVec F S_ .f32 := constant S_ .f32 0xFF800000#32
  let main_v1 : FVec F S1x1024x1024 .f32 := broadcastInDim S1x1024x1024 ![] bcast_S_S1x1024x1024 main_cst
  let main_v2 : IVec S1x1024x1024 1 := cmpf .ogt main_v0 main_v1
  let main_cst_0 : FVec F S_ .f32 := constant S_ .f32 0x7F800000#32
  let main_v3 : FVec F S1x1024x1024 .f32 := broadcastInDim S1x1024x1024 ![] bcast_S_S1x1024x1024 main_cst_0
  let main_v4 : IVec S1x1024x1024 1 := cmpf .olt main_v0 main_v3
  let main_v5 : IVec S1x1024x1024 1 := andi main_v2 main_v4
  let main_cst_1 : FVec F S_ .f32 := constant S_ .f32 0xFF800000#32
  let main_v6 : FVec F S1x1024 .f32 := broadcastInDim S1x1024 ![] bcast_S_S1x1024 main_cst_1
  let main_v7 : IVec S1x1024 1 := cmpf .ogt main_arg1 main_v6
  let main_cst_2 : FVec F S_ .f32 := constant S_ .f32 0x7F800000#32
  let main_v8 : FVec F S1x1024 .f32 := broadcastInDim S1x1024 ![] bcast_S_S1x1024 main_cst_2
  let main_v9 : IVec S1x1024 1 := cmpf .olt main_arg1 main_v8
  let main_v10 : IVec S1x1024 1 := andi main_v7 main_v9
  let main_v11 : IVec S1x1024x1 1 := broadcastInDim S1x1024x1 ![0, 1] bcast_S1x1024_S1x1024x1_0_1 main_v10
  let main_v12 : IVec S1x1024x1024 1 := broadcastInDim S1x1024x1024 ![0, 1, 2] bcast_S1x1024x1_S1x1024x1024_0_1_2 main_v11
  let main_v13 : IVec S1x1024x1024 1 := andi main_v5 main_v12
  main_v13
-- ==== Kernel.lean ====
abbrev S2x8192x3072 : Shape := ⟨3, ![2, 8192, 3072]⟩
abbrev S16384x24x128 : Shape := ⟨3, ![16384, 24, 128]⟩
abbrev S24x16384x128 : Shape := ⟨3, ![24, 16384, 128]⟩
abbrev S24 : Shape := ⟨1, ![24]⟩
abbrev S24x1x1 : Shape := ⟨3, ![24, 1, 1]⟩
abbrev S_ : Shape := ⟨0, ![]⟩
abbrev S16384x512 : Shape := ⟨2, ![16384, 512]⟩
abbrev S1x256x128 : Shape := ⟨3, ![1, 256, 128]⟩
abbrev S1x8192x128 : Shape := ⟨3, ![1, 8192, 128]⟩
abbrev S256x128 : Shape := ⟨2, ![256, 128]⟩
abbrev S256x256 : Shape := ⟨2, ![256, 256]⟩
abbrev S256x1 : Shape := ⟨2, ![256, 1]⟩

abbrev nBuf : Space → Nat
  | .hbm => 33
  | .vmem => 12
  | .smem => 0
  | _ => 0

abbrev bufTy : (tb : Table) → Fin (tcTables nBuf tb) → BufTy
  | .hbm, ⟨0, _⟩ => ⟨S2x8192x3072, .f32⟩
  | .hbm, ⟨1, _⟩ => ⟨S16384x24x128, .f32⟩
  | .hbm, ⟨2, _⟩ => ⟨S24x16384x128, .f32⟩
  | .hbm, ⟨3, _⟩ => ⟨S24, .i32⟩
  | .hbm, ⟨4, _⟩ => ⟨S24x1x1, .i32⟩
  | .hbm, ⟨5, _⟩ => ⟨S_, .i32⟩
  | .hbm, ⟨6, _⟩ => ⟨S_, .i32⟩
  | .hbm, ⟨7, _⟩ => ⟨S24x1x1, .i32⟩
  | .hbm, ⟨8, _⟩ => ⟨S24x1x1, .i32⟩
  | .hbm, ⟨9, _⟩ => ⟨S24x1x1, .i32⟩
  | .hbm, ⟨10, _⟩ => ⟨S_, .i32⟩
  | .hbm, ⟨11, _⟩ => ⟨S24x1x1, .i32⟩
  | .hbm, ⟨12, _⟩ => ⟨S24x1x1, .i1⟩
  | .hbm, ⟨13, _⟩ => ⟨S24x1x1, .i32⟩
  | .hbm, ⟨14, _⟩ => ⟨S24x1x1, .i32⟩
  | .hbm, ⟨15, _⟩ => ⟨S_, .i32⟩
  | .hbm, ⟨16, _⟩ => ⟨S24x1x1, .i32⟩
  | .hbm, ⟨17, _⟩ => ⟨S24x1x1, .i1⟩
  | .hbm, ⟨18, _⟩ => ⟨S24x1x1, .i1⟩
  | .hbm, ⟨19, _⟩ => ⟨S_, .i32⟩
  | .hbm, ⟨20, _⟩ => ⟨S24x1x1, .i32⟩
  | .hbm, ⟨21, _⟩ => ⟨S24x1x1, .i32⟩
  | .hbm, ⟨22, _⟩ => ⟨S24x1x1, .i32⟩
  | .hbm, ⟨23, _⟩ => ⟨S_, .i32⟩
  | .hbm, ⟨24, _⟩ => ⟨S24x1x1, .i32⟩
  | .hbm, ⟨25, _⟩ => ⟨S24x1x1, .i1⟩
  | .hbm, ⟨26, _⟩ => ⟨S_, .f32⟩
  | .hbm, ⟨27, _⟩ => ⟨S24x16384x128, .f32⟩
  | .hbm, ⟨28, _⟩ => ⟨S24x16384x128, .f32⟩
  | .hbm, ⟨29, _⟩ => ⟨S24x16384x128, .i1⟩
  | .hbm, ⟨30, _⟩ => ⟨S24x16384x128, .f32⟩
  | .hbm, ⟨31, _⟩ => ⟨S24x16384x128, .bf16⟩
  | .hbm, ⟨32, _⟩ => ⟨S16384x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S256x128, .bf16⟩
  | .local _ .vmem, ⟨7, _⟩ => ⟨S256x128, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | _, _ => ⟨S2x8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v4 : Ref sig .tc := ⟨.hbm, 22, rfl⟩
abbrev main_c_0 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_call1_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 32], ![false, false, false]⟩

def k0_mult1 (i : grid0.Coords) : BitVec 32 :=
  let arg2 : BitVec 32 := BitVec.ofNat 32 (i 2).val
  let c256_i32 : BitVec 32 := 256#32
  let v13 : BitVec 32 := Scalar.muli arg2 c256_i32
  v13
def k0_off1 (i : grid0.Coords) : Fin 3 → Nat :=
  let c0_3 : Index := 0#32
  let arg2 : BitVec 32 := BitVec.ofNat 32 (i 2).val
  let c256_i32 : BitVec 32 := 256#32
  let v13 : BitVec 32 := Scalar.muli arg2 c256_i32
  let v14 : BitVec 32 := v13
  let v15 : Index := Scalar.indexCast v14
  let c0_4 : Index := 0#32
  ![0, v15.toNat, 0]
@[reducible] def k0_t1_loop (i : grid0.Coords) : Scf.Loop 32 :=
  let c0_i32_32 : BitVec 32 := 0#32
  let arg2 : BitVec 32 := BitVec.ofNat 32 (i 2).val
  let v84 : BitVec 32 := Scalar.subi arg2 c0_i32_32
  let c1_i32 : BitVec 32 := 1#32
  let v86 : BitVec 32 := Scalar.divsi v84 c1_i32
  let v87 : BitVec 32 := Scalar.muli v86 c1_i32
  let v88 : BitVec 32 := Scalar.addi c0_i32_32 v87
  let c1_i32_33 : BitVec 32 := 1#32
  ⟨c0_i32_32, v88, c1_i32_33⟩
def k0_mult2 (i : grid0.Coords) (k0_t1 : Fin (k0_t1_loop i).trips) : BitVec 32 :=
  let arg2 : BitVec 32 := BitVec.ofNat 32 (i 2).val
  let c1_i32_41 : BitVec 32 := 1#32
  let v94 : BitVec 32 := Scalar.subi arg2 c1_i32_41
  let c0_i32_32 : BitVec 32 := 0#32
  let c1_i32_33 : BitVec 32 := 1#32
  let arg11 : BitVec 32 := Scf.iv c0_i32_32 c1_i32_33 k0_t1
  let v95 : BitVec 32 := Scalar.subi v94 arg11
  let c256_i32_42 : BitVec 32 := 256#32
  let v96 : BitVec 32 := Scalar.muli v95 c256_i32_42
  v96
def k0_off2 (i : grid0.Coords) (k0_t1 : Fin (k0_t1_loop i).trips) : Fin 3 → Nat :=
  let c0_43 : Index := 0#32
  let arg2 : BitVec 32 := BitVec.ofNat 32 (i 2).val
  let c1_i32_41 : BitVec 32 := 1#32
  let v94 : BitVec 32 := Scalar.subi arg2 c1_i32_41
  let c0_i32_32 : BitVec 32 := 0#32
  let c1_i32_33 : BitVec 32 := 1#32
  let arg11 : BitVec 32 := Scf.iv c0_i32_32 c1_i32_33 k0_t1
  let v95 : BitVec 32 := Scalar.subi v94 arg11
  let c256_i32_42 : BitVec 32 := 256#32
  let v96 : BitVec 32 := Scalar.muli v95 c256_i32_42
  let v97 : BitVec 32 := v96
  let v98 : Index := Scalar.indexCast v97
  let c0_44 : Index := 0#32
  ![0, v98.toNat, 0]
@[reducible] def k0_t2_loop (i : grid0.Coords) : Scf.Loop 32 :=
  let c0_i32_32 : BitVec 32 := 0#32
  let arg2 : BitVec 32 := BitVec.ofNat 32 (i 2).val
  let v84 : BitVec 32 := Scalar.subi arg2 c0_i32_32
  let c1_i32 : BitVec 32 := 1#32
  let v86 : BitVec 32 := Scalar.divsi v84 c1_i32
  let v87 : BitVec 32 := Scalar.muli v86 c1_i32
  let v88 : BitVec 32 := Scalar.addi c0_i32_32 v87
  let v85 : BitVec 32 := Scalar.addi c0_i32_32 v84
  let c1_i32_34 : BitVec 32 := 1#32
  ⟨v88, v85, c1_i32_34⟩
def k0_mult3 (i : grid0.Coords) (k0_t2 : Fin (k0_t2_loop i).trips) : BitVec 32 :=
  let arg2 : BitVec 32 := BitVec.ofNat 32 (i 2).val
  let c1_i32_41 : BitVec 32 := 1#32
  let v94 : BitVec 32 := Scalar.subi arg2 c1_i32_41
  let c0_i32_32 : BitVec 32 := 0#32
  let v84 : BitVec 32 := Scalar.subi arg2 c0_i32_32
  let c1_i32 : BitVec 32 := 1#32
  let v86 : BitVec 32 := Scalar.divsi v84 c1_i32
  let v87 : BitVec 32 := Scalar.muli v86 c1_i32
  let v88 : BitVec 32 := Scalar.addi c0_i32_32 v87
  let c1_i32_34 : BitVec 32 := 1#32
  let arg11 : BitVec 32 := Scf.iv v88 c1_i32_34 k0_t2
  let v95 : BitVec 32 := Scalar.subi v94 arg11
  let c256_i32_42 : BitVec 32 := 256#32
  let v96 : BitVec 32 := Scalar.muli v95 c256_i32_42
  v96
def k0_off3 (i : grid0.Coords) (k0_t2 : Fin (k0_t2_loop i).trips) : Fin 3 → Nat :=
  let c0_43 : Index := 0#32
  let arg2 : BitVec 32 := BitVec.ofNat 32 (i 2).val
  let c1_i32_41 : BitVec 32 := 1#32
  let v94 : BitVec 32 := Scalar.subi arg2 c1_i32_41
  let c0_i32_32 : BitVec 32 := 0#32
  let v84 : BitVec 32 := Scalar.subi arg2 c0_i32_32
  let c1_i32 : BitVec 32 := 1#32
  let v86 : BitVec 32 := Scalar.divsi v84 c1_i32
  let v87 : BitVec 32 := Scalar.muli v86 c1_i32
  let v88 : BitVec 32 := Scalar.addi c0_i32_32 v87
  let c1_i32_34 : BitVec 32 := 1#32
  let arg11 : BitVec 32 := Scf.iv v88 c1_i32_34 k0_t2
  let v95 : BitVec 32 := Scalar.subi v94 arg11
  let c256_i32_42 : BitVec 32 := 256#32
  let v96 : BitVec 32 := Scalar.muli v95 c256_i32_42
  let v97 : BitVec 32 := v96
  let v98 : Index := Scalar.indexCast v97
  let c0_44 : Index := 0#32
  ![0, v98.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c32_i32 : BitVec 32 := 32#32
  let v1 : BitVec 32 := Scalar.muli arg0 c32_i32
  let v2 : BitVec 32 := Scalar.addi v1 arg2
  let c0_i32 : BitVec 32 := 0#32
  let c0_i32_0 : BitVec 32 := 0#32
  ![v0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![v0.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x8192x3072 : Shape := ⟨3, ![2, 8192, 3072]⟩
abbrev S2x8192x1536 : Shape := ⟨3, ![2, 8192, 1536]⟩
abbrev S2x8192x512 : Shape := ⟨3, ![2, 8192, 512]⟩
abbrev S2x8192x8x64 : Shape := ⟨4, ![2, 8192, 8, 64]⟩
abbrev S2x8x8192x64 : Shape := ⟨4, ![2, 8, 8192, 64]⟩
abbrev S2x8x8192x8192 : Shape := ⟨4, ![2, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16384x512 : Shape := ⟨2, ![16384, 512]⟩

abbrev nBuf : Space → Nat
  | .hbm => 75
  | .vmem => 0
  | .smem => 0
  | _ => 0

abbrev bufTy : (tb : Table) → Fin (tcTables nBuf tb) → BufTy
  | .hbm, ⟨0, _⟩ => ⟨S2x8192x3072, .f32⟩
  | .hbm, ⟨1, _⟩ => ⟨S2x8192x1536, .f32⟩
  | .hbm, ⟨2, _⟩ => ⟨S2x8192x512, .f32⟩
  | .hbm, ⟨3, _⟩ => ⟨S2x8192x512, .f32⟩
  | .hbm, ⟨4, _⟩ => ⟨S2x8192x512, .f32⟩
  | .hbm, ⟨5, _⟩ => ⟨S2x8192x8x64, .f32⟩
  | .hbm, ⟨6, _⟩ => ⟨S2x8x8192x64, .f32⟩
  | .hbm, ⟨7, _⟩ => ⟨S2x8192x8x64, .f32⟩
  | .hbm, ⟨8, _⟩ => ⟨S2x8x8192x64, .f32⟩
  | .hbm, ⟨9, _⟩ => ⟨S2x8192x8x64, .f32⟩
  | .hbm, ⟨10, _⟩ => ⟨S2x8x8192x64, .f32⟩
  | .hbm, ⟨11, _⟩ => ⟨S2x8x8192x8192, .f32⟩
  | .hbm, ⟨12, _⟩ => ⟨S_, .f32⟩
  | .hbm, ⟨13, _⟩ => ⟨S2x8x8192x8192, .f32⟩
  | .hbm, ⟨14, _⟩ => ⟨S2x8x8192x8192, .f32⟩
  | .hbm, ⟨15, _⟩ => ⟨S8192, .i32⟩
  | .hbm, ⟨16, _⟩ => ⟨S8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S2x8x8192x8192, .f32⟩
  | .hbm, ⟨23, _⟩ => ⟨S2x8x8192x8192, .f32⟩
  | .hbm, ⟨24, _⟩ => ⟨S_, .f32⟩
  | .hbm, ⟨25, _⟩ => ⟨S2x8x8192x8192, .f32⟩
  | .hbm, ⟨26, _⟩ => ⟨S2x8x8192x8192, .f32⟩
  | .hbm, ⟨27, _⟩ => ⟨S2x8x8192x8192, .f32⟩
  | .hbm, ⟨28, _⟩ => ⟨S2x8x8192x8192, .f32⟩
  | .hbm, ⟨29, _⟩ => ⟨S2x8x8192x8192, .i1⟩
  | .hbm, ⟨30, _⟩ => ⟨S2x8x8192x8192, .f32⟩
  | .hbm, ⟨31, _⟩ => ⟨S2x8x8192x8192, .f32⟩
  | .hbm, ⟨32, _⟩ => ⟨S2x8x8192x8192, .f32⟩
  | .hbm, ⟨33, _⟩ => ⟨S2x8x8192x8192, .f32⟩
  | .hbm, ⟨34, _⟩ => ⟨S2x8x8192x8192, .f32⟩
  | .hbm, ⟨35, _⟩ => ⟨S2x8x8192x8192, .f32⟩
  | .hbm, ⟨36, _⟩ => ⟨S2x8x8192x8192, .f32⟩
  | .hbm, ⟨37, _⟩ => ⟨S2x8x8192x8192, .f32⟩
  | .hbm, ⟨38, _⟩ => ⟨S2x8x8192x8192, .f32⟩
  | .hbm, ⟨39, _⟩ => ⟨S_, .f32⟩
  | .hbm, ⟨40, _⟩ => ⟨S_, .f32⟩
  | .hbm, ⟨41, _⟩ => ⟨S2x8x8192x8192, .i1⟩
  | .hbm, ⟨42, _⟩ => ⟨S2x8x8192x8192, .f32⟩
  | .hbm, ⟨43, _⟩ => ⟨S2x8x8192x8192, .f32⟩
  | .hbm, ⟨44, _⟩ => ⟨S_, .f32⟩
  | .hbm, ⟨45, _⟩ => ⟨S_, .f32⟩
  | .hbm, ⟨46, _⟩ => ⟨S2x8x8192x8192, .f32⟩
  | .hbm, ⟨47, _⟩ => ⟨S2x8x8192x8192, .f32⟩
  | .hbm, ⟨48, _⟩ => ⟨S_, .f32⟩
  | .hbm, ⟨49, _⟩ => ⟨S2x8x8192x8192, .f32⟩
  | .hbm, ⟨50, _⟩ => ⟨S2x8x8192x8192, .f32⟩
  | .hbm, ⟨51, _⟩ => ⟨S2x8x8192x8192, .f32⟩
  | .hbm, ⟨52, _⟩ => ⟨S2x8x8192x8192, .f32⟩
  | .hbm, ⟨53, _⟩ => ⟨S2x8x8192x8192, .i1⟩
  | .hbm, ⟨54, _⟩ => ⟨S2x8x8192x8192, .f32⟩
  | .hbm, ⟨55, _⟩ => ⟨S2x8x8192x8192, .f32⟩
  | .hbm, ⟨56, _⟩ => ⟨S2x8x8192x8192, .f32⟩
  | .hbm, ⟨57, _⟩ => ⟨S2x8x8192x8192, .f32⟩
  | .hbm, ⟨58, _⟩ => ⟨S2x8x8192x8192, .f32⟩
  | .hbm, ⟨59, _⟩ => ⟨S2x8x8192x8192, .f32⟩
  | .hbm, ⟨60, _⟩ => ⟨S2x8x8192x8192, .f32⟩
  | .hbm, ⟨61, _⟩ => ⟨S2x8x8192x8192, .f32⟩
  | .hbm, ⟨62, _⟩ => ⟨S2x8x8192x8192, .f32⟩
  | .hbm, ⟨63, _⟩ => ⟨S2x8x8192x8192, .f32⟩
  | .hbm, ⟨64, _⟩ => ⟨S2x8x8192x8192, .f32⟩
  | .hbm, ⟨65, _⟩ => ⟨S2x8x8192x8192, .f32⟩
  | .hbm, ⟨66, _⟩ => ⟨S_, .f32⟩
  | .hbm, ⟨67, _⟩ => ⟨S_, .f32⟩
  | .hbm, ⟨68, _⟩ => ⟨S2x8x8192x8192, .i1⟩
  | .hbm, ⟨69, _⟩ => ⟨S2x8x8192x8192, .f32⟩
  | .hbm, ⟨70, _⟩ => ⟨S2x8x8192x8192, .f32⟩
  | .hbm, ⟨71, _⟩ => ⟨S2x8x8192x64, .f32⟩
  | .hbm, ⟨72, _⟩ => ⟨S2x8192x8x64, .f32⟩
  | .hbm, ⟨73, _⟩ => ⟨S16384x512, .f32⟩
  | .hbm, ⟨74, _⟩ => ⟨S16384x512, .bf16⟩
  | _, _ => ⟨S2x8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v21 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v22 : Ref sig .tc := ⟨.hbm, 43, rfl⟩
abbrev main_call2_cst : Ref sig .tc := ⟨.hbm, 44, rfl⟩
abbrev main_call2_v0 : Ref sig .tc := ⟨.hbm, 45, rfl⟩
abbrev main_v23 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩

abbrev nD : Nat := 1
abbrev τ : Topo := Topo.v7x

variable {F : FTy → Type} [FloatOps F]
-- ==== Kernel2.lean ====
abbrev S16384x1024 : Shape := ⟨2, ![16384, 1024]⟩
abbrev S1x16384x1024 : Shape := ⟨3, ![1, 16384, 1024]⟩
abbrev S8x128x16384 : Shape := ⟨3, ![8, 128, 16384]⟩
abbrev S1024x16384 : Shape := ⟨2, ![1024, 16384]⟩
abbrev S1024x512 : Shape := ⟨2, ![1024, 512]⟩
abbrev S512x1024 : Shape := ⟨2, ![512, 1024]⟩
abbrev S8x128x512 : Shape := ⟨3, ![8, 128, 512]⟩
abbrev S512x512 : Shape := ⟨2, ![512, 512]⟩
abbrev S1x1x512 : Shape := ⟨3, ![1, 1, 512]⟩
abbrev S1x512 : Shape := ⟨2, ![1, 512]⟩
abbrev S1x128x512 : Shape := ⟨3, ![1, 128, 512]⟩
abbrev S128x512 : Shape := ⟨2, ![128, 512]⟩

abbrev nBuf : Space → Nat
  | .hbm => 16
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1x16384x1024, .f32⟩
  | .hbm, ⟨2, _⟩ => ⟨S1x16384x1024, .f32⟩
  | .hbm, ⟨3, _⟩ => ⟨S8x128x16384, .f32⟩
  | .hbm, ⟨4, _⟩ => ⟨S8x128x16384, .f32⟩
  | .hbm, ⟨5, _⟩ => ⟨S8x128x16384, .f32⟩
  | .hbm, ⟨6, _⟩ => ⟨S8x128x16384, .f32⟩
  | .hbm, ⟨7, _⟩ => ⟨S16384x1024, .f32⟩
  | .hbm, ⟨8, _⟩ => ⟨S1024x16384, .f32⟩
  | .hbm, ⟨9, _⟩ => ⟨S1024x16384, .bf16⟩
  | .hbm, ⟨10, _⟩ => ⟨S16384x1024, .f32⟩
  | .hbm, ⟨11, _⟩ => ⟨S16384x1024, .bf16⟩
  | .hbm, ⟨12, _⟩ => ⟨S16384x1024, .f32⟩
  | .hbm, ⟨13, _⟩ => ⟨S1024x16384, .f32⟩
  | .hbm, ⟨14, _⟩ => ⟨S1024x16384, .bf16⟩
  | .hbm, ⟨15, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S8x128x512, .f32⟩
  | .local _ .vmem, ⟨7, _⟩ => ⟨S8x128x512, .f32⟩
  | .local _ .vmem, ⟨8, _⟩ => ⟨S8x128x512, .f32⟩
  | .local _ .vmem, ⟨9, _⟩ => ⟨S8x128x512, .f32⟩
  | .local _ .vmem, ⟨10, _⟩ => ⟨S8x128x512, .f32⟩
  | .local _ .vmem, ⟨11, _⟩ => ⟨S8x128x512, .f32⟩
  | .local _ .vmem, ⟨12, _⟩ => ⟨S8x128x512, .f32⟩
  | .local _ .vmem, ⟨13, _⟩ => ⟨S8x128x512, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1024x512, .f32⟩
  | .local _ .vmem, ⟨19, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 32], ![false, false]⟩

def k0_off1 (i : grid0.Coords) (c0_i32_4 : BitVec 32) : Fin 3 → Nat :=
  let c0_5 : Index := 0#32
  let arg1 : BitVec 32 := BitVec.ofNat 32 (i 1).val
  let c4_i32 : BitVec 32 := 4#32
  let v8 : BitVec 32 := Scalar.muli arg1 c4_i32
  let v9 : BitVec 32 := Scalar.addi v8 c0_i32_4
  let v10 : Index := Scalar.indexCast v9
  let c0_6 : Index := 0#32
  ![0, v10.toNat, 0]
def k0_off2 (i : grid0.Coords) (c0_i32_4 : BitVec 32) : Fin 3 → Nat :=
  let c1 : Index := 1#32
  let arg1 : BitVec 32 := BitVec.ofNat 32 (i 1).val
  let c4_i32 : BitVec 32 := 4#32
  let v8 : BitVec 32 := Scalar.muli arg1 c4_i32
  let v9 : BitVec 32 := Scalar.addi v8 c0_i32_4
  let v26 : Index := Scalar.indexCast v9
  let c0_16 : Index := 0#32
  ![1, v26.toNat, 0]
def k0_off3 (i : grid0.Coords) (c0_i32_4 : BitVec 32) : Fin 3 → Nat :=
  let c2 : Index := 2#32
  let arg1 : BitVec 32 := BitVec.ofNat 32 (i 1).val
  let c4_i32 : BitVec 32 := 4#32
  let v8 : BitVec 32 := Scalar.muli arg1 c4_i32
  let v9 : BitVec 32 := Scalar.addi v8 c0_i32_4
  let v43 : Index := Scalar.indexCast v9
  let c0_26 : Index := 0#32
  ![2, v43.toNat, 0]
def k0_off4 (i : grid0.Coords) (c0_i32_4 : BitVec 32) : Fin 3 → Nat :=
  let c3 : Index := 3#32
  let arg1 : BitVec 32 := BitVec.ofNat 32 (i 1).val
  let c4_i32 : BitVec 32 := 4#32
  let v8 : BitVec 32 := Scalar.muli arg1 c4_i32
  let v9 : BitVec 32 := Scalar.addi v8 c0_i32_4
  let v60 : Index := Scalar.indexCast v9
  let c0_36 : Index := 0#32
  ![3, v60.toNat, 0]
def k0_off5 (i : grid0.Coords) (c0_i32_4 : BitVec 32) : Fin 3 → Nat :=
  let c4 : Index := 4#32
  let arg1 : BitVec 32 := BitVec.ofNat 32 (i 1).val
  let c4_i32 : BitVec 32 := 4#32
  let v8 : BitVec 32 := Scalar.muli arg1 c4_i32
  let v9 : BitVec 32 := Scalar.addi v8 c0_i32_4
  let v77 : Index := Scalar.indexCast v9
  let c0_46 : Index := 0#32
  ![4, v77.toNat, 0]
def k0_off6 (i : grid0.Coords) (c0_i32_4 : BitVec 32) : Fin 3 → Nat :=
  let c5 : Index := 5#32
  let arg1 : BitVec 32 := BitVec.ofNat 32 (i 1).val
  let c4_i32 : BitVec 32 := 4#32
  let v8 : BitVec 32 := Scalar.muli arg1 c4_i32
  let v9 : BitVec 32 := Scalar.addi v8 c0_i32_4
  let v94 : Index := Scalar.indexCast v9
  let c0_56 : Index := 0#32
  ![5, v94.toNat, 0]
def k0_off7 (i : grid0.Coords) (c0_i32_4 : BitVec 32) : Fin 3 → Nat :=
  let c6 : Index := 6#32
  let arg1 : BitVec 32 := BitVec.ofNat 32 (i 1).val
  let c4_i32 : BitVec 32 := 4#32
  let v8 : BitVec 32 := Scalar.muli arg1 c4_i32
  let v9 : BitVec 32 := Scalar.addi v8 c0_i32_4
  let v111 : Index := Scalar.indexCast v9
  let c0_66 : Index := 0#32
  ![6, v111.toNat, 0]
def k0_off8 (i : grid0.Coords) (c0_i32_4 : BitVec 32) : Fin 3 → Nat :=
  let c7 : Index := 7#32
  let arg1 : BitVec 32 := BitVec.ofNat 32 (i 1).val
  let c4_i32 : BitVec 32 := 4#32
  let v8 : BitVec 32 := Scalar.muli arg1 c4_i32
  let v9 : BitVec 32 := Scalar.addi v8 c0_i32_4
  let v128 : Index := Scalar.indexCast v9
  let c0_76 : Index := 0#32
  ![7, v128.toNat, 0]
def k0_cond2 (i : grid0.Coords) : BitVec 1 :=
  let arg1 : BitVec 32 := BitVec.ofNat 32 (i 1).val
  let c31_i32 : BitVec 32 := 31#32
  let v621 : BitVec 1 := Scalar.cmpi .eq arg1 c31_i32
  let v622 : BitVec 32 := Scalar.extui v621
  let c0_i32_379 : BitVec 32 := 0#32
  let v623 : BitVec 1 := Scalar.cmpi .ne v622 c0_i32_379
  v623

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S16384x1024 : Shape := ⟨2, ![16384, 1024]⟩
abbrev S1x16384x1024 : Shape := ⟨3, ![1, 16384, 1024]⟩
abbrev S8x128x16384 : Shape := ⟨3, ![8, 128, 16384]⟩
abbrev S1024x16384 : Shape := ⟨2, ![1024, 16384]⟩
abbrev S16384x16384 : Shape := ⟨2, ![16384, 16384]⟩
abbrev S8x1x128x16384 : Shape := ⟨4, ![8, 1, 128, 16384]⟩
abbrev S8x128x1x16384 : Shape := ⟨4, ![8, 128, 1, 16384]⟩
abbrev S8x128x128x16384 : Shape := ⟨4, ![8, 128, 128, 16384]⟩
abbrev S_ : Shape := ⟨0, ![]⟩
abbrev S128x128x16384 : Shape := ⟨3, ![128, 128, 16384]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x16384x1024, .f32⟩
  | .hbm, ⟨2, _⟩ => ⟨S1x16384x1024, .f32⟩
  | .hbm, ⟨3, _⟩ => ⟨S8x128x16384, .f32⟩
  | .hbm, ⟨4, _⟩ => ⟨S8x128x16384, .f32⟩
  | .hbm, ⟨5, _⟩ => ⟨S8x128x16384, .f32⟩
  | .hbm, ⟨6, _⟩ => ⟨S8x128x16384, .f32⟩
  | .hbm, ⟨7, _⟩ => ⟨S16384x1024, .f32⟩
  | .hbm, ⟨8, _⟩ => ⟨S16384x1024, .f32⟩
  | .hbm, ⟨9, _⟩ => ⟨S1024x16384, .f32⟩
  | .hbm, ⟨10, _⟩ => ⟨S16384x16384, .f32⟩
  | .hbm, ⟨11, _⟩ => ⟨S8x1x128x16384, .f32⟩
  | .hbm, ⟨12, _⟩ => ⟨S8x128x1x16384, .f32⟩
  | .hbm, ⟨13, _⟩ => ⟨S8x128x128x16384, .f32⟩
  | .hbm, ⟨14, _⟩ => ⟨S8x128x128x16384, .f32⟩
  | .hbm, ⟨15, _⟩ => ⟨S8x128x128x16384, .i1⟩
  | .hbm, ⟨16, _⟩ => ⟨S8x128x1x16384, .f32⟩
  | .hbm, ⟨17, _⟩ => ⟨S8x1x128x16384, .f32⟩
  | .hbm, ⟨18, _⟩ => ⟨S8x128x128x16384, .f32⟩
  | .hbm, ⟨19, _⟩ => ⟨S8x128x128x16384, .f32⟩
  | .hbm, ⟨20, _⟩ => ⟨S8x128x128x16384, .f32⟩
  | .hbm, ⟨21, _⟩ => ⟨S_, .f32⟩
  | .hbm, ⟨22, _⟩ => ⟨S_, .f32⟩
  | .hbm, ⟨23, _⟩ => ⟨S8x128x128x16384, .f32⟩
  | .hbm, ⟨24, _⟩ => ⟨S8x128x128x16384, .f32⟩
  | .hbm, ⟨25, _⟩ => ⟨S_, .f32⟩
  | .hbm, ⟨26, _⟩ => ⟨S128x128x16384, .f32⟩
  | .hbm, ⟨27, _⟩ => ⟨S16384x16384, .f32⟩
  | .hbm, ⟨28, _⟩ => ⟨S16384x16384, .f32⟩
  | .hbm, ⟨29, _⟩ => ⟨S_, .f32⟩
  | .hbm, ⟨30, _⟩ => ⟨S16384x16384, .f32⟩
  | .hbm, ⟨31, _⟩ => ⟨S16384x16384, .f32⟩
  | .hbm, ⟨32, _⟩ => ⟨S16384x16384, .f32⟩
  | .hbm, ⟨33, _⟩ => ⟨S_, .f32⟩
  | .hbm, ⟨34, _⟩ => ⟨S16384x16384, .f32⟩
  | .hbm, ⟨35, _⟩ => ⟨S16384x16384, .f32⟩
  | .hbm, ⟨36, _⟩ => ⟨S16384x16384, .f32⟩
  | .hbm, ⟨37, _⟩ => ⟨S16384x16384, .f32⟩
  | .hbm, ⟨38, _⟩ => ⟨S16384x16384, .f32⟩
  | .hbm, ⟨39, _⟩ => ⟨S16384x1024, .f32⟩
  | .hbm, ⟨40, _⟩ => ⟨S16384x1024, .f32⟩
  | .hbm, ⟨41, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel3.lean ====
abbrev S2x8192x1024 : Shape := ⟨3, ![2, 8192, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x8x2x128x128 : Shape := ⟨5, ![1, 8, 2, 128, 128]⟩
abbrev S16384x1024 : Shape := ⟨2, ![16384, 1024]⟩
abbrev S8x2x128x128 : Shape := ⟨4, ![8, 2, 128, 128]⟩
abbrev S16x128x128 : Shape := ⟨3, ![16, 128, 128]⟩
abbrev S1024x1024 : Shape := ⟨2, ![1024, 1024]⟩
abbrev S1024 : Shape := ⟨1, ![1024]⟩
abbrev S1024x2048 : Shape := ⟨2, ![1024, 2048]⟩
abbrev S2048x1024 : Shape := ⟨2, ![2048, 1024]⟩
abbrev S1024x16384 : Shape := ⟨2, ![1024, 16384]⟩
abbrev S16x128x16384 : Shape := ⟨3, ![16, 128, 16384]⟩
abbrev S512x1024 : Shape := ⟨2, ![512, 1024]⟩
abbrev S512x512 : Shape := ⟨2, ![512, 512]⟩
abbrev S1024x512 : Shape := ⟨2, ![1024, 512]⟩
abbrev S16x128x512 : Shape := ⟨3, ![16, 128, 512]⟩
abbrev S512 : Shape := ⟨1, ![512]⟩
abbrev S512x1 : Shape := ⟨2, ![512, 1]⟩
abbrev S2048x512 : Shape := ⟨2, ![2048, 512]⟩
abbrev S128x512 : Shape := ⟨2, ![128, 512]⟩
abbrev S1x128x128 : Shape := ⟨3, ![1, 128, 128]⟩
abbrev S128x128 : Shape := ⟨2, ![128, 128]⟩
abbrev S1x128x512 : Shape := ⟨3, ![1, 128, 512]⟩

abbrev nBuf : Space → Nat
  | .hbm => 21
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024x2048, .f32⟩
  | .hbm, ⟨6, _⟩ => ⟨S1x8x2x128x128, .f32⟩
  | .hbm, ⟨7, _⟩ => ⟨S16384x1024, .f32⟩
  | .hbm, ⟨8, _⟩ => ⟨S8x2x128x128, .f32⟩
  | .hbm, ⟨9, _⟩ => ⟨S16x128x128, .f32⟩
  | .hbm, ⟨10, _⟩ => ⟨S16x128x128, .bf16⟩
  | .hbm, ⟨11, _⟩ => ⟨S1024x1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S1024x2048, .f32⟩
  | .hbm, ⟨16, _⟩ => ⟨S2048x1024, .f32⟩
  | .hbm, ⟨17, _⟩ => ⟨S2048x1024, .bf16⟩
  | .hbm, ⟨18, _⟩ => ⟨S16384x1024, .f32⟩
  | .hbm, ⟨19, _⟩ => ⟨S1024x16384, .bf16⟩
  | .hbm, ⟨20, _⟩ => ⟨S16x128x16384, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S2048x1024, .bf16⟩
  | .local _ .vmem, ⟨9, _⟩ => ⟨S16x128x128, .bf16⟩
  | .local _ .vmem, ⟨10, _⟩ => ⟨S512x1024, .f32⟩
  | .local _ .vmem, ⟨11, _⟩ => ⟨S512x1024, .f32⟩
  | .local _ .vmem, ⟨12, _⟩ => ⟨S1024x512, .bf16⟩
  | .local _ .vmem, ⟨13, _⟩ => ⟨S1024x512, .bf16⟩
  | .local _ .vmem, ⟨14, _⟩ => ⟨S16x128x512, .f32⟩
  | .local _ .vmem, ⟨15, _⟩ => ⟨S16x128x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S2x8192x1024 : Shape := ⟨3, ![2, 8192, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x8x2x128x128 : Shape := ⟨5, ![1, 8, 2, 128, 128]⟩
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2048 : Shape := ⟨2, ![1024, 2048]⟩
abbrev S16384x2048 : Shape := ⟨2, ![16384, 2048]⟩
abbrev S16384x8x2x128 : Shape := ⟨4, ![16384, 8, 2, 128]⟩
abbrev S8x2x128x128 : Shape := ⟨4, ![8, 2, 128, 128]⟩
abbrev S8x2x128x16384 : Shape := ⟨4, ![8, 2, 128, 16384]⟩
abbrev S1024x16384 : Shape := ⟨2, ![1024, 16384]⟩
abbrev S16384x16x128 : Shape := ⟨3, ![16384, 16, 128]⟩
abbrev S16x128x16384 : Shape := ⟨3, ![16, 128, 16384]⟩

abbrev nBuf : Space → Nat
  | .hbm => 41
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024x2048, .f32⟩
  | .hbm, ⟨6, _⟩ => ⟨S1x8x2x128x128, .f32⟩
  | .hbm, ⟨7, _⟩ => ⟨S16384x512, .f32⟩
  | .hbm, ⟨8, _⟩ => ⟨S16384x512, .f32⟩
  | .hbm, ⟨9, _⟩ => ⟨S16384x1024, .f32⟩
  | .hbm, ⟨10, _⟩ => ⟨S16384x1024, .f32⟩
  | .hbm, ⟨11, _⟩ => ⟨S1024x1024, .f32⟩
  | .hbm, ⟨12, _⟩ => ⟨S16384x1024, .f32⟩
  | .hbm, ⟨13, _⟩ => ⟨S16384x1024, .f32⟩
  | .hbm, ⟨14, _⟩ => ⟨S1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S1024x2048, .f32⟩
  | .hbm, ⟨32, _⟩ => ⟨S16384x2048, .f32⟩
  | .hbm, ⟨33, _⟩ => ⟨S16384x8x2x128, .f32⟩
  | .hbm, ⟨34, _⟩ => ⟨S8x2x128x128, .f32⟩
  | .hbm, ⟨35, _⟩ => ⟨S8x2x128x16384, .f32⟩
  | .hbm, ⟨36, _⟩ => ⟨S16384x8x2x128, .f32⟩
  | .hbm, ⟨37, _⟩ => ⟨S1024x16384, .f32⟩
  | .hbm, ⟨38, _⟩ => ⟨S1024x16384, .bf16⟩
  | .hbm, ⟨39, _⟩ => ⟨S16384x16x128, .f32⟩
  | .hbm, ⟨40, _⟩ => ⟨S16x128x16384, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel5.lean ====
abbrev S2x4x2x8192x64 : Shape := ⟨5, ![2, 4, 2, 8192, 64]⟩
abbrev S2x4x8192x128 : Shape := ⟨4, ![2, 4, 8192, 128]⟩
abbrev S1x4x64 : Shape := ⟨3, ![1, 4, 64]⟩
abbrev S1x128 : Shape := ⟨2, ![1, 128]⟩
abbrev S4x2x8192x2x64 : Shape := ⟨5, ![4, 2, 8192, 2, 64]⟩
abbrev S4x16384x128 : Shape := ⟨3, ![4, 16384, 128]⟩
abbrev S_ : Shape := ⟨0, ![]⟩
abbrev S4x2x8192x128 : Shape := ⟨4, ![4, 2, 8192, 128]⟩
abbrev S12x16384x128 : Shape := ⟨3, ![12, 16384, 128]⟩
abbrev S4x64 : Shape := ⟨2, ![4, 64]⟩
abbrev S16384x512 : Shape := ⟨2, ![16384, 512]⟩
abbrev S1x256x128 : Shape := ⟨3, ![1, 256, 128]⟩
abbrev S1x8192x128 : Shape := ⟨3, ![1, 8192, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x64 : Shape := ⟨2, ![1, 64]⟩
abbrev S1 : Shape := ⟨1, ![1]⟩
abbrev S1x1 : Shape := ⟨2, ![1, 1]⟩

abbrev nBuf : Space → Nat
  | .hbm => 18
  | .vmem => 16
  | .smem => 0
  | _ => 0

abbrev bufTy : (tb : Table) → Fin (tcTables nBuf tb) → BufTy
  | .hbm, ⟨0, _⟩ => ⟨S2x4x2x8192x64, .f32⟩
  | .hbm, ⟨1, _⟩ => ⟨S2x4x2x8192x64, .f32⟩
  | .hbm, ⟨2, _⟩ => ⟨S2x4x8192x128, .f32⟩
  | .hbm, ⟨3, _⟩ => ⟨S1x4x64, .f32⟩
  | .hbm, ⟨4, _⟩ => ⟨S1x128, .f32⟩
  | .hbm, ⟨5, _⟩ => ⟨S4x2x8192x2x64, .f32⟩
  | .hbm, ⟨6, _⟩ => ⟨S4x16384x128, .f32⟩
  | .hbm, ⟨7, _⟩ => ⟨S_, .f32⟩
  | .hbm, ⟨8, _⟩ => ⟨S4x16384x128, .f32⟩
  | .hbm, ⟨9, _⟩ => ⟨S4x16384x128, .f32⟩
  | .hbm, ⟨10, _⟩ => ⟨S4x2x8192x2x64, .f32⟩
  | .hbm, ⟨11, _⟩ => ⟨S4x16384x128, .f32⟩
  | .hbm, ⟨12, _⟩ => ⟨S4x2x8192x128, .f32⟩
  | .hbm, ⟨13, _⟩ => ⟨S4x16384x128, .f32⟩
  | .hbm, ⟨14, _⟩ => ⟨S12x16384x128, .f32⟩
  | .hbm, ⟨15, _⟩ => ⟨S12x16384x128, .bf16⟩
  | .hbm, ⟨16, _⟩ => ⟨S4x64, .f32⟩
  | .hbm, ⟨17, _⟩ => ⟨S16384x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S4x64, .f32⟩
  | .local _ .vmem, ⟨7, _⟩ => ⟨S1x128, .f32⟩
  | .local _ .vmem, ⟨8, _⟩ => ⟨S256x128, .bf16⟩
  | .local _ .vmem, ⟨9, _⟩ => ⟨S256x128, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S2x4x2x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 32], ![false, false, false]⟩

def k0_mult1 (i : grid0.Coords) : BitVec 32 :=
  let arg2 : BitVec 32 := BitVec.ofNat 32 (i 2).val
  let c256_i32 : BitVec 32 := 256#32
  let v5 : BitVec 32 := Scalar.muli arg2 c256_i32
  v5
def k0_off1 (i : grid0.Coords) : Fin 3 → Nat :=
  let c0_2 : Index := 0#32
  let arg2 : BitVec 32 := BitVec.ofNat 32 (i 2).val
  let c256_i32 : BitVec 32 := 256#32
  let v5 : BitVec 32 := Scalar.muli arg2 c256_i32
  let v6 : BitVec 32 := v5
  let v7 : Index := Scalar.indexCast v6
  let c0_3 : Index := 0#32
  ![0, v7.toNat, 0]
@[reducible] def k0_t1_loop (i : grid0.Coords) : Scf.Loop 32 :=
  let c0_i32_41 : BitVec 32 := 0#32
  let arg2 : BitVec 32 := BitVec.ofNat 32 (i 2).val
  let v117 : BitVec 32 := Scalar.subi arg2 c0_i32_41
  let c1_i32_42 : BitVec 32 := 1#32
  let v119 : BitVec 32 := Scalar.divsi v117 c1_i32_42
  let v120 : BitVec 32 := Scalar.muli v119 c1_i32_42
  let v121 : BitVec 32 := Scalar.addi c0_i32_41 v120
  let c1_i32_43 : BitVec 32 := 1#32
  ⟨c0_i32_41, v121, c1_i32_43⟩
def k0_mult2 (i : grid0.Coords) (k0_t1 : Fin (k0_t1_loop i).trips) : BitVec 32 :=
  let c0_i32_41 : BitVec 32 := 0#32
  let c1_i32_43 : BitVec 32 := 1#32
  let arg15 : BitVec 32 := Scf.iv c0_i32_41 c1_i32_43 k0_t1
  let c256_i32_66 : BitVec 32 := 256#32
  let v165 : BitVec 32 := Scalar.muli arg15 c256_i32_66
  v165
def k0_off2 (i : grid0.Coords) (k0_t1 : Fin (k0_t1_loop i).trips) : Fin 3 → Nat :=
  let c0_67 : Index := 0#32
  let c0_i32_41 : BitVec 32 := 0#32
  let c1_i32_43 : BitVec 32 := 1#32
  let arg15 : BitVec 32 := Scf.iv c0_i32_41 c1_i32_43 k0_t1
  let c256_i32_66 : BitVec 32 := 256#32
  let v165 : BitVec 32 := Scalar.muli arg15 c256_i32_66
  let v166 : BitVec 32 := v165
  let v167 : Index := Scalar.indexCast v166
  let c0_68 : Index := 0#32
  ![0, v167.toNat, 0]
@[reducible] def k0_t2_loop (i : grid0.Coords) : Scf.Loop 32 :=
  let c0_i32_41 : BitVec 32 := 0#32
  let arg2 : BitVec 32 := BitVec.ofNat 32 (i 2).val
  let v117 : BitVec 32 := Scalar.subi arg2 c0_i32_41
  let c1_i32_42 : BitVec 32 := 1#32
  let v119 : BitVec 32 := Scalar.divsi v117 c1_i32_42
  let v120 : BitVec 32 := Scalar.muli v119 c1_i32_42
  let v121 : BitVec 32 := Scalar.addi c0_i32_41 v120
  let v118 : BitVec 32 := Scalar.addi c0_i32_41 v117
  let c1_i32_44 : BitVec 32 := 1#32
  ⟨v121, v118, c1_i32_44⟩
def k0_mult3 (i : grid0.Coords) (k0_t2 : Fin (k0_t2_loop i).trips) : BitVec 32 :=
  let c0_i32_41 : BitVec 32 := 0#32
  let arg2 : BitVec 32 := BitVec.ofNat 32 (i 2).val
  let v117 : BitVec 32 := Scalar.subi arg2 c0_i32_41
  let c1_i32_42 : BitVec 32 := 1#32
  let v119 : BitVec 32 := Scalar.divsi v117 c1_i32_42
  let v120 : BitVec 32 := Scalar.muli v119 c1_i32_42
  let v121 : BitVec 32 := Scalar.addi c0_i32_41 v120
  let c1_i32_44 : BitVec 32 := 1#32
  let arg15 : BitVec 32 := Scf.iv v121 c1_i32_44 k0_t2
  let c256_i32_66 : BitVec 32 := 256#32
  let v165 : BitVec 32 := Scalar.muli arg15 c256_i32_66
  v165
def k0_off3 (i : grid0.Coords) (k0_t2 : Fin (k0_t2_loop i).trips) : Fin 3 → Nat :=
  let c0_67 : Index := 0#32
  let c0_i32_41 : BitVec 32 := 0#32
  let arg2 : BitVec 32 := BitVec.ofNat 32 (i 2).val
  let v117 : BitVec 32 := Scalar.subi arg2 c0_i32_41
  let c1_i32_42 : BitVec 32 := 1#32
  let v119 : BitVec 32 := Scalar.divsi v117 c1_i32_42
  let v120 : BitVec 32 := Scalar.muli v119 c1_i32_42
  let v121 : BitVec 32 := Scalar.addi c0_i32_41 v120
  let c1_i32_44 : BitVec 32 := 1#32
  let arg15 : BitVec 32 := Scf.iv v121 c1_i32_44 k0_t2
  let c256_i32_66 : BitVec 32 := 256#32
  let v165 : BitVec 32 := Scalar.muli arg15 c256_i32_66
  let v166 : BitVec 32 := v165
  let v167 : Index := Scalar.indexCast v166
  let c0_68 : Index := 0#32
  ![0, v167.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![v0.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel5Ideal.lean ====
variable {F : FTy → Type} [FloatOps F] [Named F]
def κ : String → Option EReal := fun
  | "mask" => some ⊥
  | _ => none
-- ==== Reference5Ideal.lean ====
abbrev S2x4x2x8192x64 : Shape := ⟨5, ![2, 4, 2, 8192, 64]⟩
abbrev S2x4x8192x128 : Shape := ⟨4, ![2, 4, 8192, 128]⟩
abbrev S1x4x64 : Shape := ⟨3, ![1, 4, 64]⟩
abbrev S1x128 : Shape := ⟨2, ![1, 128]⟩
abbrev S4x64 : Shape := ⟨2, ![4, 64]⟩
abbrev S1x64 : Shape := ⟨2, ![1, 64]⟩
abbrev S64 : Shape := ⟨1, ![64]⟩
abbrev S_ : Shape := ⟨0, ![]⟩
abbrev S2x4x2x8192x8192 : Shape := ⟨5, ![2, 4, 2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x4x2x8192 : Shape := ⟨4, ![2, 4, 2, 8192]⟩
abbrev S2x4x2x8192x1 : Shape := ⟨5, ![2, 4, 2, 8192, 1]⟩
abbrev S2x4x1x8192x8192 : Shape := ⟨5, ![2, 4, 1, 8192, 8192]⟩
abbrev S2x4x8192x8192 : Shape := ⟨4, ![2, 4, 8192, 8192]⟩
abbrev S128 : Shape := ⟨1, ![128]⟩
abbrev S2x4x8192 : Shape := ⟨3, ![2, 4, 8192]⟩
abbrev S2x4x8192x1 : Shape := ⟨4, ![2, 4, 8192, 1]⟩
abbrev S1x1x1x128 : Shape := ⟨4, ![1, 1, 1, 128]⟩
abbrev S2x8192x4x128 : Shape := ⟨4, ![2, 8192, 4, 128]⟩
abbrev S16384x512 : Shape := ⟨2, ![16384, 512]⟩

abbrev nBuf : Space → Nat
  | .hbm => 122
  | .vmem => 0
  | .smem => 0
  | _ => 0

abbrev bufTy : (tb : Table) → Fin (tcTables nBuf tb) → BufTy
  | .hbm, ⟨0, _⟩ => ⟨S2x4x2x8192x64, .f32⟩
  | .hbm, ⟨1, _⟩ => ⟨S2x4x2x8192x64, .f32⟩
  | .hbm, ⟨2, _⟩ => ⟨S2x4x8192x128, .f32⟩
  | .hbm, ⟨3, _⟩ => ⟨S1x4x64, .f32⟩
  | .hbm, ⟨4, _⟩ => ⟨S1x128, .f32⟩
  | .hbm, ⟨5, _⟩ => ⟨S4x64, .f32⟩
  | .hbm, ⟨6, _⟩ => ⟨S1x64, .f32⟩
  | .hbm, ⟨7, _⟩ => ⟨S64, .f32⟩
  | .hbm, ⟨8, _⟩ => ⟨S1x64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2x4x2x8192x8192, .f32⟩
  | .hbm, ⟨26, _⟩ => ⟨S_, .f32⟩
  | .hbm, ⟨27, _⟩ => ⟨S2x4x2x8192x8192, .f32⟩
  | .hbm, ⟨28, _⟩ => ⟨S2x4x2x8192x8192, .f32⟩
  | .hbm, ⟨29, _⟩ => ⟨S8192, .i32⟩
  | .hbm, ⟨30, _⟩ => ⟨S8192, .i32⟩
  | .hbm, ⟨31, _⟩ => ⟨S1x8192, .i32⟩
  | .hbm, ⟨32, _⟩ => ⟨S_, .i32⟩
  | .hbm, ⟨33, _⟩ => ⟨S_, .i32⟩
  | .hbm, ⟨34, _⟩ => ⟨S1x8192, .i32⟩
  | .hbm, ⟨35, _⟩ => ⟨S1x8192, .i32⟩
  | .hbm, ⟨36, _⟩ => ⟨S1x8192, .i32⟩
  | .hbm, ⟨37, _⟩ => ⟨S_, .i32⟩
  | .hbm, ⟨38, _⟩ => ⟨S1x8192, .i32⟩
  | .hbm, ⟨39, _⟩ => ⟨S1x8192, .i1⟩
  | .hbm, ⟨40, _⟩ => ⟨S1x8192, .i32⟩
  | .hbm, ⟨41, _⟩ => ⟨S1x8192, .i32⟩
  | .hbm, ⟨42, _⟩ => ⟨S_, .i32⟩
  | .hbm, ⟨43, _⟩ => ⟨S1x8192, .i32⟩
  | .hbm, ⟨44, _⟩ => ⟨S1x8192, .i1⟩
  | .hbm, ⟨45, _⟩ => ⟨S1x8192, .i1⟩
  | .hbm, ⟨46, _⟩ => ⟨S_, .i32⟩
  | .hbm, ⟨47, _⟩ => ⟨S1x8192, .i32⟩
  | .hbm, ⟨48, _⟩ => ⟨S1x8192, .i32⟩
  | .hbm, ⟨49, _⟩ => ⟨S1x8192, .i32⟩
  | .hbm, ⟨50, _⟩ => ⟨S8192x1, .i32⟩
  | .hbm, ⟨51, _⟩ => ⟨S_, .i32⟩
  | .hbm, ⟨52, _⟩ => ⟨S_, .i32⟩
  | .hbm, ⟨53, _⟩ => ⟨S8192x1, .i32⟩
  | .hbm, ⟨54, _⟩ => ⟨S8192x1, .i32⟩
  | .hbm, ⟨55, _⟩ => ⟨S8192x1, .i32⟩
  | .hbm, ⟨56, _⟩ => ⟨S_, .i32⟩
  | .hbm, ⟨57, _⟩ => ⟨S8192x1, .i32⟩
  | .hbm, ⟨58, _⟩ => ⟨S8192x1, .i1⟩
  | .hbm, ⟨59, _⟩ => ⟨S8192x1, .i32⟩
  | .hbm, ⟨60, _⟩ => ⟨S8192x1, .i32⟩
  | .hbm, ⟨61, _⟩ => ⟨S_, .i32⟩
  | .hbm, ⟨62, _⟩ => ⟨S8192x1, .i32⟩
  | .hbm, ⟨63, _⟩ => ⟨S8192x1, .i1⟩
  | .hbm, ⟨64, _⟩ => ⟨S8192x1, .i1⟩
  | .hbm, ⟨65, _⟩ => ⟨S_, .i32⟩
  | .hbm, ⟨66, _⟩ => ⟨S8192x1, .i32⟩
  | .hbm, ⟨67, _⟩ => ⟨S8192x1, .i32⟩
  | .hbm, ⟨68, _⟩ => ⟨S8192x1, .i32⟩
  | .hbm, ⟨69, _⟩ => ⟨S8192x8192, .i32⟩
  | .hbm, ⟨70, _⟩ => ⟨S8192x8192, .i32⟩
  | .hbm, ⟨71, _⟩ => ⟨S8192x8192, .i1⟩
  | .hbm, ⟨72, _⟩ => ⟨S_, .f32⟩
  | .hbm, ⟨73, _⟩ => ⟨S_, .f32⟩
  | .hbm, ⟨74, _⟩ => ⟨S2x4x2x8192x8192, .i1⟩
  | .hbm, ⟨75, _⟩ => ⟨S2x4x2x8192x8192, .f32⟩
  | .hbm, ⟨76, _⟩ => ⟨S2x4x2x8192x8192, .f32⟩
  | .hbm, ⟨77, _⟩ => ⟨S_, .f32⟩
  | .hbm, ⟨78, _⟩ => ⟨S2x4x2x8192, .f32⟩
  | .hbm, ⟨79, _⟩ => ⟨S_, .f32⟩
  | .hbm, ⟨80, _⟩ => ⟨S2x4x2x8192, .f32⟩
  | .hbm, ⟨81, _⟩ => ⟨S2x4x2x8192, .f32⟩
  | .hbm, ⟨82, _⟩ => ⟨S2x4x2x8192x1, .f32⟩
  | .hbm, ⟨83, _⟩ => ⟨S2x4x2x8192x8192, .f32⟩
  | .hbm, ⟨84, _⟩ => ⟨S2x4x2x8192x8192, .f32⟩
  | .hbm, ⟨85, _⟩ => ⟨S2x4x2x8192x8192, .f32⟩
  | .hbm, ⟨86, _⟩ => ⟨S_, .f32⟩
  | .hbm, ⟨87, _⟩ => ⟨S2x4x2x8192, .f32⟩
  | .hbm, ⟨88, _⟩ => ⟨S2x4x2x8192x1, .f32⟩
  | .hbm, ⟨89, _⟩ => ⟨S2x4x2x8192x8192, .f32⟩
  | .hbm, ⟨90, _⟩ => ⟨S2x4x2x8192x8192, .f32⟩
  | .hbm, ⟨91, _⟩ => ⟨S2x4x1x8192x8192, .f32⟩
  | .hbm, ⟨92, _⟩ => ⟨S2x4x8192x8192, .f32⟩
  | .hbm, ⟨93, _⟩ => ⟨S2x4x1x8192x8192, .f32⟩
  | .hbm, ⟨94, _⟩ => ⟨S2x4x8192x8192, .f32⟩
  | .hbm, ⟨95, _⟩ => ⟨S2x4x8192x8192, .f32⟩
  | .hbm, ⟨96, _⟩ => ⟨S2x4x8192x8192, .f32⟩
  | .hbm, ⟨97, _⟩ => ⟨S2x4x8192x8192, .f32⟩
  | .hbm, ⟨98, _⟩ => ⟨S2x4x8192x128, .f32⟩
  | .hbm, ⟨99, _⟩ => ⟨S128, .f32⟩
  | .hbm, ⟨100, _⟩ => ⟨S2x4x8192x128, .f32⟩
  | .hbm, ⟨101, _⟩ => ⟨S_, .f32⟩
  | .hbm, ⟨102, _⟩ => ⟨S2x4x8192, .f32⟩
  | .hbm, ⟨103, _⟩ => ⟨S2x4x8192x1, .f32⟩
  | .hbm, ⟨104, _⟩ => ⟨S_, .f32⟩
  | .hbm, ⟨105, _⟩ => ⟨S2x4x8192x1, .f32⟩
  | .hbm, ⟨106, _⟩ => ⟨S2x4x8192x1, .f32⟩
  | .hbm, ⟨107, _⟩ => ⟨S_, .f32⟩
  | .hbm, ⟨108, _⟩ => ⟨S2x4x8192x1, .f32⟩
  | .hbm, ⟨109, _⟩ => ⟨S2x4x8192x1, .f32⟩
  | .hbm, ⟨110, _⟩ => ⟨S2x4x8192x1, .f32⟩
  | .hbm, ⟨111, _⟩ => ⟨S2x4x8192x128, .f32⟩
  | .hbm, ⟨112, _⟩ => ⟨S2x4x8192x128, .f32⟩
  | .hbm, ⟨113, _⟩ => ⟨S1x1x1x128, .f32⟩
  | .hbm, ⟨114, _⟩ => ⟨S2x4x8192x128, .f32⟩
  | .hbm, ⟨115, _⟩ => ⟨S2x4x8192x128, .f32⟩
  | .hbm, ⟨116, _⟩ => ⟨S_, .f32⟩
  | .hbm, ⟨117, _⟩ => ⟨S2x4x8192x128, .f32⟩
  | .hbm, ⟨118, _⟩ => ⟨S2x4x8192x128, .f32⟩
  | .hbm, ⟨119, _⟩ => ⟨S2x8192x4x128, .f32⟩
  | .hbm, ⟨120, _⟩ => ⟨S16384x512, .f32⟩
  | .hbm, ⟨121, _⟩ => ⟨S16384x512, .bf16⟩
  | _, _ => ⟨S2x4x2x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_c : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_v23 : Ref sig .tc := ⟨.hbm, 49, rfl⟩
abbrev main_v24 : Ref sig .tc := ⟨.hbm, 50, rfl⟩
abbrev main_c_3 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_c : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_0 : Ref sig .tc := ⟨.hbm, 65, rfl⟩
abbrev main_call1_v12 : Ref sig .tc := ⟨.hbm, 66, rfl⟩
abbrev main_call1_v13 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_4 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v29 : Ref sig .tc := ⟨.hbm, 76, rfl⟩
abbrev main_cst_5 : Ref sig .tc := ⟨.hbm, 77, rfl⟩
abbrev main_v30 : Ref sig .tc := ⟨.hbm, 78, rfl⟩
abbrev main_cst_6 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_cst_7 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_cst_8 : Ref sig .tc := ⟨.hbm, 101, rfl⟩
abbrev main_v51 : Ref sig .tc := ⟨.hbm, 102, rfl⟩
abbrev main_v52 : Ref sig .tc := ⟨.hbm, 103, rfl⟩
abbrev main_cst_9 : Ref sig .tc := ⟨.hbm, 104, rfl⟩
abbrev main_v53 : Ref sig .tc := ⟨.hbm, 105, rfl⟩
abbrev main_v54 : Ref sig .tc := ⟨.hbm, 106, rfl⟩
abbrev main_cst_10 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_cst_11 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩

abbrev nD : Nat := 1
abbrev τ : Topo := Topo.v7x

variable {F : FTy → Type} [FloatOps F]
-- ==== Kernel4.lean ====
abbrev S2x8192x1024 : Shape := ⟨3, ![2, 8192, 1024]⟩
abbrev S1x1024 : Shape := ⟨2, ![1, 1024]⟩
abbrev S1x1024x3072 : Shape := ⟨3, ![1, 1024, 3072]⟩
abbrev S1x2x64 : Shape := ⟨3, ![1, 2, 64]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S2x64 : Shape := ⟨2, ![2, 64]⟩
abbrev S1x2x1x64 : Shape := ⟨4, ![1, 2, 1, 64]⟩
abbrev S1x2x8x64 : Shape := ⟨4, ![1, 2, 8, 64]⟩
abbrev S2x512 : Shape := ⟨2, ![2, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S16384x1024 : Shape := ⟨2, ![16384, 1024]⟩
abbrev S1024 : Shape := ⟨1, ![1024]⟩
abbrev S1024x3072 : Shape := ⟨2, ![1024, 3072]⟩
abbrev S24x16384x128 : Shape := ⟨3, ![24, 16384, 128]⟩
abbrev S512x1024 : Shape := ⟨2, ![512, 1024]⟩
abbrev S512x128 : Shape := ⟨2, ![512, 128]⟩
abbrev S24x512x128 : Shape := ⟨3, ![24, 512, 128]⟩
abbrev S1024x512 : Shape := ⟨2, ![1024, 512]⟩
abbrev S1x512x128 : Shape := ⟨3, ![1, 512, 128]⟩

abbrev nBuf : Space → Nat
  | .hbm => 82
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x3072, .f32⟩
  | .hbm, ⟨3, _⟩ => ⟨S1x2x64, .f32⟩
  | .hbm, ⟨4, _⟩ => ⟨S8192, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S8192x1, .f32⟩
  | .hbm, ⟨22, _⟩ => ⟨S1x8, .f32⟩
  | .hbm, ⟨23, _⟩ => ⟨S8192x8, .f32⟩
  | .hbm, ⟨24, _⟩ => ⟨S8192x8, .f32⟩
  | .hbm, ⟨25, _⟩ => ⟨S8192x8, .f32⟩
  | .hbm, ⟨26, _⟩ => ⟨S8192x8, .f32⟩
  | .hbm, ⟨27, _⟩ => ⟨S8192x8, .f32⟩
  | .hbm, ⟨28, _⟩ => ⟨S_, .f32⟩
  | .hbm, ⟨29, _⟩ => ⟨S8192x48, .f32⟩
  | .hbm, ⟨30, _⟩ => ⟨S_, .f32⟩
  | .hbm, ⟨31, _⟩ => ⟨S8192x8, .f32⟩
  | .hbm, ⟨32, _⟩ => ⟨S_, .f32⟩
  | .hbm, ⟨33, _⟩ => ⟨S8192x48, .f32⟩
  | .hbm, ⟨34, _⟩ => ⟨S8192x64, .f32⟩
  | .hbm, ⟨35, _⟩ => ⟨S8192x8, .f32⟩
  | .hbm, ⟨36, _⟩ => ⟨S8192x64, .f32⟩
  | .hbm, ⟨37, _⟩ => ⟨S8192x64, .f32⟩
  | .hbm, ⟨38, _⟩ => ⟨S1x8192x1x64, .f32⟩
  | .hbm, ⟨39, _⟩ => ⟨S1x8192x2x64, .f32⟩
  | .hbm, ⟨40, _⟩ => ⟨S8192x128, .f32⟩
  | .hbm, ⟨41, _⟩ => ⟨S1x8192x1x64, .f32⟩
  | .hbm, ⟨42, _⟩ => ⟨S1x8192x2x64, .f32⟩
  | .hbm, ⟨43, _⟩ => ⟨S8192x128, .f32⟩
  | .hbm, ⟨44, _⟩ => ⟨S1x8192x1x64, .f32⟩
  | .hbm, ⟨45, _⟩ => ⟨S1x8192x2x64, .f32⟩
  | .hbm, ⟨46, _⟩ => ⟨S8192x128, .f32⟩
  | .hbm, ⟨47, _⟩ => ⟨S2x64, .f32⟩
  | .hbm, ⟨48, _⟩ => ⟨S1x2x1x64, .f32⟩
  | .hbm, ⟨49, _⟩ => ⟨S1x2x8x64, .f32⟩
  | .hbm, ⟨50, _⟩ => ⟨S2x512, .f32⟩
  | .hbm, ⟨51, _⟩ => ⟨S512, .i32⟩
  | .hbm, ⟨52, _⟩ => ⟨S_, .i32⟩
  | .hbm, ⟨53, _⟩ => ⟨S_, .i32⟩
  | .hbm, ⟨54, _⟩ => ⟨S512, .i32⟩
  | .hbm, ⟨55, _⟩ => ⟨S512, .i32⟩
  | .hbm, ⟨56, _⟩ => ⟨S512, .i32⟩
  | .hbm, ⟨57, _⟩ => ⟨S_, .i32⟩
  | .hbm, ⟨58, _⟩ => ⟨S512, .i32⟩
  | .hbm, ⟨59, _⟩ => ⟨S512, .i1⟩
  | .hbm, ⟨60, _⟩ => ⟨S512, .i32⟩
  | .hbm, ⟨61, _⟩ => ⟨S512, .i32⟩
  | .hbm, ⟨62, _⟩ => ⟨S_, .i32⟩
  | .hbm, ⟨63, _⟩ => ⟨S512, .i32⟩
  | .hbm, ⟨64, _⟩ => ⟨S512, .i1⟩
  | .hbm, ⟨65, _⟩ => ⟨S512, .i1⟩
  | .hbm, ⟨66, _⟩ => ⟨S_, .i32⟩
  | .hbm, ⟨67, _⟩ => ⟨S512, .i32⟩
  | .hbm, ⟨68, _⟩ => ⟨S512, .i32⟩
  | .hbm, ⟨69, _⟩ => ⟨S512, .i32⟩
  | .hbm, ⟨70, _⟩ => ⟨S512x1, .i32⟩
  | .hbm, ⟨71, _⟩ => ⟨S1x512, .i32⟩
  | .hbm, ⟨72, _⟩ => ⟨S512x512, .i32⟩
  | .hbm, ⟨73, _⟩ => ⟨S512x512, .i32⟩
  | .hbm, ⟨74, _⟩ => ⟨S512x512, .i1⟩
  | .hbm, ⟨75, _⟩ => ⟨S512x512, .bf16⟩
  | .hbm, ⟨76, _⟩ => ⟨S16384x1024, .f32⟩
  | .hbm, ⟨77, _⟩ => ⟨S1024, .f32⟩
  | .hbm, ⟨78, _⟩ => ⟨S1x1024, .f32⟩
  | .hbm, ⟨79, _⟩ => ⟨S1024x3072, .f32⟩
  | .hbm, ⟨80, _⟩ => ⟨S1024x3072, .bf16⟩
  | .hbm, ⟨81, _⟩ => ⟨S24x16384x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S2x512, .f32⟩
  | .local _ .vmem, ⟨5, _⟩ => ⟨S512x512, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S24x512x128, .bf16⟩
  | .local _ .vmem, ⟨13, _⟩ => ⟨S24x512x128, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_v8 : Ref sig .tc := ⟨.hbm, 61, rfl⟩
abbrev main_call0_c : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_c_0 : Ref sig .tc := ⟨.hbm, 66, rfl⟩
abbrev main_call0_v12 : Ref sig .tc := ⟨.hbm, 67, rfl⟩
abbrev main_call0_v13 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S24x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S2x8192x1024 : Shape := ⟨3, ![2, 8192, 1024]⟩
abbrev S1x1024 : Shape := ⟨2, ![1, 1024]⟩
abbrev S1x1024x3072 : Shape := ⟨3, ![1, 1024, 3072]⟩
abbrev S1x2x64 : Shape := ⟨3, ![1, 2, 64]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S1024x3072 : Shape := ⟨2, ![1024, 3072]⟩
abbrev S2x8192x3072 : Shape := ⟨3, ![2, 8192, 3072]⟩
abbrev S2x8192x512 : Shape := ⟨3, ![2, 8192, 512]⟩
abbrev S2x8192x8x64 : Shape := ⟨4, ![2, 8192, 8, 64]⟩
abbrev S1x1x64 : Shape := ⟨3, ![1, 1, 64]⟩
abbrev S64 : Shape := ⟨1, ![64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S2x8192x8x8 : Shape := ⟨4, ![2, 8192, 8, 8]⟩
abbrev S1x8192x1x8 : Shape := ⟨4, ![1, 8192, 1, 8]⟩
abbrev S2x8192x8x48 : Shape := ⟨4, ![2, 8192, 8, 48]⟩
abbrev S16384x24x128 : Shape := ⟨3, ![16384, 24, 128]⟩
abbrev S24x16384x128 : Shape := ⟨3, ![24, 16384, 128]⟩

abbrev nBuf : Space → Nat
  | .hbm => 141
  | .vmem => 0
  | .smem => 0
  | _ => 0

abbrev hbmTy0_0 (i : Nat) : BufTy := match i % 128 with
  | 0 => ⟨S2x8192x1024, .f32⟩
  | 1 => ⟨S1x1024, .f32⟩
  | 2 => ⟨S1x1024x3072, .f32⟩
  | 3 => ⟨S1x2x64, .f32⟩
  | 4 => ⟨S8192, .f32⟩
  | 5 => ⟨S8, .f32⟩
  | 6 => ⟨S_, .f32⟩
  | 7 => ⟨S8, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S8192x1, .f32⟩
  | 22 => ⟨S1x8, .f32⟩
  | 23 => ⟨S8192x8, .f32⟩
  | 24 => ⟨S8192x8, .f32⟩
  | 25 => ⟨S8192x8, .f32⟩
  | 26 => ⟨S8192x8, .f32⟩
  | 27 => ⟨S8192x8, .f32⟩
  | 28 => ⟨S8192x1x8, .f32⟩
  | 29 => ⟨S8192x1x8, .f32⟩
  | 30 => ⟨S1024, .f32⟩
  | 31 => ⟨S2x8192x1024, .f32⟩
  | 32 => ⟨S_, .f32⟩
  | 33 => ⟨S2x8192, .f32⟩
  | 34 => ⟨S2x8192x1, .f32⟩
  | 35 => ⟨S_, .f32⟩
  | 36 => ⟨S2x8192x1, .f32⟩
  | 37 => ⟨S2x8192x1, .f32⟩
  | 38 => ⟨S_, .f32⟩
  | 39 => ⟨S2x8192x1, .f32⟩
  | 40 => ⟨S2x8192x1, .f32⟩
  | 41 => ⟨S2x8192x1, .f32⟩
  | 42 => ⟨S2x8192x1024, .f32⟩
  | 43 => ⟨S2x8192x1024, .f32⟩
  | 44 => ⟨S1x1x1024, .f32⟩
  | 45 => ⟨S2x8192x1024, .f32⟩
  | 46 => ⟨S2x8192x1024, .f32⟩
  | 47 => ⟨S1024x3072, .f32⟩
  | 48 => ⟨S2x8192x3072, .f32⟩
  | 49 => ⟨S2x8192x512, .f32⟩
  | 50 => ⟨S2x8192x512, .f32⟩
  | 51 => ⟨S2x8192x512, .f32⟩
  | 52 => ⟨S2x8192x512, .f32⟩
  | 53 => ⟨S2x8192x512, .f32⟩
  | 54 => ⟨S2x8192x512, .f32⟩
  | 55 => ⟨S2x8192x8x64, .f32⟩
  | 56 => ⟨S2x8192x8x64, .f32⟩
  | 57 => ⟨S1x1x64, .f32⟩
  | 58 => ⟨S64, .f32⟩
  | 59 => ⟨S2x8192x8x64, .f32⟩
  | 60 => ⟨S_, .f32⟩
  | 61 => ⟨S2x8192x8, .f32⟩
  | 62 => ⟨S2x8192x8x1, .f32⟩
  | 63 => ⟨S_, .f32⟩
  | 64 => ⟨S2x8192x8x1, .f32⟩
  | 65 => ⟨S2x8192x8x1, .f32⟩
  | 66 => ⟨S_, .f32⟩
  | 67 => ⟨S2x8192x8x1, .f32⟩
  | 68 => ⟨S2x8192x8x1, .f32⟩
  | 69 => ⟨S2x8192x8x1, .f32⟩
  | 70 => ⟨S2x8192x8x64, .f32⟩
  | 71 => ⟨S2x8192x8x64, .f32⟩
  | 72 => ⟨S1x1x1x64, .f32⟩
  | 73 => ⟨S2x8192x8x64, .f32⟩
  | 74 => ⟨S2x8192x8x64, .f32⟩
  | 75 => ⟨S2x8192x8x8, .f32⟩
  | 76 => ⟨S2x8192x8x8, .f32⟩
  | 77 => ⟨S1x8192x1x8, .f32⟩
  | 78 => ⟨S2x8192x8x8, .f32⟩
  | 79 => ⟨S2x8192x8x8, .f32⟩
  | 80 => ⟨S1x8192x1x8, .f32⟩
  | 81 => ⟨S2x8192x8x8, .f32⟩
  | 82 => ⟨S2x8192x8x8, .f32⟩
  | 83 => ⟨S2x8192x8x8, .f32⟩
  | 84 => ⟨S1x8192x1x8, .f32⟩
  | 85 => ⟨S2x8192x8x8, .f32⟩
  | 86 => ⟨S2x8192x8x8, .f32⟩
  | 87 => ⟨S1x8192x1x8, .f32⟩
  | 88 => ⟨S2x8192x8x8, .f32⟩
  | 89 => ⟨S2x8192x8x8, .f32⟩
  | 90 => ⟨S2x8192x8x8, .f32⟩
  | 91 => ⟨S2x8192x8x48, .f32⟩
  | 92 => ⟨S2x8192x8x64, .f32⟩
  | 93 => ⟨S1x1x64, .f32⟩
  | 94 => ⟨S64, .f32⟩
  | 95 => ⟨S2x8192x8x64, .f32⟩
  | 96 => ⟨S_, .f32⟩
  | 97 => ⟨S2x8192x8, .f32⟩
  | 98 => ⟨S2x8192x8x1, .f32⟩
  | 99 => ⟨S_, .f32⟩
  | 100 => ⟨S2x8192x8x1, .f32⟩
  | 101 => ⟨S2x8192x8x1, .f32⟩
  | 102 => ⟨S_, .f32⟩
  | 103 => ⟨S2x8192x8x1, .f32⟩
  | 104 => ⟨S2x8192x8x1, .f32⟩
  | 105 => ⟨S2x8192x8x1, .f32⟩
  | 106 => ⟨S2x8192x8x64, .f32⟩
  | 107 => ⟨S2x8192x8x64, .f32⟩
  | 108 => ⟨S1x1x1x64, .f32⟩
  | 109 => ⟨S2x8192x8x64, .f32⟩
  | 110 => ⟨S2x8192x8x64, .f32⟩
  | 111 => ⟨S2x8192x8x8, .f32⟩
  | 112 => ⟨S2x8192x8x8, .f32⟩
  | 113 => ⟨S1x8192x1x8, .f32⟩
  | 114 => ⟨S2x8192x8x8, .f32⟩
  | 115 => ⟨S2x8192x8x8, .f32⟩
  | 116 => ⟨S1x8192x1x8, .f32⟩
  | 117 => ⟨S2x8192x8x8, .f32⟩
  | 118 => ⟨S2x8192x8x8, .f32⟩
  | 119 => ⟨S2x8192x8x8, .f32⟩
  | 120 => ⟨S1x8192x1x8, .f32⟩
  | 121 => ⟨S2x8192x8x8, .f32⟩
  | 122 => ⟨S2x8192x8x8, .f32⟩
  | 123 => ⟨S1x8192x1x8, .f32⟩
  | 124 => ⟨S2x8192x8x8, .f32⟩
  | 125 => ⟨S2x8192x8x8, .f32⟩
  | 126 => ⟨S2x8192x8x8, .f32⟩
  | 127 => ⟨S2x8192x8x48, .f32⟩
  | _ => ⟨S2x8192x1024, .f32⟩

abbrev hbmTy0_1 (i : Nat) : BufTy := match i % 128 with
  | 0 => ⟨S2x8192x8x64, .f32⟩
  | 1 => ⟨S_, .f32⟩
  | 2 => ⟨S2x8192x8x64, .f32⟩
  | 3 => ⟨S2x8192x8x64, .f32⟩
  | 4 => ⟨S2x8192x512, .f32⟩
  | 5 => ⟨S2x8192x512, .f32⟩
  | 6 => ⟨S_, .f32⟩
  | 7 => ⟨S2x8192x512, .f32⟩
  | 8 => ⟨S2x8192x512, .f32⟩
  | 9 => ⟨S2x8192x3072, .f32⟩
  | 10 => ⟨S16384x24x128, .f32⟩
  | 11 => ⟨S24x16384x128, .f32⟩
  | 12 => ⟨S24x16384x128, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_7 : Ref sig .tc := ⟨.hbm, 60, rfl⟩
abbrev main_v48 : Ref sig .tc := ⟨.hbm, 61, rfl⟩
abbrev main_v49 : Ref sig .tc := ⟨.hbm, 62, rfl⟩
abbrev main_cst_8 : Ref sig .tc := ⟨.hbm, 63, rfl⟩
abbrev main_v50 : Ref sig .tc := ⟨.hbm, 64, rfl⟩
abbrev main_v51 : Ref sig .tc := ⟨.hbm, 65, rfl⟩
abbrev main_cst_9 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_10 : Ref sig .tc := ⟨.hbm, 96, rfl⟩
abbrev main_v81 : Ref sig .tc := ⟨.hbm, 97, rfl⟩
abbrev main_v82 : Ref sig .tc := ⟨.hbm, 98, rfl⟩
abbrev main_cst_11 : Ref sig .tc := ⟨.hbm, 99, rfl⟩
abbrev main_v83 : Ref sig .tc := ⟨.hbm, 100, rfl⟩
abbrev main_v84 : Ref sig .tc := ⟨.hbm, 101, rfl⟩
abbrev main_cst_12 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_cst_13 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_cst_14 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩

abbrev nD : Nat := 1
abbrev τ : Topo := Topo.v7x

variable {F : FTy → Type} [FloatOps F]
-- ==== Proof.Trip.lean ====
/-
  One trip of the stick-breaking loop, and the whole body of a grid point, as functions of the blocks.
  A point holds four arrays between trips: for each of the two heads of the slab the running total of the
  softplus terms (`c0`, `c1`) and the running output (`a0`, `a1`). `St` bundles them, `first` is what the
  block on the diagonal leaves in them, `step` what one further block of keys does to them.
-/
module

public import proofs.«01_k».proof.Proof.Gen.KernelIdeal.Value
public import Idealize.ShloMosaic.Lib.Pipeline.ValueKit

@[expose] public section

set_option maxRecDepth 16384

noncomputable section

namespace Cert.Sb

open Cert.KernelIdeal Cert.KernelIdeal.Gen Idealize.ShloMosaic Idealize.ShloMosaic.TcCoe Idealize.SL.Sem

variable {F : FTy → Type} [FloatOps F]

/-- The four arrays a grid point carries from block to block. -/
@[ext] structure St (F : FTy → Type) [FloatOps F] where
  c0 : Vec F S256x128 .f32
  c1 : Vec F S256x128 .f32
  a0 : Vec F S256x128 .f32
  a1 : Vec F S256x128 .f32

/-- The offset of block `j` of the keys. -/
theorem inb_row (j : Fin 32) : ∀ a, (![0, 256 * j.val, 0] : Fin 3 → ℕ) a + S1x256x128.size a ≤ S1x8192x128.size a := by
  have := j.isLt
  intro a
  match a with
  | ⟨0, _⟩ => show 0 + 1 ≤ 1; omega
  | ⟨1, _⟩ => show 256 * j.val + 256 ≤ 8192; omega
  | ⟨2, _⟩ => show 0 + 128 ≤ 128; omega

/-- Rows `256 j … 256 j + 255` of the keys (or values) of a slab. -/
def rows (X : Vec F S1x8192x128 .bf16) (j : Fin 32) : Vec F S1x256x128 .bf16 :=
  View.ld X (Rect.unit (s := S1x8192x128) ![0, 256 * j.val, 0] S1x256x128.size (inb_row j))

/-- What the block on the diagonal leaves in the four arrays. -/
def first (x0 kb vb : Vec F S1x256x128 .bf16) : St F where
  c0 := k0_pay42 (k0_pay39 x0 kb)
  c1 := k0_pay1 (k0_pay46 (k0_pay31 x0) k0_pay32 k0_pay33 k0_pay34 (k0_pay35 kb) k0_pay37)
  a0 := k0_pay41 k0_pay34 (k0_pay36 vb) (k0_pay40 x0 kb)
  a1 := k0_pay45 (k0_pay31 x0) k0_pay32 k0_pay33 k0_pay34 (k0_pay35 kb) (k0_pay36 vb) k0_pay37

/-- What one further block of keys `kb` and values `vb` does to them. -/
def step (v1 : FVec F S256x128 .bf16) (v4 : IVec S256x128 1) (v11 : FVec F S256x256 .bf16)
    (kb vb : Vec F S1x256x128 .bf16) (s : St F) : St F where
  c0 := k0_pay11 (k0_pay8 s.c0) (k0_pay10 v1 v4 v11 kb)
  c1 := k0_pay16 v1 v4 v11 (k0_pay3 kb) k0_pay5 s.c1
  a0 := k0_pay9 v1 v4 v11 kb vb s.c0 s.a0
  a1 := k0_pay15 v1 v4 v11 (k0_pay3 kb) (k0_pay4 vb) k0_pay5 s.c1 s.a1

theorem hz2 : (![0, 0] : Fin 2 → ℕ) = fun _ => 0 := funext fun a => by fin_cases a <;> rfl
theorem hz3 : (![0, 0, 0] : Fin 3 → ℕ) = fun _ => 0 := funext fun a => by fin_cases a <;> rfl

/-- A whole-block store read back is what was stored. -/
theorem read_writes_whole {κ : Kind} {sp : Space} {e : EltTy} (v : View sig κ sp S256x128 e) (f : v.ty.Contents (Elt F))
    (inb : ∀ a, (![0, 0] : Fin 2 → ℕ) a + S256x128.size a ≤ S256x128.size a) (w : Vec F S256x128 e)
    (L : List (View.Piece (Elt F) S256x128 e)) :
    v.read (Elt F) (v.writes (Elt F) f (⟨Rect.unit ![0, 0] S256x128.size inb, w⟩ :: L)) = w := by
  rw [View.read_writes_eq_canon, View.canon_cons_unit_zero hz2]
  intro y
  exact ⟨_, List.mem_cons_self, View.mem_set_unit_zero hz2 inb y⟩

theorem trips_nat : ∀ n : Fin 32, Scf.trips (0#32) (Scalar.addi 0#32 (Scalar.muli (Scalar.divsi (Scalar.subi (BitVec.ofNat 32 n.val) 0#32) 1#32) 1#32)) 1#32 = n.val := by
  decide +kernel

theorem trips2_nat : ∀ n : Fin 32, Scf.trips (Scalar.addi 0#32 (Scalar.muli (Scalar.divsi (Scalar.subi (BitVec.ofNat 32 n.val) 0#32) 1#32) 1#32)) (Scalar.addi 0#32 (Scalar.subi (BitVec.ofNat 32 n.val) 0#32)) 1#32 = 0 := by
  decide +kernel

/-- Row block `i` is followed by `i` trips, -/
theorem trips_eq (i : grid0.Coords) : (k0_t1_loop i).trips = (i 2).val := trips_nat (i 2)
/-- and the loop for what the unrolling leaves over makes none. -/
theorem trips2_eq (i : grid0.Coords) : (k0_t2_loop i).trips = 0 := trips2_nat (i 2)

theorem off1_nat : ∀ n : Fin 32, (Scalar.muli (BitVec.ofNat 32 n.val) 256#32).toNat = 256 * n.val := by decide +kernel

theorem off2_nat : ∀ n k : Fin 32, k.val < n.val →
    (Scalar.muli (Scalar.subi (Scalar.subi (BitVec.ofNat 32 n.val) 1#32) (Scf.iv 0#32 1#32 k.val)) 256#32).toNat = 256 * (n.val - 1 - k.val) := by
  decide +kernel

/-- The first block read is the row block's own. -/
theorem off1_eq (i : grid0.Coords) : k0_off1 i = ![0, 256 * (i 2).val, 0] := by
  have h := off1_nat (i 2)
  unfold k0_off1
  dsimp only
  rw [← h]; rfl

/-- Trip `k` reads block `i - 1 - k`. -/
theorem off2_eq (i : grid0.Coords) (k : Fin (k0_t1_loop i).trips) : k0_off2 i k = ![0, 256 * ((i 2).val - 1 - k.val), 0] := by
  have hk : k.val < (i 2).val := lt_of_lt_of_eq k.isLt (trips_eq i)
  have h := off2_nat (i 2) ⟨k.val, hk.trans (i 2).isLt⟩ hk
  unfold k0_off2
  dsimp only
  rw [← h]; rfl

/-- Block `i - 1 - k`, the one trip `k` reads. -/
def prev (i : grid0.Coords) (k : ℕ) : Fin 32 := ⟨(i 2).val - 1 - k, by have h := (i 2).isLt; change (i 2).val < 32 at h; omega⟩

theorem ld_congr {X : Vec F S1x8192x128 .bf16} {o o' : Fin 3 → ℕ} (h : o = o') (inb : ∀ a, o a + S1x256x128.size a ≤ S1x8192x128.size a)
    (inb' : ∀ a, o' a + S1x256x128.size a ≤ S1x8192x128.size a) :
    View.ld X (Rect.unit (s := S1x8192x128) o S1x256x128.size inb) = View.ld X (Rect.unit (s := S1x8192x128) o' S1x256x128.size inb') := by
  subst h; rfl

theorem ld_off1 (i : grid0.Coords) (X : Vec F S1x8192x128 .bf16) :
    View.ld X (Rect.unit (s := S1x8192x128) (k0_off1 i) S1x256x128.size (k0_off1_inb i)) = rows X (i 2) :=
  ld_congr (off1_eq i) _ _

theorem ld_off2 (i : grid0.Coords) (k : Fin (k0_t1_loop i).trips) (X : Vec F S1x8192x128 .bf16) :
    View.ld X (Rect.unit (s := S1x8192x128) (k0_off2 i k) S1x256x128.size (k0_off2_inb i k)) = rows X (prev i k.val) :=
  ld_congr (off2_eq i k) _ _

/-- What trip `k` leaves in array `c0`. -/
theorem trip_c0 (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S256x128 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole)
  (arg2 : BitVec 32) (v1 : FVec F S256x128 .bf16) (v4 : IVec S256x128 1) (v11 : FVec F S256x256 .bf16)
  (X4 : BufTy.Contents (Elt F) arg4.view.ty) (X5 : BufTy.Contents (Elt F) arg5.view.ty) (k : Fin (k0_t1_loop i).trips)
  (f7 : BufTy.Contents (Elt F) arg7.view.ty) (f8 : BufTy.Contents (Elt F) arg8.view.ty) (f9 : BufTy.Contents (Elt F) arg9.view.ty) (f10 : BufTy.Contents (Elt F) arg10.view.ty) :
    arg7.view.read (Elt F) (arg7.view.writes (Elt F) f7 ((trip_k0_t1 (F := F) 𝒱 c bd i arg3 harg3 arg4 harg4 arg5 harg5 arg6 harg6 arg7 harg7 arg8 harg8 arg9 harg9 arg10 harg10 arg2 v1 v4 v11 X4 X5 k).1 f7 f8 f9 f10))
      = (step v1 v4 v11 (rows (arg4.view.read (Elt F) X4) (prev i k.val)) (rows (arg5.view.read (Elt F) X5) (prev i k.val))
          ⟨arg7.view.read (Elt F) f7, arg8.view.read (Elt F) f8, arg9.view.read (Elt F) f9, arg10.view.read (Elt F) f10⟩).c0 := by
  unfold trip_k0_t1
  dsimp only
  refine (read_writes_whole _ _ _ _ _).trans ?_
  sl_unfold_words
  rw [← ld_off2 i k, ← ld_off2 i k]
  unfold step
  dsimp only
  simp only [View.readAt_eq_ld, View.ld_unit_zero (S := S256x128) hz2]
  rfl

/-- What trip `k` leaves in array `c1`. -/
theorem trip_c1 (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S256x128 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole)
  (arg2 : BitVec 32) (v1 : FVec F S256x128 .bf16) (v4 : IVec S256x128 1) (v11 : FVec F S256x256 .bf16)
  (X4 : BufTy.Contents (Elt F) arg4.view.ty) (X5 : BufTy.Contents (Elt F) arg5.view.ty) (k : Fin (k0_t1_loop i).trips)
  (f7 : BufTy.Contents (Elt F) arg7.view.ty) (f8 : BufTy.Contents (Elt F) arg8.view.ty) (f9 : BufTy.Contents (Elt F) arg9.view.ty) (f10 : BufTy.Contents (Elt F) arg10.view.ty) :
    arg8.view.read (Elt F) (arg8.view.writes (Elt F) f8 ((trip_k0_t1 (F := F) 𝒱 c bd i arg3 harg3 arg4 harg4 arg5 harg5 arg6 harg6 arg7 harg7 arg8 harg8 arg9 harg9 arg10 harg10 arg2 v1 v4 v11 X4 X5 k).2.1 f7 f8 f9 f10))
      = (step v1 v4 v11 (rows (arg4.view.read (Elt F) X4) (prev i k.val)) (rows (arg5.view.read (Elt F) X5) (prev i k.val))
          ⟨arg7.view.read (Elt F) f7, arg8.view.read (Elt F) f8, arg9.view.read (Elt F) f9, arg10.view.read (Elt F) f10⟩).c1 := by
  unfold trip_k0_t1
  dsimp only
  refine (read_writes_whole _ _ _ _ _).trans ?_
  sl_unfold_words
  rw [← ld_off2 i k, ← ld_off2 i k]
  unfold step
  dsimp only
  simp only [View.readAt_eq_ld, View.ld_unit_zero (S := S256x128) hz2]
  rfl

/-- What trip `k` leaves in array `a0`. -/
theorem trip_a0 (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S256x128 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole)
  (arg2 : BitVec 32) (v1 : FVec F S256x128 .bf16) (v4 : IVec S256x128 1) (v11 : FVec F S256x256 .bf16)
  (X4 : BufTy.Contents (Elt F) arg4.view.ty) (X5 : BufTy.Contents (Elt F) arg5.view.ty) (k : Fin (k0_t1_loop i).trips)
  (f7 : BufTy.Contents (Elt F) arg7.view.ty) (f8 : BufTy.Contents (Elt F) arg8.view.ty) (f9 : BufTy.Contents (Elt F) arg9.view.ty) (f10 : BufTy.Contents (Elt F) arg10.view.ty) :
    arg9.view.read (Elt F) (arg9.view.writes (Elt F) f9 ((trip_k0_t1 (F := F) 𝒱 c bd i arg3 harg3 arg4 harg4 arg5 harg5 arg6 harg6 arg7 harg7 arg8 harg8 arg9 harg9 arg10 harg10 arg2 v1 v4 v11 X4 X5 k).2.2.1 f7 f8 f9 f10))
      = (step v1 v4 v11 (rows (arg4.view.read (Elt F) X4) (prev i k.val)) (rows (arg5.view.read (Elt F) X5) (prev i k.val))
          ⟨arg7.view.read (Elt F) f7, arg8.view.read (Elt F) f8, arg9.view.read (Elt F) f9, arg10.view.read (Elt F) f10⟩).a0 := by
  unfold trip_k0_t1
  dsimp only
  refine (read_writes_whole _ _ _ _ _).trans ?_
  sl_unfold_words
  rw [← ld_off2 i k, ← ld_off2 i k]
  unfold step
  dsimp only
  simp only [View.readAt_eq_ld, View.ld_unit_zero (S := S256x128) hz2]
  rfl

/-- What trip `k` leaves in array `a1`. -/
theorem trip_a1 (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S256x128 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole)
  (arg2 : BitVec 32) (v1 : FVec F S256x128 .bf16) (v4 : IVec S256x128 1) (v11 : FVec F S256x256 .bf16)
  (X4 : BufTy.Contents (Elt F) arg4.view.ty) (X5 : BufTy.Contents (Elt F) arg5.view.ty) (k : Fin (k0_t1_loop i).trips)
  (f7 : BufTy.Contents (Elt F) arg7.view.ty) (f8 : BufTy.Contents (Elt F) arg8.view.ty) (f9 : BufTy.Contents (Elt F) arg9.view.ty) (f10 : BufTy.Contents (Elt F) arg10.view.ty) :
    arg10.view.read (Elt F) (arg10.view.writes (Elt F) f10 ((trip_k0_t1 (F := F) 𝒱 c bd i arg3 harg3 arg4 harg4 arg5 harg5 arg6 harg6 arg7 harg7 arg8 harg8 arg9 harg9 arg10 harg10 arg2 v1 v4 v11 X4 X5 k).2.2.2.1 f7 f8 f9 f10))
      = (step v1 v4 v11 (rows (arg4.view.read (Elt F) X4) (prev i k.val)) (rows (arg5.view.read (Elt F) X5) (prev i k.val))
          ⟨arg7.view.read (Elt F) f7, arg8.view.read (Elt F) f8, arg9.view.read (Elt F) f9, arg10.view.read (Elt F) f10⟩).a1 := by
  unfold trip_k0_t1
  dsimp only
  refine (read_writes_whole _ _ _ _ _).trans ?_
  sl_unfold_words
  rw [← ld_off2 i k, ← ld_off2 i k]
  unfold step
  dsimp only
  simp only [View.readAt_eq_ld, View.ld_unit_zero (S := S256x128) hz2]
  rfl

/-- The four arrays after `n` trips from `s`. -/
def iter (v1 : FVec F S256x128 .bf16) (v4 : IVec S256x128 1) (v11 : FVec F S256x256 .bf16) (K V : Vec F S1x8192x128 .bf16)
    (i : grid0.Coords) (s : St F) : ℕ → St F
  | 0 => s
  | n + 1 => step v1 v4 v11 (rows K (prev i n)) (rows V (prev i n)) (iter v1 v4 v11 K V i s n)

/-- The loop leaves the iterated step: by induction on the trip. -/
theorem loop_eq (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S256x128 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole)
  (arg2 : BitVec 32) (v1 : FVec F S256x128 .bf16) (v4 : IVec S256x128 1) (v11 : FVec F S256x256 .bf16)
  (X4 : BufTy.Contents (Elt F) arg4.view.ty) (X5 : BufTy.Contents (Elt F) arg5.view.ty)
  (f7 : BufTy.Contents (Elt F) arg7.view.ty) (f8 : BufTy.Contents (Elt F) arg8.view.ty) (f9 : BufTy.Contents (Elt F) arg9.view.ty) (f10 : BufTy.Contents (Elt F) arg10.view.ty) :
    ∀ (n : ℕ) (hn : n ≤ (k0_t1_loop i).trips),
    (⟨arg7.view.read (Elt F) (arg7.view.writes (Elt F) f7 (pb_k0_t1 (F := F) 𝒱 c bd i arg3 harg3 arg4 harg4 arg5 harg5 arg6 harg6 arg7 harg7 arg8 harg8 arg9 harg9 arg10 harg10 arg2 v1 v4 v11 X4 X5 f7 f8 f9 f10 n).1),
      arg8.view.read (Elt F) (arg8.view.writes (Elt F) f8 (pb_k0_t1 (F := F) 𝒱 c bd i arg3 harg3 arg4 harg4 arg5 harg5 arg6 harg6 arg7 harg7 arg8 harg8 arg9 harg9 arg10 harg10 arg2 v1 v4 v11 X4 X5 f7 f8 f9 f10 n).2.1),
      arg9.view.read (Elt F) (arg9.view.writes (Elt F) f9 (pb_k0_t1 (F := F) 𝒱 c bd i arg3 harg3 arg4 harg4 arg5 harg5 arg6 harg6 arg7 harg7 arg8 harg8 arg9 harg9 arg10 harg10 arg2 v1 v4 v11 X4 X5 f7 f8 f9 f10 n).2.2.1),
      arg10.view.read (Elt F) (arg10.view.writes (Elt F) f10 (pb_k0_t1 (F := F) 𝒱 c bd i arg3 harg3 arg4 harg4 arg5 harg5 arg6 harg6 arg7 harg7 arg8 harg8 arg9 harg9 arg10 harg10 arg2 v1 v4 v11 X4 X5 f7 f8 f9 f10 n).2.2.2)⟩ : St F)
    = iter v1 v4 v11 (arg4.view.read (Elt F) X4) (arg5.view.read (Elt F) X5) i
        ⟨arg7.view.read (Elt F) f7, arg8.view.read (Elt F) f8, arg9.view.read (Elt F) f9, arg10.view.read (Elt F) f10⟩ n
  | 0, _ => rfl
  | n + 1, hn => by
    have ih := loop_eq 𝒱 c bd i arg3 harg3 arg4 harg4 arg5 harg5 arg6 harg6 arg7 harg7 arg8 harg8 arg9 harg9 arg10 harg10 arg2 v1 v4 v11 X4 X5 f7 f8 f9 f10 n (Nat.le_of_succ_le hn)
    rw [pb_k0_t1_succ (F := F) 𝒱 c bd i arg3 harg3 arg4 harg4 arg5 harg5 arg6 harg6 arg7 harg7 arg8 harg8 arg9 harg9 arg10 harg10 arg2 v1 v4 v11 X4 X5 f7 f8 f9 f10 ⟨n, hn⟩]
    dsimp only [tripL_k0_t1]
    simp only [View.writes_append]
    rw [trip_c0, trip_c1, trip_a0, trip_a1, ih]
    rfl

end Cert.Sb
-- ==== Proof.Body.lean ====
/-
  What one grid point of the stick-breaking kernel leaves in its block of the result: the last carried state's two
  accumulators, joined lane by lane. The state starts at the diagonal block of keys and takes one step for each earlier
  block.
-/
module

public import proofs.«01_k».proof.Proof.Trip

@[expose] public section

set_option maxRecDepth 16384

noncomputable section

namespace Cert.Sb

open Cert.KernelIdeal Cert.KernelIdeal.Gen Idealize.ShloMosaic Idealize.ShloMosaic.TcCoe Idealize.SL.Sem

variable {F : FTy → Type} [FloatOps F]

/-- The loop for what the unrolling leaves over stores nothing. -/
theorem pb2_nil (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S256x128 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole)
  (arg2 : BitVec 32) (v1 : FVec F S256x128 .bf16) (v4 : IVec S256x128 1) (v11 : FVec F S256x256 .bf16)
  (v88 : BitVec 32)
  (X4 : BufTy.Contents (Elt F) arg4.view.ty) (X5 : BufTy.Contents (Elt F) arg5.view.ty)
  (f7 : BufTy.Contents (Elt F) arg7.view.ty) (f8 : BufTy.Contents (Elt F) arg8.view.ty) (f9 : BufTy.Contents (Elt F) arg9.view.ty) (f10 : BufTy.Contents (Elt F) arg10.view.ty) :
    pb_k0_t2 (F := F) 𝒱 c bd i arg3 harg3 arg4 harg4 arg5 harg5 arg6 harg6 arg7 harg7 arg8 harg8 arg9 harg9 arg10 harg10 arg2 v1 v4 v11 v88 X4 X5 f7 f8 f9 f10 (k0_t2_loop i).trips = ([], [], [], []) := by
  rw [trips2_eq]; rfl

/-- What a grid point computes from its block `x0` of queries and the slab's keys `K` and values `V`. -/
def result (i : grid0.Coords) (x0 : Vec F S1x256x128 .bf16) (K V : Vec F S1x8192x128 .bf16) : Vec F S256x128 .bf16 :=
  k0_pay2 k0_pay32
    (iter (k0_pay31 x0) k0_pay32 k0_pay33 K V i (first x0 (rows K (i 2)) (rows V (i 2))) (i 2).val).a0
    (iter (k0_pay31 x0) k0_pay32 k0_pay33 K V i (first x0 (rows K (i 2)) (rows V (i 2))) (i 2).val).a1

/-- The grid point's block of the result is `result` of its blocks. -/
theorem out_eq (c : Dev nD) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S256x128 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole)
    (x0 : Vec F S1x256x128 .bf16) (x1 : Vec F S1x8192x128 .bf16) (x2 : Vec F S1x8192x128 .bf16) :
    out0_A_3 c i arg3 harg3 arg4 harg4 arg5 harg5 arg6 harg6 arg7 harg7 arg8 harg8 arg9 harg9 arg10 harg10 x0 x1 x2 = result i x0 x1 x2 := by
  unfold out0_A_3 kernelRun0_A
  dsimp only
  refine (read_writes_whole _ _ _ _ _).trans ?_
  unfold result
  congr 1
  · sl_unfold_words
    rw [pb2_nil]
    unfold View.readCov
    simp only [View.readAt_eq_ld, View.ld_unit_zero (S := S256x128) hz2, List.nil_append, View.writes_append]
    refine (congrArg St.a0 (loop_eq Variants.none c none i arg3 harg3 arg4 harg4 arg5 harg5 arg6 harg6 arg7 harg7 arg8 harg8 arg9 harg9
      arg10 harg10 _ _ _ _ _ _ _ _ _ _ (k0_t1_loop i).trips le_rfl)).trans ?_
    rw [trips_eq]
    simp only [harg3.read_unread, harg4.read_unread, harg5.read_unread, View.ld_unit_zero (S := S1x256x128) hz3]
    rw [← ld_off1 i, ← ld_off1 i]
    refine congrArg (fun s : St F => (iter (k0_pay31 x0) k0_pay32 k0_pay33 x1 x2 i s (i 2).val).a0) ?_
    apply St.ext <;> exact read_writes_whole _ _ _ _ _
  · sl_unfold_words
    rw [pb2_nil]
    unfold View.readCov
    simp only [View.readAt_eq_ld, View.ld_unit_zero (S := S256x128) hz2, List.nil_append, View.writes_append]
    refine (congrArg St.a1 (loop_eq Variants.none c none i arg3 harg3 arg4 harg4 arg5 harg5 arg6 harg6 arg7 harg7 arg8 harg8 arg9 harg9
      arg10 harg10 _ _ _ _ _ _ _ _ _ _ (k0_t1_loop i).trips le_rfl)).trans ?_
    rw [trips_eq]
    simp only [harg3.read_unread, harg4.read_unread, harg5.read_unread, View.ld_unit_zero (S := S1x256x128) hz3]
    rw [← ld_off1 i, ← ld_off1 i]
    refine congrArg (fun s : St F => (iter (k0_pay31 x0) k0_pay32 k0_pay33 x1 x2 i s (i 2).val).a1) ?_
    apply St.ext <;> exact read_writes_whole _ _ _ _ _

end Cert.Sb
-- ==== Proof.Softplus.lean ====
/-
  The softplus of an extended real, in the form a stable evaluation writes it, and the facts about it that the
  stick-breaking weights need: it is never negative, and the weight of a key may be written either way round.
-/
module

public import Idealize.ShloMosaic.PureOps.Ideal

@[expose] public section

noncomputable section

namespace Cert.Sb

open Idealize.ShloMosaic

/-- `log (1 + e ^ z)`, written so that no exponential grows. -/
def sp (z : EReal) : EReal := max z 0 + Ideal.log (1 + Ideal.exp (0 - max z (-z)))

/-- The softplus of a real number. -/
def spr (r : ℝ) : ℝ := max r 0 + Real.log (1 + Real.exp (-max r (-r)))

theorem spr_nonneg (r : ℝ) : 0 ≤ spr r := by
  have h1 : 0 ≤ Real.log (1 + Real.exp (-max r (-r))) := Real.log_nonneg (by linarith [Real.exp_pos (-max r (-r))])
  have h2 : 0 ≤ max r 0 := le_max_right _ _
  unfold spr; linarith

theorem spr_sub (r : ℝ) : spr r - spr (-r) = r := by
  unfold spr
  rw [neg_neg, max_comm (-r) r]
  rcases le_total r 0 with h | h
  · rw [max_eq_right h, max_eq_left (by linarith : (0 : ℝ) ≤ -r)]; ring
  · rw [max_eq_left h, max_eq_right (by linarith : -r ≤ (0 : ℝ))]; ring

theorem sp_coe (r : ℝ) : sp (r : EReal) = (spr r : EReal) := by
  have hm : max (r : EReal) (-(r : EReal)) = ((max r (-r) : ℝ) : EReal) := by
    rw [← EReal.coe_neg]; exact (EReal.coe_strictMono.monotone.map_max).symm
  have h0 : max (r : EReal) 0 = ((max r 0 : ℝ) : EReal) := by
    rw [← EReal.coe_zero]; exact (EReal.coe_strictMono.monotone.map_max).symm
  have hp : 0 < 1 + Real.exp (-max r (-r)) := by positivity
  unfold sp spr
  rw [hm, h0, zero_sub, ← EReal.coe_neg, Ideal.exp_coe, ← EReal.coe_one, ← EReal.coe_add, Ideal.log_coe, if_neg (not_le.mpr hp),
    ← EReal.coe_add]

theorem sp_top : sp ⊤ = ⊤ := by
  unfold sp
  rw [EReal.neg_top, max_eq_left bot_le, max_eq_left le_top, zero_sub, EReal.neg_top, Ideal.exp_bot, add_zero, ← EReal.coe_one,
    Ideal.log_coe, if_neg (by norm_num), Real.log_one]
  rfl

theorem sp_bot : sp ⊥ = 0 := by
  unfold sp
  rw [EReal.neg_bot, max_eq_right bot_le, max_eq_right bot_le, zero_sub, EReal.neg_top, Ideal.exp_bot, add_zero, ← EReal.coe_one,
    Ideal.log_coe, if_neg (by norm_num), Real.log_one]
  simp

theorem sp_nonneg (z : EReal) : 0 ≤ sp z := by
  induction z with
  | bot => rw [sp_bot]
  | top => rw [sp_top]; exact le_top
  | coe r => rw [sp_coe]; exact_mod_cast spr_nonneg r

/-- The weight of a key whose score is `z`, the later keys' softplus terms adding up to `R`. -/
theorem weight (z R : EReal) (hR : 0 ≤ R) :
    Ideal.exp (z - (sp z + R)) = Ideal.exp (-(sp (-z)) + (-(sp z + R) - -(sp z))) := by
  congr 1
  induction z with
  | bot => rw [EReal.neg_bot, sp_top, EReal.neg_top, EReal.bot_add, EReal.bot_sub]
  | top =>
    have h : (⊤ : EReal) + R = ⊤ := EReal.top_add_of_ne_bot (by rintro rfl; simp at hR)
    rw [sp_top, h, EReal.neg_top, sub_eq_add_neg]
    simp
  | coe r =>
    rw [← EReal.coe_neg, sp_coe, sp_coe]
    induction R with
    | bot => simp at hR
    | top => simp
    | coe s =>
      norm_cast
      have := spr_sub r
      linarith

/-- Two nonnegative numbers are taken away one after the other or at once. -/
theorem sub_sub_nonneg (x a b : EReal) (ha : 0 ≤ a) (hb : 0 ≤ b) : x - a - b = x - (b + a) := by
  have ha' : a ≠ ⊥ := by rintro rfl; simp at ha
  have hb' : b ≠ ⊥ := by rintro rfl; simp at hb
  rw [sub_eq_add_neg, sub_eq_add_neg, sub_eq_add_neg, EReal.neg_add (Or.inl hb') (Or.inr ha'), add_assoc,
    sub_eq_add_neg, add_comm (-a)]

theorem sum_neg {ι : Type*} (s : Finset ι) (f : ι → EReal) (h : ∀ i ∈ s, 0 ≤ f i) : ∑ i ∈ s, -f i = -∑ i ∈ s, f i := by
  classical
  induction s using Finset.induction_on with
  | empty => simp
  | insert a s ha ih =>
    have h1 : f a ≠ ⊥ := by intro e; have := h a (Finset.mem_insert_self _ _); simp [e] at this
    have h2 : (0 : EReal) ≤ ∑ i ∈ s, f i := Finset.sum_nonneg fun i hi => h i (Finset.mem_insert_of_mem hi)
    have h2' : ∑ i ∈ s, f i ≠ ⊥ := by intro e; simp [e] at h2
    rw [Finset.sum_insert ha, Finset.sum_insert ha, ih fun i hi => h i (Finset.mem_insert_of_mem hi),
      EReal.neg_add (Or.inl h1) (Or.inr h2'), sub_eq_add_neg]

/-- The softplus terms of the keys `a … p - 1`, added up. -/
def total (Z : ℕ → EReal) (a p : ℕ) : EReal := ∑ k ∈ Finset.Ico a p, sp (Z k)

/-- The output of the keys `a … p - 1` for the query at `p`: each value by its weight. -/
def output (Z W : ℕ → EReal) (a p : ℕ) : EReal := ∑ k ∈ Finset.Ico a p, Ideal.exp (Z k - total Z k p) * W k

theorem total_nonneg (Z : ℕ → EReal) (a p : ℕ) : 0 ≤ total Z a p := Finset.sum_nonneg fun _ _ => sp_nonneg _

/-- A sum over the places of a block, as a sum over the keys of the block. -/
theorem sum_block (f : ℕ → EReal) (a n : ℕ) : ∑ t : Fin n, f (a + t.val) = ∑ k ∈ Finset.Ico a (a + n), f k := by
  rw [Finset.sum_Ico_eq_sum_range, Fin.sum_univ_eq_sum_range (fun t => f (a + t)) n, Nat.add_sub_cancel_left]

/-- The first `r` places of a block. -/
theorem sum_block_lt (f : ℕ → EReal) (a r n : ℕ) (h : r ≤ n) :
    ∑ t : Fin n, (if t.val < r then f (a + t.val) else 0) = ∑ k ∈ Finset.Ico a (a + r), f k := by
  rw [Fin.sum_univ_eq_sum_range (fun t => if t < r then f (a + t) else 0) n, ← Finset.sum_filter, Finset.sum_Ico_eq_sum_range,
    Nat.add_sub_cancel_left]
  refine Finset.sum_congr ?_ fun _ _ => rfl
  ext x; simp only [Finset.mem_filter, Finset.mem_range]; omega

/-- From place `t` on, below place `r`. -/
theorem sum_block_from (f : ℕ → EReal) (a t r n : ℕ) (h : r ≤ n) :
    ∑ x : Fin n, (if x.val < r then f (a + x.val) else 0) * (if t ≤ x.val then 1 else 0) = ∑ k ∈ Finset.Ico (a + t) (a + r), f k := by
  have e : ∀ x : ℕ, (if x < r then f (a + x) else 0) * (if t ≤ x then (1 : EReal) else 0) = if t ≤ x ∧ x < r then f (a + x) else 0 := by
    intro x
    by_cases h1 : x < r <;> by_cases h2 : t ≤ x <;> simp [h1, h2]
  rw [Fin.sum_univ_eq_sum_range (fun x => (if x < r then f (a + x) else 0) * (if t ≤ x then (1 : EReal) else 0)) n,
    Finset.sum_congr rfl fun x _ => e x, ← Finset.sum_filter, Finset.sum_Ico_eq_sum_range]
  refine Finset.sum_bij (fun x _ => x - t) ?_ ?_ ?_ ?_
  · intro x hx; simp only [Finset.mem_filter, Finset.mem_range] at hx ⊢; omega
  · intro x hx y hy hxy; simp only [Finset.mem_filter, Finset.mem_range] at hx hy; omega
  · intro y hy; simp only [Finset.mem_range] at hy
    exact ⟨t + y, by simp only [Finset.mem_filter, Finset.mem_range]; omega, by omega⟩
  · intro x hx; simp only [Finset.mem_filter, Finset.mem_range] at hx
    congr 1; omega

/-- The places of a whole block, from place `t` on. -/
theorem sum_block_all (f : ℕ → EReal) (a t n : ℕ) :
    ∑ x : Fin n, f (a + x.val) * (if t ≤ x.val then 1 else 0) = ∑ k ∈ Finset.Ico (a + t) (a + n), f k := by
  rw [← sum_block_from f a t n n le_rfl]
  exact Finset.sum_congr rfl fun x _ => by rw [if_pos x.isLt]

theorem total_add (Z : ℕ → EReal) {a b p : ℕ} (h1 : a ≤ b) (h2 : b ≤ p) : total Z a b + total Z b p = total Z a p :=
  Finset.sum_Ico_consecutive _ h1 h2

theorem output_add (Z W : ℕ → EReal) {a b p : ℕ} (h1 : a ≤ b) (h2 : b ≤ p) :
    output Z W b p + ∑ k ∈ Finset.Ico a b, Ideal.exp (Z k - total Z k b - total Z b p) * W k = output Z W a p := by
  have e : ∑ k ∈ Finset.Ico a b, Ideal.exp (Z k - total Z k b - total Z b p) * W k
      = ∑ k ∈ Finset.Ico a b, Ideal.exp (Z k - total Z k p) * W k := by
    refine Finset.sum_congr rfl fun k hk => ?_
    have hk' := Finset.mem_Ico.mp hk
    rw [sub_sub_nonneg _ _ _ (total_nonneg _ _ _) (total_nonneg _ _ _), add_comm (total Z b p), total_add Z (by omega) h2]
  rw [e, add_comm]
  exact Finset.sum_Ico_consecutive _ h1 h2

end Cert.Sb
-- ==== Proof.Block.lean ====
/-
  The block on the diagonal and one further block of keys, read at an entry. `Z` is the row of scores of one query
  against all keys of one head, `W` one column of the values; a block holds the keys `a … a + 255`.
-/
module

public import proofs.«01_k».proof.Proof.Body
public import proofs.«01_k».proof.Proof.Softplus
public import Idealize.ShloMosaic.Lib.Pointwise
public import Idealize.ShloMosaic.Lib.Tactic.WordOmega

@[expose] public section

set_option maxRecDepth 16384

noncomputable section

namespace Cert.Sb

open Cert.KernelIdeal Cert.KernelIdeal.Gen Idealize.ShloMosaic Idealize.ShloMosaic.TcCoe Idealize.SL.Sem

/-- The lanes of the first head of a slab are the first 64. -/
theorem pay32_apply (r : Fin 256) (l : Fin 128) : k0_pay32 (ix2 r l) = BitVec.ofBool (decide (l.val < 64)) := by
  pointwise [k0_pay32]
  have := l.isLt
  word_omega

theorem pay33_apply (s t : Fin 256) : (k0_pay33 (F := Ideal)) (ix2 s t) = if t.val ≤ s.val then 1 else 0 := by
  pointwise [k0_pay33]
  have := s.isLt
  have := t.isLt
  have : IntOp.cmpi .sge (BitVec.ofNat 32 ↑s) (BitVec.ofNat 32 ↑t) = BitVec.ofBool (decide (t.val ≤ s.val)) := by
    word_omega
  rw [this]
  by_cases h : t.val ≤ s.val <;> simp [h, Scalar.select]

theorem pay34_apply (r t : Fin 256) : k0_pay34 (ix2 r t) = BitVec.ofBool (decide (t.val < r.val)) := by
  pointwise [k0_pay34]
  have := r.isLt
  have := t.isLt
  word_omega

/-- Lane `d` of head `e` of a slab. -/
def lane (e : Fin 2) (d : Fin 64) : Fin 128 := ⟨64 * e.val + d.val, by have := e.isLt; have := d.isLt; omega⟩

theorem select_ofBool {α : Type} (p : Prop) [Decidable p] (x y : α) : Scalar.select (BitVec.ofBool (decide p)) x y = if p then x else y := by
  by_cases h : p <;> simp [h, Scalar.select]

theorem head0 (x : Fin 256) (f : Fin 128 → EReal) : ∑ l, Scalar.select (k0_pay32 (ix2 x l)) (f l) 0 = ∑ d, f (lane 0 d) := by
  rw [Fin.sum_univ_two_halves 64 64 rfl]
  have h2 : ∑ k : Fin 64, Scalar.select (k0_pay32 (ix2 x ⟨64 + k.val, by have := k.isLt; omega⟩)) (f ⟨64 + k.val, by have := k.isLt; omega⟩) 0 = 0 :=
    Finset.sum_eq_zero fun k _ => by rw [pay32_apply, select_ofBool, if_neg (by show ¬ (64 + k.val < 64); omega)]
  rw [h2, add_zero]
  refine Finset.sum_congr rfl fun k _ => ?_
  rw [pay32_apply, select_ofBool, if_pos (by show k.val < 64; exact k.isLt)]
  congr 1; exact Fin.ext (by show k.val = 64 * 0 + k.val; omega)

theorem head1 (x : Fin 256) (f : Fin 128 → EReal) : ∑ l, Scalar.select (k0_pay32 (ix2 x l)) 0 (f l) = ∑ d, f (lane 1 d) := by
  rw [Fin.sum_univ_two_halves 64 64 rfl]
  have h2 : ∑ k : Fin 64, Scalar.select (k0_pay32 (ix2 x ⟨k.val, by have := k.isLt; omega⟩)) 0 (f ⟨k.val, by have := k.isLt; omega⟩) = 0 :=
    Finset.sum_eq_zero fun k _ => by rw [pay32_apply, select_ofBool, if_pos (by show k.val < 64; exact k.isLt)]
  rw [h2, zero_add]
  refine Finset.sum_congr rfl fun k _ => ?_
  rw [pay32_apply, select_ofBool, if_neg (by show ¬ (64 + k.val < 64); omega)]
  congr 1

section
variable (Z W : ℕ → EReal) (a : ℕ) (r : Fin 256) (l : Fin 128)

theorem first_c0 (x0 kb vb : Vec Ideal S1x256x128 .bf16)
    (hz : ∀ t : Fin 256, ∑ d, x0 (ix3 0 r (lane 0 d)) * kb (ix3 0 t (lane 0 d)) = Z (a + t.val)) :
    (first x0 kb vb).c0 (ix2 r l) = total Z a (a + r.val) := by
  unfold first
  dsimp only
  pointwise [k0_pay42, k0_pay39, k0_pay40, k0_pay38, k0_pay37, k0_pay36, k0_pay35, k0_pay31]
  refine Eq.trans (Finset.sum_congr rfl fun x _ => ?_) (sum_block_from (fun k => sp (Z k)) a 0 r.val 256 (by omega))
  rw [pay34_apply, pay33_apply, head0 x (fun l => x0 (ix3 0 r l) * kb (ix3 0 x l)), hz x, select_ofBool]
  by_cases h : x.val < r.val
  · rw [if_pos h, if_pos h]; rfl
  · rw [if_neg h, if_neg h, zero_mul]

theorem first_a0 (x0 kb vb : Vec Ideal S1x256x128 .bf16)
    (hz : ∀ t : Fin 256, ∑ d, x0 (ix3 0 r (lane 0 d)) * kb (ix3 0 t (lane 0 d)) = Z (a + t.val))
    (hw : ∀ t : Fin 256, vb (ix3 0 t l) = W (a + t.val)) :
    (first x0 kb vb).a0 (ix2 r l) = output Z W a (a + r.val) := by
  unfold first
  dsimp only
  pointwise [k0_pay41, k0_pay39, k0_pay40, k0_pay38, k0_pay37, k0_pay36, k0_pay35, k0_pay31]
  refine Eq.trans (Finset.sum_congr rfl fun x _ => ?_)
    (sum_block_lt (fun k => Ideal.exp (Z k - total Z k (a + r.val)) * W k) a r.val 256 (by omega))
  rw [pay34_apply, head0 x (fun l => x0 (ix3 0 r l) * kb (ix3 0 x l)), hz x, hw x, select_ofBool]
  refine if_congr Iff.rfl ?_ rfl
  refine congrArg (fun y => Ideal.exp (Z (a + x.val) - y) * W (a + x.val)) ?_
  refine Eq.trans (Finset.sum_congr rfl fun y _ => ?_) (sum_block_from (fun k => sp (Z k)) a x.val r.val 256 (by omega))
  rw [pay34_apply, pay33_apply, head0 y (fun l => x0 (ix3 0 r l) * kb (ix3 0 y l)), hz y, select_ofBool]
  by_cases h : y.val < r.val
  · rw [if_pos h, if_pos h]; rfl
  · rw [if_neg h, if_neg h, zero_mul]

theorem first_c1 (x0 kb vb : Vec Ideal S1x256x128 .bf16)
    (hz : ∀ t : Fin 256, ∑ d, x0 (ix3 0 r (lane 1 d)) * kb (ix3 0 t (lane 1 d)) = Z (a + t.val)) :
    (first x0 kb vb).c1 (ix2 r l) = total Z a (a + r.val) := by
  unfold first
  dsimp only
  pointwise [k0_pay1, k0_pay46, k0_pay45, k0_pay44, k0_pay43, k0_pay37, k0_pay36, k0_pay35, k0_pay31]
  refine Eq.trans (Finset.sum_congr rfl fun x _ => ?_) (sum_block_from (fun k => sp (Z k)) a 0 r.val 256 (by omega))
  rw [pay34_apply, pay33_apply, head1 x (fun l => x0 (ix3 0 r l) * kb (ix3 0 x l)), hz x, select_ofBool]
  by_cases h : x.val < r.val
  · rw [if_pos h, if_pos h]; rfl
  · rw [if_neg h, if_neg h, zero_mul]

theorem first_a1 (x0 kb vb : Vec Ideal S1x256x128 .bf16)
    (hz : ∀ t : Fin 256, ∑ d, x0 (ix3 0 r (lane 1 d)) * kb (ix3 0 t (lane 1 d)) = Z (a + t.val))
    (hw : ∀ t : Fin 256, vb (ix3 0 t l) = W (a + t.val)) :
    (first x0 kb vb).a1 (ix2 r l) = output Z W a (a + r.val) := by
  unfold first
  dsimp only
  pointwise [k0_pay1, k0_pay46, k0_pay45, k0_pay44, k0_pay43, k0_pay37, k0_pay36, k0_pay35, k0_pay31]
  refine Eq.trans (Finset.sum_congr rfl fun x _ => ?_)
    (sum_block_lt (fun k => Ideal.exp (Z k - total Z k (a + r.val)) * W k) a r.val 256 (by omega))
  rw [pay34_apply, head1 x (fun l => x0 (ix3 0 r l) * kb (ix3 0 x l)), hz x, hw x, select_ofBool]
  refine if_congr Iff.rfl ?_ rfl
  refine congrArg (fun y => Ideal.exp (Z (a + x.val) - y) * W (a + x.val)) ?_
  refine Eq.trans (Finset.sum_congr rfl fun y _ => ?_) (sum_block_from (fun k => sp (Z k)) a x.val r.val 256 (by omega))
  rw [pay34_apply, pay33_apply, head1 y (fun l => x0 (ix3 0 r l) * kb (ix3 0 y l)), hz y, select_ofBool]
  by_cases h : y.val < r.val
  · rw [if_pos h, if_pos h]; rfl
  · rw [if_neg h, if_neg h, zero_mul]

variable (p : ℕ) (hp : a + 256 ≤ p)
include hp

theorem step_c0 (v1 : FVec Ideal S256x128 .bf16) (kb vb : Vec Ideal S1x256x128 .bf16) (s : St Ideal)
    (hz : ∀ t : Fin 256, ∑ d, v1 (ix2 r (lane 0 d)) * kb (ix3 0 t (lane 0 d)) = Z (a + t.val))
    (hc : s.c0 (ix2 r 0) = total Z (a + 256) p) :
    (step v1 k0_pay32 k0_pay33 kb vb s).c0 (ix2 r l) = total Z a p := by
  unfold step
  dsimp only
  pointwise [k0_pay11, k0_pay8, k0_pay10, k0_pay7, k0_pay6, k0_pay3, k0_pay5]
  rw [hc, add_comm]
  refine Eq.trans (congrArg (· + total Z (a + 256) p) ?_) (total_add Z (Nat.le_add_right a 256) hp)
  refine Eq.trans (Finset.sum_congr rfl fun x _ => ?_) (sum_block_all (fun k => sp (Z k)) a 0 256)
  rw [pay33_apply, head0 x (fun l => v1 (ix2 r l) * kb (ix3 0 x l)), hz x]
  rfl

theorem step_c1 (v1 : FVec Ideal S256x128 .bf16) (kb vb : Vec Ideal S1x256x128 .bf16) (s : St Ideal)
    (hz : ∀ t : Fin 256, ∑ d, v1 (ix2 r (lane 1 d)) * kb (ix3 0 t (lane 1 d)) = Z (a + t.val))
    (hc : s.c1 (ix2 r 0) = total Z (a + 256) p) :
    (step v1 k0_pay32 k0_pay33 kb vb s).c1 (ix2 r l) = total Z a p := by
  unfold step
  dsimp only
  pointwise [k0_pay16, k0_pay15, k0_pay14, k0_pay13, k0_pay12, k0_pay3, k0_pay4, k0_pay5]
  rw [hc, add_comm]
  refine Eq.trans (congrArg (· + total Z (a + 256) p) ?_) (total_add Z (Nat.le_add_right a 256) hp)
  refine Eq.trans (Finset.sum_congr rfl fun x _ => ?_) (sum_block_all (fun k => sp (Z k)) a 0 256)
  rw [pay33_apply, head1 x (fun l => v1 (ix2 r l) * kb (ix3 0 x l)), hz x]
  rfl

theorem step_a0 (v1 : FVec Ideal S256x128 .bf16) (kb vb : Vec Ideal S1x256x128 .bf16) (s : St Ideal)
    (hz : ∀ t : Fin 256, ∑ d, v1 (ix2 r (lane 0 d)) * kb (ix3 0 t (lane 0 d)) = Z (a + t.val))
    (hw : ∀ t : Fin 256, vb (ix3 0 t l) = W (a + t.val))
    (hc : s.c0 (ix2 r 0) = total Z (a + 256) p) (ha : s.a0 (ix2 r l) = output Z W (a + 256) p) :
    (step v1 k0_pay32 k0_pay33 kb vb s).a0 (ix2 r l) = output Z W a p := by
  unfold step
  dsimp only
  pointwise [k0_pay9, k0_pay8, k0_pay7, k0_pay6, k0_pay10, k0_pay3, k0_pay4, k0_pay5]
  rw [hc, ha]
  refine Eq.trans (congrArg (output Z W (a + 256) p + ·) ?_) (output_add Z W (Nat.le_add_right a 256) hp)
  refine Eq.trans (Finset.sum_congr rfl fun x _ => ?_)
    (sum_block (fun k => Ideal.exp (Z k - total Z k (a + 256) - total Z (a + 256) p) * W k) a 256)
  rw [head0 x (fun l => v1 (ix2 r l) * kb (ix3 0 x l)), hz x, hw x]
  refine congrArg (fun y => Ideal.exp (Z (a + x.val) - y - total Z (a + 256) p) * W (a + x.val)) ?_
  refine Eq.trans (Finset.sum_congr rfl fun y _ => ?_) (sum_block_all (fun k => sp (Z k)) a x.val 256)
  rw [pay33_apply, head0 y (fun l => v1 (ix2 r l) * kb (ix3 0 y l)), hz y]
  rfl

theorem step_a1 (v1 : FVec Ideal S256x128 .bf16) (kb vb : Vec Ideal S1x256x128 .bf16) (s : St Ideal)
    (hz : ∀ t : Fin 256, ∑ d, v1 (ix2 r (lane 1 d)) * kb (ix3 0 t (lane 1 d)) = Z (a + t.val))
    (hw : ∀ t : Fin 256, vb (ix3 0 t l) = W (a + t.val))
    (hc : s.c1 (ix2 r 0) = total Z (a + 256) p) (ha : s.a1 (ix2 r l) = output Z W (a + 256) p) :
    (step v1 k0_pay32 k0_pay33 kb vb s).a1 (ix2 r l) = output Z W a p := by
  unfold step
  dsimp only
  pointwise [k0_pay15, k0_pay14, k0_pay13, k0_pay12, k0_pay3, k0_pay4, k0_pay5]
  rw [hc, ha]
  refine Eq.trans (congrArg (output Z W (a + 256) p + ·) ?_) (output_add Z W (Nat.le_add_right a 256) hp)
  refine Eq.trans (Finset.sum_congr rfl fun x _ => ?_)
    (sum_block (fun k => Ideal.exp (Z k - total Z k (a + 256) - total Z (a + 256) p) * W k) a 256)
  rw [head1 x (fun l => v1 (ix2 r l) * kb (ix3 0 x l)), hz x, hw x]
  refine congrArg (fun y => Ideal.exp (Z (a + x.val) - y - total Z (a + 256) p) * W (a + x.val)) ?_
  refine Eq.trans (Finset.sum_congr rfl fun y _ => ?_) (sum_block_all (fun k => sp (Z k)) a x.val 256)
  rw [pay33_apply, head1 y (fun l => v1 (ix2 r l) * kb (ix3 0 y l)), hz y]
  rfl

end

end Cert.Sb
-- ==== Proof.Point.lean ====
/-
  What a grid point computes, read at an entry: after the block on the diagonal and `n` further blocks the carried
  arrays hold the totals and the output of the keys from `256 (b - n)` on, so after all of them those of every key
  before the query.
-/
module

public import proofs.«01_k».proof.Proof.Block

@[expose] public section

set_option maxRecDepth 16384

noncomputable section

namespace Cert.Sb

open Cert.KernelIdeal Cert.KernelIdeal.Gen Idealize.ShloMosaic Idealize.ShloMosaic.TcCoe Idealize.SL.Sem

/-- Row `t` of block `j` is row `256 j + t`. -/
theorem rows_apply (X : Vec Ideal S1x8192x128 .bf16) (j : Fin 32) (t : Fin 256) (l : Fin 128) :
    rows X j (ix3 0 t l) = X (ix3 0 ⟨256 * j.val + t.val, by have := j.isLt; have := t.isLt; omega⟩ l) := by
  unfold rows View.ld
  refine congrArg X (funext fun a => Fin.ext ?_)
  match a with
  | ⟨0, _⟩ => rfl
  | ⟨1, _⟩ => show 256 * j.val + 1 * t.val = 256 * j.val + t.val; omega
  | ⟨2, _⟩ => show 0 + 1 * l.val = l.val; omega

theorem pay31_apply (x0 : Vec Ideal S1x256x128 .bf16) (r : Fin 256) (l : Fin 128) : k0_pay31 x0 (ix2 r l) = x0 (ix3 0 r l) := by
  pointwise [k0_pay31]

theorem pay2_apply (X Y : Vec Ideal S256x128 .f32) (r : Fin 256) (l : Fin 128) :
    k0_pay2 k0_pay32 X Y (ix2 r l) = Scalar.select (k0_pay32 (ix2 r l)) (X (ix2 r l)) (Y (ix2 r l)) := by
  pointwise [k0_pay2]

section
variable (i : grid0.Coords) (x0 : Vec Ideal S1x256x128 .bf16) (K V : Vec Ideal S1x8192x128 .bf16) (r : Fin 256) (l : Fin 128)
  (Z W : ℕ → EReal) (hW : ∀ (κ : ℕ) (h : κ < 8192), V (ix3 0 ⟨κ, h⟩ l) = W κ)

/-- The carried arrays after the diagonal block and `n` more. -/
def carried (n : ℕ) : St Ideal :=
  iter (k0_pay31 x0) k0_pay32 k0_pay33 K V i (first x0 (rows K (i 2)) (rows V (i 2))) n

include hW

theorem carried0 (hZ : ∀ (κ : ℕ) (h : κ < 8192), ∑ d, x0 (ix3 0 r (lane 0 d)) * K (ix3 0 ⟨κ, h⟩ (lane 0 d)) = Z κ) (n : ℕ)
    (hn : n ≤ (i 2).val) :
    (∀ l' : Fin 128, (carried i x0 K V n).c0 (ix2 r l') = total Z (256 * ((i 2).val - n)) (256 * (i 2).val + r.val))
      ∧ (carried i x0 K V n).a0 (ix2 r l) = output Z W (256 * ((i 2).val - n)) (256 * (i 2).val + r.val) := by
  induction n with
  | zero =>
    refine ⟨fun l' => first_c0 Z (256 * (i 2).val) r l' x0 _ _ fun t => ?_,
      first_a0 Z W (256 * (i 2).val) r l x0 _ _ (fun t => ?_) fun t => ?_⟩
    · exact (Finset.sum_congr rfl fun d _ => congrArg (x0 (ix3 0 r (lane 0 d)) * ·) (rows_apply K (i 2) t (lane 0 d))).trans (hZ _ _)
    · exact (Finset.sum_congr rfl fun d _ => congrArg (x0 (ix3 0 r (lane 0 d)) * ·) (rows_apply K (i 2) t (lane 0 d))).trans (hZ _ _)
    · exact (rows_apply V (i 2) t l).trans (hW _ _)
  | succ n ih =>
    obtain ⟨hc, ha⟩ := ih (Nat.le_of_succ_le hn)
    have e : 256 * ((i 2).val - n) = 256 * ((i 2).val - (n + 1)) + 256 := by omega
    have hp : 256 * ((i 2).val - (n + 1)) + 256 ≤ 256 * (i 2).val + r.val := by omega
    have hj : (prev i n).val = (i 2).val - (n + 1) := by show (i 2).val - 1 - n = _; omega
    have hz : ∀ t : Fin 256, ∑ d, k0_pay31 x0 (ix2 r (lane 0 d)) * rows K (prev i n) (ix3 0 t (lane 0 d))
        = Z (256 * ((i 2).val - (n + 1)) + t.val) := fun t => by
      simp only [rows_apply, pay31_apply]; rw [← hj]; exact hZ _ _
    rw [e] at hc ha
    refine ⟨fun l' => step_c0 Z _ r l' _ hp _ _ _ _ hz (hc 0), step_a0 Z W _ r l _ hp _ _ _ _ hz (fun t => ?_) (hc 0) ha⟩
    rw [rows_apply, ← hj]; exact hW _ _

theorem carried1 (hZ : ∀ (κ : ℕ) (h : κ < 8192), ∑ d, x0 (ix3 0 r (lane 1 d)) * K (ix3 0 ⟨κ, h⟩ (lane 1 d)) = Z κ) (n : ℕ)
    (hn : n ≤ (i 2).val) :
    (∀ l' : Fin 128, (carried i x0 K V n).c1 (ix2 r l') = total Z (256 * ((i 2).val - n)) (256 * (i 2).val + r.val))
      ∧ (carried i x0 K V n).a1 (ix2 r l) = output Z W (256 * ((i 2).val - n)) (256 * (i 2).val + r.val) := by
  induction n with
  | zero =>
    refine ⟨fun l' => first_c1 Z (256 * (i 2).val) r l' x0 _ (rows V (i 2)) fun t => ?_,
      first_a1 Z W (256 * (i 2).val) r l x0 _ _ (fun t => ?_) fun t => ?_⟩
    · exact (Finset.sum_congr rfl fun d _ => congrArg (x0 (ix3 0 r (lane 1 d)) * ·) (rows_apply K (i 2) t (lane 1 d))).trans (hZ _ _)
    · exact (Finset.sum_congr rfl fun d _ => congrArg (x0 (ix3 0 r (lane 1 d)) * ·) (rows_apply K (i 2) t (lane 1 d))).trans (hZ _ _)
    · exact (rows_apply V (i 2) t l).trans (hW _ _)
  | succ n ih =>
    obtain ⟨hc, ha⟩ := ih (Nat.le_of_succ_le hn)
    have e : 256 * ((i 2).val - n) = 256 * ((i 2).val - (n + 1)) + 256 := by omega
    have hp : 256 * ((i 2).val - (n + 1)) + 256 ≤ 256 * (i 2).val + r.val := by omega
    have hj : (prev i n).val = (i 2).val - (n + 1) := by show (i 2).val - 1 - n = _; omega
    have hz : ∀ t : Fin 256, ∑ d, k0_pay31 x0 (ix2 r (lane 1 d)) * rows K (prev i n) (ix3 0 t (lane 1 d))
        = Z (256 * ((i 2).val - (n + 1)) + t.val) := fun t => by
      simp only [rows_apply, pay31_apply]; rw [← hj]; exact hZ _ _
    rw [e] at hc ha
    refine ⟨fun l' => step_c1 Z _ r l' _ hp _ _ _ _ hz (hc 0), step_a1 Z W _ r l _ hp _ _ _ _ hz (fun t => ?_) (hc 0) ha⟩
    rw [rows_apply, ← hj]; exact hW _ _

/-- The result at a lane of head `e` of the slab: the output of every key before the query. -/
theorem result_apply (e : Fin 2) (hl : l.val / 64 = e.val)
    (hZ : ∀ (κ : ℕ) (h : κ < 8192), ∑ d, x0 (ix3 0 r (lane e d)) * K (ix3 0 ⟨κ, h⟩ (lane e d)) = Z κ) :
    result i x0 K V (ix2 r l) = output Z W 0 (256 * (i 2).val + r.val) := by
  have hr : result i x0 K V (ix2 r l)
      = Scalar.select (k0_pay32 (ix2 r l)) ((carried i x0 K V (i 2).val).a0 (ix2 r l)) ((carried i x0 K V (i 2).val).a1 (ix2 r l)) := by
    exact pay2_apply _ _ r l
  have h0 : 256 * ((i 2).val - (i 2).val) = 0 := by omega
  rw [hr, pay32_apply, select_ofBool]
  match e with
  | ⟨0, _⟩ =>
    rw [if_pos (by change l.val / 64 = 0 at hl; omega)]
    have := (carried0 i x0 K V r l Z W hW hZ (i 2).val le_rfl).2
    rw [h0] at this; exact this
  | ⟨1, _⟩ =>
    rw [if_neg (by change l.val / 64 = 1 at hl; omega)]
    have := (carried1 i x0 K V r l Z W hW hZ (i 2).val le_rfl).2
    rw [h0] at this; exact this

end

end Cert.Sb
-- ==== Proof.Slabs.lean ====
/-
  The array the kernel's windows read: the projection cut into slabs of 128 lanes, the four slabs of queries scaled.
  Then what each window's block holds at a grid point.
-/
module

public import proofs.«01_k».proof.Proof.Point
public import Idealize.ShloMosaic.Lib.StableHlo.ReadAt

@[expose] public section

set_option maxRecDepth 16384

noncomputable section

namespace Cert.Sb

open Cert.KernelIdeal Cert.KernelIdeal.Gen Idealize.ShloMosaic Idealize.ShloMosaic.TcCoe Idealize.SL.Sem

/-- The slabs whose number divided by four is three are the ones from 12 to 15. -/
theorem quotient (s : Fin 24) :
    IntOp.cmpi CmpIPredicate.eq
        (Scalar.select
          (IntOp.andi
            (IntOp.cmpi CmpIPredicate.ne
              (if BitVec.ofNat 32 s.val = 0 then (0 : BitVec 32) else if (BitVec.ofNat 32 s.val).msb = true then -1 else 1)
              (if id (constantI S_ 32 4#32) ix0 = 0 then (0 : BitVec 32)
              else if BitVec.msb (id (constantI S_ 32 4#32) ix0) = true then -1 else 1))
            (IntOp.cmpi CmpIPredicate.ne
              (IntOp.remsi ArithUnit.host (BitVec.ofNat 32 s.val) (id (constantI S_ 32 4#32) ix0)) 0#32))
          (IntOp.subi (IntOp.divsi ArithUnit.host (BitVec.ofNat 32 s.val) (id (constantI S_ 32 4#32) ix0)) 1#32)
          (IntOp.divsi ArithUnit.host (BitVec.ofNat 32 s.val) (id (constantI S_ 32 4#32) ix0)))
        3#32 = BitVec.ofBool (decide (12 ≤ s.val ∧ s.val < 16)) := by
  revert s
  decide +kernel

/-- The projection at lane `l` of slab `s` of a row. -/
def atSlab (A : FVec Ideal S2x8192x3072 .f32) (s : Fin 24) (row : Fin 16384) (l : Fin 128) : EReal :=
  A (ix3 ⟨row.val / 8192, by have := row.isLt; omega⟩ ⟨row.val % 8192, by omega⟩ ⟨s.val * 128 + l.val, by have := s.isLt; have := l.isLt; omega⟩)

theorem slab_apply (m : (ℓ : Loc nD τ sig) → Buf (Elt Ideal) ℓ) (c : Dev nD) (s : Fin 24) (row : Fin 16384) (l : Fin 128) :
    V m c main_v10 (ix3 s row l) = if 12 ≤ s.val ∧ s.val < 16 then atSlab (m ((c.tc : Thread nD τ).loc main_arg0)) s row l * Ideal.ofBits .f32 0x3E000000#32
      else atSlab (m ((c.tc : Thread nD τ).loc main_arg0)) s row l := by
  unfold V
  after_reads_at
  rw [quotient, select_ofBool]
  rfl

/-- The grid point's batch, slab within its section, and block of rows. -/
def gb (t : Fin cfg0.N) : Fin 2 := grid0.coords t 0
def gh (t : Fin cfg0.N) : Fin 4 := grid0.coords t 1
def gi (t : Fin cfg0.N) : Fin 32 := grid0.coords t 2

theorem idx0 : ∀ t : Fin cfg0.N, win0_0.index t = ![12 + (gh t).val, (gb t).val * 32 + (gi t).val, 0] :=
  (by decide +kernel : ∀ t : Fin grid0.N, _)
theorem idx1 : ∀ t : Fin cfg0.N, win0_1.index t = ![16 + (gh t).val, (gb t).val, 0] :=
  (by decide +kernel : ∀ t : Fin grid0.N, _)
theorem idx2 : ∀ t : Fin cfg0.N, win0_2.index t = ![20 + (gh t).val, (gb t).val, 0] :=
  (by decide +kernel : ∀ t : Fin grid0.N, _)
theorem idx3 : ∀ t : Fin cfg0.N, win0_3.index t = ![(gb t).val * 32 + (gi t).val, (gh t).val] :=
  (by decide +kernel : ∀ t : Fin grid0.N, _)

variable (m : (ℓ : Loc nD τ sig) → Buf (Elt Ideal) ℓ) (c : Dev nD) (t : Fin cfg0.N)

theorem block_q (r : Fin 256) (l : Fin 128) :
    iblk m c 0 t (ix3 0 r l) = atSlab (m ((c.tc : Thread nD τ).loc main_arg0)) ⟨12 + (gh t).val, by have := (gh t).isLt; omega⟩
      ⟨8192 * (gb t).val + 256 * (gi t).val + r.val, by have := (gb t).isLt; have := (gi t).isLt; have := r.isLt; omega⟩ l * Ideal.ofBits .f32 0x3E000000#32 := by
  have hb := (gb t).isLt
  have hh := (gh t).isLt
  have hi := (gi t).isLt
  refine Eq.trans (b := V m c main_v10 (ix3 ⟨12 + (gh t).val, by omega⟩ ⟨8192 * (gb t).val + 256 * (gi t).val + r.val, by have := r.isLt; omega⟩ l)) ?_ ?_
  · blk_simp [iblk, idx0]
    refine congrArg (V m c main_v10) ?_
    blk_ext [idx0 t]
  · rw [slab_apply, if_pos (by dsimp only; omega)]

theorem block_k (p : Fin 8192) (l : Fin 128) :
    iblk m c 1 t (ix3 0 p l) = atSlab (m ((c.tc : Thread nD τ).loc main_arg0)) ⟨16 + (gh t).val, by have := (gh t).isLt; omega⟩
      ⟨8192 * (gb t).val + p.val, by have := (gb t).isLt; have := p.isLt; omega⟩ l := by
  have hb := (gb t).isLt
  have hh := (gh t).isLt
  refine Eq.trans (b := V m c main_v10 (ix3 ⟨16 + (gh t).val, by omega⟩ ⟨8192 * (gb t).val + p.val, by have := p.isLt; omega⟩ l)) ?_ ?_
  · blk_simp [iblk, idx1]
    refine congrArg (V m c main_v10) ?_
    blk_ext [idx1 t]
  · rw [slab_apply, if_neg (by dsimp only; omega)]

theorem block_v (p : Fin 8192) (l : Fin 128) :
    iblk m c 2 t (ix3 0 p l) = atSlab (m ((c.tc : Thread nD τ).loc main_arg0)) ⟨20 + (gh t).val, by have := (gh t).isLt; omega⟩
      ⟨8192 * (gb t).val + p.val, by have := (gb t).isLt; have := p.isLt; omega⟩ l := by
  have hb := (gb t).isLt
  have hh := (gh t).isLt
  refine Eq.trans (b := V m c main_v10 (ix3 ⟨20 + (gh t).val, by omega⟩ ⟨8192 * (gb t).val + p.val, by have := p.isLt; omega⟩ l)) ?_ ?_
  · blk_simp [iblk, idx2]
    refine congrArg (V m c main_v10) ?_
    blk_ext [idx2 t]
  · rw [slab_apply, if_neg (by dsimp only; omega)]

end Cert.Sb
-- ==== Proof.Reference.lean ====
/-
  The reference read at an entry: the scores of the stick-breaking attention, their softplus terms, the sums of the
  later terms, and the weighted sum of the values.
-/
module

public import proofs.«01_k».proof.Proof.Gen.ReferenceIdeal.Run
public import proofs.«01_k».proof.Proof.Softplus
public import Idealize.ShloMosaic.Lib.Pointwise
public import Idealize.ShloMosaic.Lib.Tactic.WordOmega

@[expose] public section

set_option maxRecDepth 16384

noncomputable section

namespace Cert.Sb

open Cert.ReferenceIdeal Cert.ReferenceIdeal.Gen Idealize.ShloMosaic Idealize.ShloMosaic.TcCoe Idealize.SL.Sem

/-- The scores' array type. -/
abbrev Sq := FVec Ideal S2x8x8192x8192 .f32

/-- Each head's rows. -/
def headsOf (X : FVec Ideal S2x8192x512 .f32) : FVec Ideal S2x8x8192x64 .f32 :=
  transpose S2x8x8192x64 [0, 2, 1, 3] (shapeCast _ X shapeCasts_S2x8192x512_S2x8192x8x64) transposes_S2x8192x8x64_S2x8x8192x64_0_2_1_3

def qR (A : FVec Ideal S2x8192x3072 .f32) : FVec Ideal S2x8x8192x64 .f32 :=
  headsOf (extractStridedSlice S2x8192x512 ![0, 0, 1536] A slices_S2x8192x3072_S2x8192x512_0_0_1536)

def kR (A : FVec Ideal S2x8192x3072 .f32) : FVec Ideal S2x8x8192x64 .f32 :=
  headsOf (extractStridedSlice S2x8192x512 ![0, 0, 2048] A slices_S2x8192x3072_S2x8192x512_0_0_2048)

def vR (A : FVec Ideal S2x8192x3072 .f32) : FVec Ideal S2x8x8192x64 .f32 :=
  headsOf (extractStridedSlice S2x8192x512 ![0, 0, 2560] A slices_S2x8192x3072_S2x8192x512_0_0_2560)

/-- The scores. -/
def zR (A : FVec Ideal S2x8192x3072 .f32) : Sq :=
  mulf (Host.dotGeneral dot_S2x8x8192x64_S2x8x8192x64_S2x8x8192x8192_3_3_2_2_01_01 none (qR A) (kR A))
    (broadcastInDim S2x8x8192x8192 ![] bcast_S_S2x8x8192x8192 (constant S_ .f32 0x3E000000#32))

def zeroR : Sq := broadcastInDim S2x8x8192x8192 ![] bcast_S_S2x8x8192x8192 (constant S_ .f32 0x00000000#32)

def fillR : Sq := broadcastInDim S2x8x8192x8192 ![] bcast_S_S2x8x8192x8192 (id (constant S_ .f32 0x00000000#32))

/-- The softplus of an array. -/
def softR (y : Sq) : Sq :=
  select (cmpf .une (subf y zeroR) (subf y zeroR)) (addf y zeroR)
    (addf (maximumf y zeroR) (Host.log1p (Host.exp (Host.negf (Host.absf (subf y zeroR))))))

/-- The keys before the query. -/
def maskR : IVec S2x8x8192x8192 1 :=
  broadcastInDim S2x8x8192x8192 ![2, 3] bcast_S8192x8192_S2x8x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- The logarithm of what a key keeps. -/
def keepR (z : Sq) : Sq := select maskR (Host.negf (softR (Host.negf (Host.negf z)))) fillR

/-- The sum of an array from each place of its last axis on. -/
def suffixR (x : Sq) : Sq :=
  Host.reduceWindowAdd ![1, 1, 1, 8192] ![1, 1, 1, 1] ![0, 0, 0, 0] ![0, 0, 0, 8191] x
    (broadcastInDim S_ ![] bcast_S_S_ (constant S_ .f32 0x00000000#32)) reduceWindows_S2x8x8192x8192_S2x8x8192x8192_w1s1p0_0_w1s1p0_0_w1s1p0_0_w8192s1p0_8191 h_S_

/-- The weights. -/
def weightR (z : Sq) : Sq :=
  select maskR (Host.exp (addf (Host.negf (softR (Host.negf z))) (subf (suffixR (keepR z)) (keepR z)))) fillR

def outR (A : FVec Ideal S2x8192x3072 .f32) : FVec Ideal S16384x512 .bf16 :=
  truncf .bf16 (shapeCast _ (transpose S2x8192x8x64 [0, 2, 1, 3] (Host.dotGeneral dot_S2x8x8192x8192_S2x8x8192x64_S2x8x8192x64_3_2_2_3_01_01 none (weightR (zR A)) (vR A))
    transposes_S2x8x8192x64_S2x8192x8x64_0_2_1_3) shapeCasts_S2x8192x8x64_S16384x512) bitsLt_bf16_f32

theorem reference_eq (m : (ℓ : Loc nD τ sig) → Buf (Elt Ideal) ℓ) (c : Dev nD) :
    Cert.ReferenceIdeal.Value.res_main_v32 m c = outR (m ((c.tc : Thread nD τ).loc main_arg0)) := rfl

theorem headsOf_apply (X : FVec Ideal S2x8192x512 .f32) (b : Fin 2) (h : Fin 8) (p : Fin 8192) (d : Fin 64) :
    headsOf X (ix4 b h p d) = X (ix3 b p ⟨h.val * 64 + d.val, by have := h.isLt; have := d.isLt; omega⟩) := by
  pointwise [headsOf]

/-- The entry of the projection at lane `64 n + d` of a row; sections of eight heads follow one another. -/
def entry (A : FVec Ideal S2x8192x3072 .f32) (n : Fin 48) (b : Fin 2) (p : Fin 8192) (d : Fin 64) : EReal :=
  A (ix3 b p ⟨64 * n.val + d.val, by have := n.isLt; have := d.isLt; omega⟩)

def qs (h : Fin 8) : Fin 48 := ⟨24 + h.val, by have := h.isLt; omega⟩
def ks (h : Fin 8) : Fin 48 := ⟨32 + h.val, by have := h.isLt; omega⟩
def vs (h : Fin 8) : Fin 48 := ⟨40 + h.val, by have := h.isLt; omega⟩

theorem qR_apply (A : FVec Ideal S2x8192x3072 .f32) (b : Fin 2) (h : Fin 8) (p : Fin 8192) (d : Fin 64) :
    qR A (ix4 b h p d) = entry A (qs h) b p d := by
  unfold qR; rw [headsOf_apply]
  pointwise []
  unfold entry
  refine congrArg (fun x => A (ix3 b p x)) (Fin.ext ?_)
  show _ = 64 * (24 + h.val) + d.val
  dsimp only; omega

theorem kR_apply (A : FVec Ideal S2x8192x3072 .f32) (b : Fin 2) (h : Fin 8) (p : Fin 8192) (d : Fin 64) :
    kR A (ix4 b h p d) = entry A (ks h) b p d := by
  unfold kR; rw [headsOf_apply]
  pointwise []
  unfold entry
  refine congrArg (fun x => A (ix3 b p x)) (Fin.ext ?_)
  show _ = 64 * (32 + h.val) + d.val
  dsimp only; omega

theorem vR_apply (A : FVec Ideal S2x8192x3072 .f32) (b : Fin 2) (h : Fin 8) (p : Fin 8192) (d : Fin 64) :
    vR A (ix4 b h p d) = entry A (vs h) b p d := by
  unfold vR; rw [headsOf_apply]
  pointwise []
  unfold entry
  refine congrArg (fun x => A (ix3 b p x)) (Fin.ext ?_)
  show _ = 64 * (40 + h.val) + d.val
  dsimp only; omega

theorem zR_apply (A : FVec Ideal S2x8192x3072 .f32) (b : Fin 2) (h : Fin 8) (p κ : Fin 8192) :
    zR A (ix4 b h p κ) = (∑ d, entry A (qs h) b p d * entry A (ks h) b κ d) * Ideal.ofBits .f32 0x3E000000#32 := by
  pointwise [zR]
  simp only [qR_apply, kR_apply]

theorem maskR_apply (b : Fin 2) (h : Fin 8) (p κ : Fin 8192) : maskR (ix4 b h p κ) = BitVec.ofBool (decide (κ.val < p.val)) := by
  pointwise [maskR]
  have := κ.isLt
  have := p.isLt
  word_omega

theorem softR_apply (y : Sq) (b : Fin 2) (h : Fin 8) (p κ : Fin 8192) : softR y (ix4 b h p κ) = sp (y (ix4 b h p κ)) := by
  pointwise [softR, zeroR]
  rw [if_neg (not_not.mpr rfl)]
  unfold sp
  rw [zero_sub]
  rfl

theorem fillR_apply (b : Fin 2) (h : Fin 8) (p κ : Fin 8192) : fillR (ix4 b h p κ) = 0 := by
  pointwise [fillR]
  exact Ideal.ofBits_zero_f32

theorem sel {α : Type} (p : Prop) [Decidable p] (x y : α) : Scalar.select (BitVec.ofBool (decide p)) x y = if p then x else y := by
  by_cases h : p <;> simp [h, Scalar.select]

theorem keepR_apply (z : Sq) (b : Fin 2) (h : Fin 8) (p κ : Fin 8192) :
    keepR z (ix4 b h p κ) = if κ.val < p.val then -sp (z (ix4 b h p κ)) else 0 := by
  have e : keepR z (ix4 b h p κ)
      = Scalar.select (maskR (ix4 b h p κ)) (-(softR (Host.negf (Host.negf z)) (ix4 b h p κ))) (fillR (ix4 b h p κ)) := rfl
  rw [e, maskR_apply, softR_apply, fillR_apply, sel]
  have e' : Host.negf (Host.negf z) (ix4 b h p κ) = z (ix4 b h p κ) := neg_neg (z (ix4 b h p κ) : EReal)
  rw [e']

theorem foldl_add {ι : Type*} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A window of the whole last axis, padded high by one less: the sum from place `κ` on. -/
theorem window_sum {n0 n1 n2 N M : ℕ}
    (h : Shape.ReduceWindows ⟨4, ![n0, n1, n2, N]⟩ ![1, 1, 1, N] ![1, 1, 1, 1] ![0, 0, 0, 0] ![0, 0, 0, M] ⟨4, ![n0, n1, n2, N]⟩)
    (x : (⟨4, ![n0, n1, n2, N]⟩ : Shape).Idx → EReal) (a : Fin n0) (b : Fin n1) (c : Fin n2) (κ : Fin N) :
    Ideal.hostReduceWindowAdd ![1, 1, 1, N] ![1, 1, 1, 1] ![0, 0, 0, 0] ![0, 0, 0, M] h x 0 (ix4 a b c κ)
      = ∑ w : Fin N, if hw : κ.val + w.val < N then x (ix4 a b c ⟨κ.val + w.val, hw⟩) else 0 := by
  unfold Ideal.hostReduceWindowAdd Host.reduceWindow
  dsimp only
  rw [foldl_add, zero_add, ← List.ofFn_eq_map, List.sum_ofFn]
  refine (Fintype.sum_equiv (Shape.rowMajor ⟨4, ![1, 1, 1, N]⟩).symm _ (fun w : (⟨4, ![1, 1, 1, N]⟩ : Shape).Idx =>
    if hw : κ.val + (w 3).val < N then x (ix4 a b c ⟨κ.val + (w 3).val, hw⟩) else 0) fun n => ?_).trans ?_
  · have h0 : (((Shape.rowMajor ⟨4, ![1, 1, 1, N]⟩).symm n) 0).val = 0 := by have : (((Shape.rowMajor ⟨4, ![1, 1, 1, N]⟩).symm n) 0).val < 1 := (((Shape.rowMajor ⟨4, ![1, 1, 1, N]⟩).symm n) 0).isLt; omega
    have h1 : (((Shape.rowMajor ⟨4, ![1, 1, 1, N]⟩).symm n) 1).val = 0 := by have : (((Shape.rowMajor ⟨4, ![1, 1, 1, N]⟩).symm n) 1).val < 1 := (((Shape.rowMajor ⟨4, ![1, 1, 1, N]⟩).symm n) 1).isLt; omega
    have h2 : (((Shape.rowMajor ⟨4, ![1, 1, 1, N]⟩).symm n) 2).val = 0 := by have : (((Shape.rowMajor ⟨4, ![1, 1, 1, N]⟩).symm n) 2).val < 1 := (((Shape.rowMajor ⟨4, ![1, 1, 1, N]⟩).symm n) 2).isLt; omega
    by_cases hw : κ.val + (((Shape.rowMajor ⟨4, ![1, 1, 1, N]⟩).symm n) 3).val < N
    · rw [dif_pos hw, dif_pos]
      · refine congrArg x (funext fun e => Fin.ext ?_)
        match e with
        | ⟨0, _⟩ => show a.val * 1 + (((Shape.rowMajor ⟨4, ![1, 1, 1, N]⟩).symm n) 0).val - 0 = a.val; omega
        | ⟨1, _⟩ => show b.val * 1 + (((Shape.rowMajor ⟨4, ![1, 1, 1, N]⟩).symm n) 1).val - 0 = b.val; omega
        | ⟨2, _⟩ => show c.val * 1 + (((Shape.rowMajor ⟨4, ![1, 1, 1, N]⟩).symm n) 2).val - 0 = c.val; omega
        | ⟨3, _⟩ => show κ.val * 1 + (((Shape.rowMajor ⟨4, ![1, 1, 1, N]⟩).symm n) 3).val - 0 = κ.val + (((Shape.rowMajor ⟨4, ![1, 1, 1, N]⟩).symm n) 3).val; omega
      · intro e
        match e with
        | ⟨0, _⟩ => exact ⟨Nat.zero_le _, by show a.val * 1 + (((Shape.rowMajor ⟨4, ![1, 1, 1, N]⟩).symm n) 0).val - 0 < n0; omega⟩
        | ⟨1, _⟩ => exact ⟨Nat.zero_le _, by show b.val * 1 + (((Shape.rowMajor ⟨4, ![1, 1, 1, N]⟩).symm n) 1).val - 0 < n1; omega⟩
        | ⟨2, _⟩ => exact ⟨Nat.zero_le _, by show c.val * 1 + (((Shape.rowMajor ⟨4, ![1, 1, 1, N]⟩).symm n) 2).val - 0 < n2; omega⟩
        | ⟨3, _⟩ => exact ⟨Nat.zero_le _, by show κ.val * 1 + (((Shape.rowMajor ⟨4, ![1, 1, 1, N]⟩).symm n) 3).val - 0 < N; omega⟩
    · rw [dif_neg hw, dif_neg]
      intro hin
      have h3 := (hin 3).2
      change κ.val * 1 + (((Shape.rowMajor ⟨4, ![1, 1, 1, N]⟩).symm n) 3).val - 0 < N at h3
      omega
  · rw [sum_idx4]
    simp only [Fin.sum_univ_one]
    rfl

/-- The sum of an array from place `κ` of its last axis on. -/
theorem suffixR_apply (x : Sq) (b : Fin 2) (h : Fin 8) (p κ : Fin 8192) :
    suffixR x (ix4 b h p κ) = ∑ w : Fin 8192, if hw : κ.val + w.val < 8192 then x (ix4 b h p ⟨κ.val + w.val, hw⟩) else 0 := by
  have h0 : (broadcastInDim S_ ![] bcast_S_S_ (constant (F := Ideal) S_ .f32 0x00000000#32)) (Shape.Idx.first h_S_) = (0 : EReal) :=
    Ideal.ofBits_zero_f32
  unfold suffixR Host.reduceWindowAdd
  rw [Ideal.hostReduceWindowAdd_def, h0]
  exact window_sum _ x b h p κ

/-- The score of key `κ` for the query at row `p`, as a function of every natural number. -/
def score (A : FVec Ideal S2x8192x3072 .f32) (b : Fin 2) (h : Fin 8) (p : Fin 8192) (κ : ℕ) : EReal :=
  if hk : κ < 8192 then (∑ d, entry A (qs h) b p d * entry A (ks h) b ⟨κ, hk⟩ d) * Ideal.ofBits .f32 0x3E000000#32 else 0

/-- Lane `d` of the value of key `κ`. -/
def value (A : FVec Ideal S2x8192x3072 .f32) (b : Fin 2) (h : Fin 8) (d : Fin 64) (κ : ℕ) : EReal :=
  if hk : κ < 8192 then entry A (vs h) b ⟨κ, hk⟩ d else 0

/-- From key `κ` on, what the later keys keep adds up to the softplus terms below the query. -/
theorem suffix_keep (A : FVec Ideal S2x8192x3072 .f32) (b : Fin 2) (h : Fin 8) (p κ : Fin 8192) :
    suffixR (keepR (zR A)) (ix4 b h p κ) = -total (score A b h p) κ.val p.val := by
  rw [suffixR_apply]
  have e : ∀ w : Fin 8192, (if hw : κ.val + w.val < 8192 then keepR (zR A) (ix4 b h p ⟨κ.val + w.val, hw⟩) else 0)
      = -(if w.val < p.val - κ.val then sp (score A b h p (κ.val + w.val)) else 0) := by
    intro w
    have := p.isLt
    by_cases hw : κ.val + w.val < 8192
    · rw [dif_pos hw, keepR_apply, zR_apply]
      have hs : score A b h p (κ.val + w.val)
          = (∑ d, entry A (qs h) b p d * entry A (ks h) b ⟨κ.val + w.val, hw⟩ d) * Ideal.ofBits .f32 0x3E000000#32 := by
        unfold score; rw [dif_pos hw]
      rw [← hs]
      by_cases hp : κ.val + w.val < p.val
      · rw [if_pos hp, if_pos (by omega)]
      · rw [if_neg hp, if_neg (by omega), neg_zero]
    · rw [dif_neg hw, if_neg (by omega), neg_zero]
  rw [Finset.sum_congr rfl fun w _ => e w, sum_neg _ _ fun w _ => by split_ifs; exacts [sp_nonneg _, le_rfl],
    sum_block_lt (fun k => sp (score A b h p k)) κ.val (p.val - κ.val) 8192 (by have := p.isLt; omega)]
  unfold total
  congr 1
  by_cases hk : κ.val ≤ p.val
  · rw [Nat.add_sub_cancel' hk]
  · rw [Finset.Ico_eq_empty (by omega), Finset.Ico_eq_empty (by omega)]

theorem weightR_apply (A : FVec Ideal S2x8192x3072 .f32) (b : Fin 2) (h : Fin 8) (p κ : Fin 8192) :
    weightR (zR A) (ix4 b h p κ)
      = if κ.val < p.val then Ideal.exp (score A b h p κ.val - total (score A b h p) κ.val p.val) else 0 := by
  have e : weightR (zR A) (ix4 b h p κ) = Scalar.select (maskR (ix4 b h p κ))
      (Ideal.exp (-(softR (Host.negf (zR A)) (ix4 b h p κ)) + (suffixR (keepR (zR A)) (ix4 b h p κ) - keepR (zR A) (ix4 b h p κ))))
      (fillR (ix4 b h p κ)) := rfl
  rw [e, maskR_apply, fillR_apply, sel, softR_apply, suffix_keep, keepR_apply]
  by_cases hk : κ.val < p.val
  · rw [if_pos hk, if_pos hk, if_pos hk]
    have hs : zR A (ix4 b h p κ) = score A b h p κ.val := by
      rw [zR_apply]; unfold score; rw [dif_pos κ.isLt]
    have hn : Host.negf (zR A) (ix4 b h p κ) = -(score A b h p κ.val) := congrArg (fun x : EReal => -x) hs
    have ht : total (score A b h p) κ.val p.val = sp (score A b h p κ.val) + total (score A b h p) (κ.val + 1) p.val := by
      unfold total; rw [Finset.sum_eq_sum_Ico_succ_bot hk]
    rw [hn, hs, ht]
    exact (weight _ _ (total_nonneg _ _ _)).symm
  · rw [if_neg hk, if_neg hk]

/-- The reference's result at lane `d` of head `h` of the query at row `p` of batch `b`. -/
theorem outR_apply (A : FVec Ideal S2x8192x3072 .f32) (i : Fin 16384) (j : Fin 512) :
    outR A (ix2 i j) = output (score A ⟨i.val / 8192, by have := i.isLt; omega⟩ ⟨j.val / 64, by have := j.isLt; omega⟩ ⟨i.val % 8192, by omega⟩)
      (value A ⟨i.val / 8192, by have := i.isLt; omega⟩ ⟨j.val / 64, by have := j.isLt; omega⟩ ⟨j.val % 64, by omega⟩) 0 (i.val % 8192) := by
  pointwise [outR]
  simp only [weightR_apply, vR_apply]
  unfold output
  refine Eq.trans (Finset.sum_congr rfl fun x _ => ?_)
    ((sum_block_lt (fun k => Ideal.exp (score A ⟨i.val / 8192, by have := i.isLt; omega⟩ ⟨j.val / 64, by have := j.isLt; omega⟩ ⟨i.val % 8192, by omega⟩ k
        - total (score A ⟨i.val / 8192, by have := i.isLt; omega⟩ ⟨j.val / 64, by have := j.isLt; omega⟩ ⟨i.val % 8192, by omega⟩) k (i.val % 8192))
      * value A ⟨i.val / 8192, by have := i.isLt; omega⟩ ⟨j.val / 64, by have := j.isLt; omega⟩ ⟨j.val % 64, by omega⟩ k) 0 (i.val % 8192) 8192 (by omega)).trans ?_)
  · simp only [Nat.zero_add]
    split_ifs
    · congr 1
      unfold value; rw [dif_pos x.isLt]
    · rw [zero_mul]
  · rw [Nat.zero_add]

end Cert.Sb
-- ==== Proof.Array.lean ====
/-
  The kernel's result array: at every entry the output of the stick-breaking attention, as the reference spells it.
-/
module

public import proofs.«01_k».proof.Proof.Slabs
public import proofs.«01_k».proof.Proof.Reference
public import Idealize.ShloMosaic.Lib.Pipeline.Covers

@[expose] public section

set_option maxRecDepth 16384

noncomputable section

namespace Cert.Sb

open Cert.KernelIdeal Cert.KernelIdeal.Gen Idealize.ShloMosaic Idealize.ShloMosaic.TcCoe Idealize.SL.Sem

/-- A lane of a slab is a lane of a head. -/
theorem atSlab_entry (A : FVec Ideal S2x8192x3072 .f32) (s : Fin 24) (n : Fin 48) (b : Fin 2) (p : Fin 8192) (row : Fin 16384)
    (l : Fin 128) (d : Fin 64) (hrow : row.val = 8192 * b.val + p.val) (hl : 128 * s.val + l.val = 64 * n.val + d.val) :
    atSlab A s row l = entry A n b p d := by
  unfold atSlab entry
  have hp := p.isLt
  have e1 : (⟨row.val / 8192, by have := row.isLt; omega⟩ : Fin 2) = b := Fin.ext (by show row.val / 8192 = b.val; omega)
  have e2 : (⟨row.val % 8192, by omega⟩ : Fin 8192) = p := Fin.ext (by show row.val % 8192 = p.val; omega)
  rw [e1, e2]
  refine congrArg (fun x => A (ix3 b p x)) (Fin.ext ?_)
  show s.val * 128 + l.val = 64 * n.val + d.val
  omega

/-- A common real factor leaves a sum of products. -/
theorem sum_scale (x : EReal) (h0 : 0 ≤ x) (hx : x ≠ ⊤) (f g : Fin 64 → EReal) : ∑ d, f d * x * g d = (∑ d, f d * g d) * x := by
  have e : ∀ d, f d * x * g d = f d * g d * x := fun d => by rw [mul_assoc, mul_comm x, ← mul_assoc]
  rw [Finset.sum_congr rfl fun d _ => e d]
  exact (Finset.sum_hom_rel (r := fun a b => a = b * x) (by rw [zero_mul]) fun d a b h => by
    rw [h, EReal.right_distrib_of_nonneg_of_ne_top h0 hx])

theorem eighth : Ideal.ofBits .f32 0x3E000000#32 = ((1 / 8 : ℝ) : EReal) := by
  simp [Ideal.ofBits, Ideal.ieee, -EReal.coe_mul]; norm_num

variable (m : (ℓ : Loc nD τ sig) → Buf (Elt Ideal) ℓ) (c : Dev nD)

/-- The blocks of queries, keys and values at a grid point. -/
abbrev queries (t : Fin cfg0.N) : FVec Ideal S1x256x128 .bf16 := iblk m c 0 t
abbrev keys (t : Fin cfg0.N) : FVec Ideal S1x8192x128 .bf16 := iblk m c 1 t
abbrev values (t : Fin cfg0.N) : FVec Ideal S1x8192x128 .bf16 := iblk m c 2 t

/-- A head's scores, from the blocks the kernel is given. -/
theorem block_score (t : Fin cfg0.N) (r : Fin 256) (e : Fin 2) (b : Fin 2) (h : Fin 8) (p : Fin 8192) (hb : b = gb t)
    (hh : h.val = 2 * (gh t).val + e.val) (hp : p.val = 256 * (gi t).val + r.val) (κ : ℕ) (hk : κ < 8192) :
    ∑ d, queries m c t (ix3 0 r (lane e d)) * keys m c t (ix3 0 ⟨κ, hk⟩ (lane e d))
      = score (m ((c.tc : Thread nD τ).loc main_arg0)) b h p κ := by
  have hg := (gh t).isLt
  unfold score
  rw [dif_pos hk, ← sum_scale _ (by rw [eighth]; exact_mod_cast (by norm_num : (0 : ℝ) ≤ 1 / 8)) (by rw [eighth]; exact EReal.coe_ne_top _)]
  refine Finset.sum_congr rfl fun d _ => ?_
  have hd := d.isLt
  refine congrArg₂ (· * ·) ((block_q m c t r (lane e d)).trans ?_) ((block_k m c t ⟨κ, hk⟩ (lane e d)).trans ?_)
  · refine congrArg (· * _) (atSlab_entry _ _ (qs h) b p _ _ d ?_ ?_)
    · show 8192 * (gb t).val + 256 * (gi t).val + r.val = _; rw [hp, hb]; omega
    · show 128 * (12 + (gh t).val) + (64 * e.val + d.val) = 64 * (24 + h.val) + d.val; rw [hh]; omega
  · refine atSlab_entry _ _ (ks h) b ⟨κ, hk⟩ _ _ d ?_ ?_
    · show 8192 * (gb t).val + κ = _; rw [hb]
    · show 128 * (16 + (gh t).val) + (64 * e.val + d.val) = 64 * (32 + h.val) + d.val; rw [hh]; omega

/-- A head's values, from the block the kernel is given. -/
theorem block_value (t : Fin cfg0.N) (l : Fin 128) (d : Fin 64) (b : Fin 2) (h : Fin 8) (hb : b = gb t)
    (hh : 64 * h.val + d.val = 128 * (gh t).val + l.val) (κ : ℕ) (hk : κ < 8192) :
    values m c t (ix3 0 ⟨κ, hk⟩ l) = value (m ((c.tc : Thread nD τ).loc main_arg0)) b h d κ := by
  unfold value
  rw [dif_pos hk]
  refine (block_v m c t ⟨κ, hk⟩ l).trans (atSlab_entry _ _ (vs h) b ⟨κ, hk⟩ _ _ d ?_ ?_)
  · show 8192 * (gb t).val + κ = _; rw [hb]
  · show 128 * (20 + (gh t).val) + l.val = 64 * (40 + h.val) + d.val; omega

/-- Row `r`, lane `l` of what a grid point computes is the reference's entry at the place where the block lies. -/
theorem block_out (t : Fin cfg0.N) (r : Fin 256) (l : Fin 128) (i : Fin 16384) (j : Fin 512)
    (hi : i.val = 8192 * (gb t).val + 256 * (gi t).val + r.val) (hj : j.val = 128 * (gh t).val + l.val) :
    result (F := Ideal) (grid0.coords t) (queries m c t) (keys m c t) (values m c t) (ix2 r l)
      = outR (m ((c.tc : Thread nD τ).loc main_arg0)) (ix2 i j) := by
  have hb := (gb t).isLt
  have hh := (gh t).isLt
  have hI := (gi t).isLt
  have hr := r.isLt
  have hl := l.isLt
  rw [outR_apply]
  have hm : i.val % 8192 = 256 * (gi t).val + r.val := by omega
  refine Eq.trans ?_ (congrArg (output _ _ 0) hm.symm)
  refine result_apply (grid0.coords t) (queries m c t) (keys m c t) (values m c t) r l _ _ (fun κ hk => ?_) ⟨l.val / 64, by omega⟩ rfl
    (fun κ hk => ?_)
  · exact block_value m c t l _ _ _ (Fin.ext (by show i.val / 8192 = _; omega)) (by show 64 * (j.val / 64) + j.val % 64 = _; omega) κ hk
  · exact block_score m c t r _ _ _ _ (Fin.ext (by show i.val / 8192 = _; omega)) (by show j.val / 64 = 2 * _ + l.val / 64; omega)
      (by show i.val % 8192 = _; omega) κ hk

theorem covers : (cfg0.win 3).Covers :=
  (cfg0.win 3).covers_of_indexMap_surj rfl (by decide) (by decide +kernel)

/-- The array the kernel leaves is the reference's result. -/
theorem array_eq : (dats m 0 c).arrAt 3 cfg0.N = outR (m ((c.tc : Thread nD τ).loc main_arg0)) := by
  refine (dats m 0 c).arrAt_eq_of_covers 3 _ covers fun t hf y => ?_
  blk_simp
  rw [after0_3]
  unfold outsAt0
  rw [out_eq]
  obtain ⟨r, l, rfl⟩ : ∃ (r : Fin 256) (l : Fin 128), y = ix2 r l := ⟨y 0, y 1, by funext a; fin_cases a <;> rfl⟩
  have hb := (gb t).isLt
  have hh := (gh t).isLt
  have hI := (gi t).isLt
  have hr := r.isLt
  have hl := l.isLt
  refine (block_out m c t r l ⟨8192 * (gb t).val + 256 * (gi t).val + r.val, by omega⟩ ⟨128 * (gh t).val + l.val, by omega⟩ rfl rfl).trans
    (congrArg (outR (m ((c.tc : Thread nD τ).loc main_arg0))) ?_)
  blk_ext [idx3 t]

end Cert.Sb
-- ==== Proof.ExpKernel.lean ====
/-
  The experts: what one point of the grid computes, entry by entry.
-/
module

public import proofs.«01_k».proof.Proof.Gen.Kernel2Ideal.Skeleton
public import Idealize.ShloMosaic.Lib.Pointwise

@[expose] public section

set_option maxRecDepth 16384

noncomputable section

namespace Cert.Ex

open Cert.Kernel2Ideal Cert.Kernel2Ideal.Gen Idealize.ShloMosaic Idealize.ShloMosaic.TcCoe Idealize.SL.Sem

/-- One head's weight of an expert: the product of its two factors where the rank lies below the count, and zero elsewhere. -/
def weight (rank count first second : EReal) : EReal :=
  if rank < count then first * second else 0

/-- One head's weight of an expert, from the rows and the blocks loaded. -/
def gate (n a : FVec Ideal S1x1x512 .f32) (r b : FVec Ideal S1x128x512 .f32) (k : Fin 128) (q : Fin 512) : EReal :=
  weight (r (ix3 0 k q)) (n (ix3 0 0 q)) (a (ix3 0 0 q)) (b (ix3 0 k q))

/-- The exact Gaussian error linear unit of a hidden entry, times its gate. -/
def act (h w : EReal) : EReal :=
  Ideal.ofBits .f32 0x3F000000#32 * h * (1 + Ideal.erf (h * Ideal.ofBits .f32 0x3F3504F3#32)) * w

variable (u : FVec Ideal S512x1024 .bf16) (x : FVec Ideal S1024x512 .bf16)
  (n0 n1 n2 n3 n4 n5 n6 n7 a0 a1 a2 a3 a4 a5 a6 a7 : FVec Ideal S1x1x512 .f32)
  (r0 r1 r2 r3 r4 r5 r6 r7 b0 b1 b2 b3 b4 b5 b6 b7 : FVec Ideal S1x128x512 .f32)

/-- A hidden entry: a row of the experts' first matrix against a token's normalised row. -/
theorem hid_apply (s q : Fin 512) :
    k0_pay4 (F := Ideal) u x (ix2 s q) = ∑ d : Fin 1024, u (ix2 s d) * x (ix2 d q) := by
  pointwise [k0_pay4]

/-- The activation the point stores for the row `0` of its four rows of experts. -/
theorem act0_apply (n : Fin 128) (q : Fin 512) :
    k0_pay19 (F := Ideal) (k0_pay4 (F := Ideal) u x) (k0_pay15 (F := Ideal) (k0_pay12 (F := Ideal) (k0_pay8 (F := Ideal) (k0_pay5 (F := Ideal) n0 a0 r0 b0) (k0_pay6 (F := Ideal) n1) (k0_pay7 (F := Ideal) a1) r1 b1 n2 a2 r2 b2) (k0_pay9 (F := Ideal) n3) (k0_pay10 (F := Ideal) a3) (k0_pay11 (F := Ideal) r3) b3 n4 a4 r4 b4) (k0_pay13 (F := Ideal) a5) (k0_pay14 (F := Ideal) n5 r5) b5 n6 a6 r6 b6) (k0_pay16 (F := Ideal) n7 r7) (k0_pay17 (F := Ideal) b7) (k0_pay18 (F := Ideal) a7) (ix2 n q)
      = act (∑ d : Fin 1024, u (ix2 ⟨0 + n.val, by have := n.isLt; omega⟩ d) * x (ix2 d q))
          (gate n0 a0 r0 b0 n q + gate n1 a1 r1 b1 n q + gate n2 a2 r2 b2 n q + gate n3 a3 r3 b3 n q + gate n4 a4 r4 b4 n q
            + gate n5 a5 r5 b5 n q + gate n6 a6 r6 b6 n q + gate n7 a7 r7 b7 n q) := by
  pointwise [k0_pay5, k0_pay6, k0_pay7, k0_pay8, k0_pay9, k0_pay10, k0_pay11, k0_pay12, k0_pay13, k0_pay14, k0_pay15, k0_pay16, k0_pay17, k0_pay18, k0_pay19]
  simp only [hid_apply, Ideal.erf_def]
  rfl

/-- The activation the point stores for the row `1` of its four rows of experts. -/
theorem act1_apply (n : Fin 128) (q : Fin 512) :
    k0_pay30 (F := Ideal) (k0_pay4 (F := Ideal) u x) (k0_pay26 (F := Ideal) (k0_pay23 (F := Ideal) (k0_pay21 (F := Ideal) (k0_pay20 (F := Ideal) n0 a0 r0 b0) n1 a1 r1 b1 n2 a2 r2 b2) (k0_pay22 (F := Ideal) n3) a3 r3 b3 n4 a4 r4 b4) (k0_pay24 (F := Ideal) n5) (k0_pay25 (F := Ideal) a5) r5 b5 n6 a6 r6 b6) (k0_pay27 (F := Ideal) a7) (k0_pay28 (F := Ideal) r7) (k0_pay29 (F := Ideal) n7) b7 (ix2 n q)
      = act (∑ d : Fin 1024, u (ix2 ⟨128 + n.val, by have := n.isLt; omega⟩ d) * x (ix2 d q))
          (gate n0 a0 r0 b0 n q + gate n1 a1 r1 b1 n q + gate n2 a2 r2 b2 n q + gate n3 a3 r3 b3 n q + gate n4 a4 r4 b4 n q
            + gate n5 a5 r5 b5 n q + gate n6 a6 r6 b6 n q + gate n7 a7 r7 b7 n q) := by
  pointwise [k0_pay20, k0_pay21, k0_pay22, k0_pay23, k0_pay24, k0_pay25, k0_pay26, k0_pay27, k0_pay28, k0_pay29, k0_pay30]
  simp only [hid_apply, Ideal.erf_def]
  rfl

/-- The activation the point stores for the row `2` of its four rows of experts. -/
theorem act2_apply (n : Fin 128) (q : Fin 512) :
    k0_pay38 (F := Ideal) (k0_pay4 (F := Ideal) u x) (k0_pay36 (F := Ideal) (k0_pay34 (F := Ideal) (k0_pay33 (F := Ideal) (k0_pay31 (F := Ideal) n0 r0) (k0_pay32 (F := Ideal) a0 b0) n1 a1 r1 b1 n2 a2 r2 b2) n3 a3 r3 b3 n4 a4 r4 b4) (k0_pay35 (F := Ideal) n5) a5 r5 b5 n6 a6 r6 b6) (k0_pay37 (F := Ideal) n7) a7 r7 b7 (ix2 n q)
      = act (∑ d : Fin 1024, u (ix2 ⟨256 + n.val, by have := n.isLt; omega⟩ d) * x (ix2 d q))
          (gate n0 a0 r0 b0 n q + gate n1 a1 r1 b1 n q + gate n2 a2 r2 b2 n q + gate n3 a3 r3 b3 n q + gate n4 a4 r4 b4 n q
            + gate n5 a5 r5 b5 n q + gate n6 a6 r6 b6 n q + gate n7 a7 r7 b7 n q) := by
  pointwise [k0_pay31, k0_pay32, k0_pay33, k0_pay34, k0_pay35, k0_pay36, k0_pay37, k0_pay38]
  simp only [hid_apply, Ideal.erf_def]
  rfl

/-- The activation the point stores for the row `3` of its four rows of experts. -/
theorem act3_apply (n : Fin 128) (q : Fin 512) :
    k0_pay50 (F := Ideal) (k0_pay4 (F := Ideal) u x) (k0_pay49 (F := Ideal) (k0_pay45 (F := Ideal) (k0_pay41 (F := Ideal) (k0_pay39 (F := Ideal) a0) (k0_pay40 (F := Ideal) n0 r0) b0 n1 a1 r1 b1) (k0_pay42 (F := Ideal) a2) (k0_pay43 (F := Ideal) n2 r2) (k0_pay44 (F := Ideal) b2) n3 a3 r3 b3) (k0_pay46 (F := Ideal) n4 r4) (k0_pay47 (F := Ideal) a4 b4) k0_pay48 n5 a5 r5 b5 n6 a6 r6 b6) n7 a7 r7 b7 (ix2 n q)
      = act (∑ d : Fin 1024, u (ix2 ⟨384 + n.val, by have := n.isLt; omega⟩ d) * x (ix2 d q))
          (gate n0 a0 r0 b0 n q + gate n1 a1 r1 b1 n q + gate n2 a2 r2 b2 n q + gate n3 a3 r3 b3 n q + gate n4 a4 r4 b4 n q
            + gate n5 a5 r5 b5 n q + gate n6 a6 r6 b6 n q + gate n7 a7 r7 b7 n q) := by
  pointwise [k0_pay39, k0_pay40, k0_pay41, k0_pay42, k0_pay43, k0_pay44, k0_pay45, k0_pay46, k0_pay47, k0_pay48, k0_pay49, k0_pay50]
  simp only [hid_apply, Ideal.erf_def]
  rfl

/-- The accumulator after a point: what it held, and a row of the second matrix against the point's activations. -/
theorem acc_apply (acc : FVec Ideal S1024x512 .f32) (v : FVec Ideal S1024x512 .bf16) (p : FVec Ideal S512x512 .bf16) (j : Fin 1024) (q : Fin 512) :
    k0_pay1 (F := Ideal) (k0_pay51 acc v p) (ix2 j q) = acc (ix2 j q) + ∑ s : Fin 512, v (ix2 j s) * p (ix2 s q) := by
  pointwise [k0_pay1, k0_pay51]

/-- The accumulator a sequence of points begins at. -/
theorem zero_apply (j : Fin 1024) (q : Fin 512) : k0_pay3 (F := Ideal) (ix2 j q) = 0 := by
  pointwise [k0_pay3]

/-- The block stored at the last point: the residual stream and the accumulator turned. -/
theorem out_apply (h : FVec Ideal S512x1024 .f32) (acc : FVec Ideal S1024x512 .f32) (q : Fin 512) (j : Fin 1024) :
    k0_pay2 (F := Ideal) h acc (ix2 q j) = h (ix2 q j) + acc (ix2 j q) := by
  pointwise [k0_pay2]

end Cert.Ex
-- ==== Proof.ExpReference.lean ====
/-
  The experts: what the reference's result holds, entry by entry.
-/
module

public import proofs.«01_k».proof.Proof.ExpKernel
public import proofs.«01_k».proof.Proof.Gen.Reference2Ideal.Run
public import Idealize.ShloMosaic.Lib.Pointwise
public import Idealize.ShloMosaic.Lib.StableHlo.ReadAt
public import Idealize.ShloMosaic.PureOps.Ideal.Laws

@[expose] public section

set_option maxRecDepth 16384

noncomputable section

namespace Cert.Ex

open Cert.Reference2Ideal Cert.Reference2Ideal.Gen Idealize.ShloMosaic Idealize.ShloMosaic.TcCoe Idealize.SL.Sem

variable (XN : FVec Ideal S16384x1024 .f32) (U V : FVec Ideal S1x16384x1024 .f32) (GA GN GB GR : FVec Ideal S8x128x16384 .f32)
  (H : FVec Ideal S16384x1024 .f32)

/-- A hidden entry: a token's normalised row against an expert's row. -/
def hidden (i s : Fin 16384) : EReal := ∑ d : Fin 1024, XN (ix2 i d) * U (ix3 0 s d)

/-- The row and the column of an expert in the square of experts. -/
def row (s : Fin 16384) : Fin 128 := ⟨s.val / 128, by have := s.isLt; omega⟩
def col (s : Fin 16384) : Fin 128 := ⟨s.val % 128, by omega⟩

/-- A token's weight of an expert: the sum over the heads. -/
def total (i s : Fin 16384) : EReal :=
  ∑ h : Fin 8, weight (GR (ix3 h (col s) i)) (GN (ix3 h (row s) i)) (GA (ix3 h (row s) i)) (GB (ix3 h (col s) i))

/-- What the experts give a token: every expert's activation times its row of the second matrix. -/
def given (i : Fin 16384) (j : Fin 1024) : EReal :=
  ∑ s : Fin 16384, act (hidden XN U i s) (total GA GN GB GR i s) * V (ix3 0 s j)

/-- The reference's hidden entries. -/
def hR : FVec Ideal S16384x16384 .f32 :=
  Host.dotGeneral dot_S16384x1024_S1024x16384_S16384x16384_1_0_0_1_n_n none XN (transpose S1024x16384 [1, 0] (shapeCast _ U shapeCasts_S1x16384x1024_S16384x1024) transposes_S16384x1024_S1024x16384_1_0)

theorem hR_apply (i s : Fin 16384) : hR XN U (ix2 i s) = hidden XN U i s := by
  pointwise [hR]
  rfl

/-- The reference's weights. -/
def wR : FVec Ideal S16384x16384 .f32 :=
  transpose S16384x16384 [1, 0] (shapeCast _ (Host.reduceAdd (select (cmpf .olt (broadcastInDim S8x128x128x16384 ![0, 1, 2, 3] bcast_S8x1x128x16384_S8x128x128x16384_0_1_2_3 (broadcastInDim S8x1x128x16384 ![0, 2, 3] bcast_S8x128x16384_S8x1x128x16384_0_2_3 GR)) (broadcastInDim S8x128x128x16384 ![0, 1, 2, 3] bcast_S8x128x1x16384_S8x128x128x16384_0_1_2_3 (broadcastInDim S8x128x1x16384 ![0, 1, 3] bcast_S8x128x16384_S8x128x1x16384_0_1_3 GN))) (mulf (broadcastInDim S8x128x128x16384 ![0, 1, 2, 3] bcast_S8x128x1x16384_S8x128x128x16384_0_1_2_3 (broadcastInDim S8x128x1x16384 ![0, 1, 3] bcast_S8x128x16384_S8x128x1x16384_0_1_3 GA)) (broadcastInDim S8x128x128x16384 ![0, 1, 2, 3] bcast_S8x1x128x16384_S8x128x128x16384_0_1_2_3 (broadcastInDim S8x1x128x16384 ![0, 2, 3] bcast_S8x128x16384_S8x1x128x16384_0_2_3 GB))) (broadcastInDim S8x128x128x16384 ![] bcast_S_S8x128x128x16384 (id (constant S_ .f32 0x00000000#32)))) (constant S_ .f32 0x00000000#32) reducesTo_S8x128x128x16384_S128x128x16384_d0 h_S_) shapeCasts_S128x128x16384_S16384x16384) transposes_S16384x16384_S16384x16384_1_0

theorem wR_apply (i s : Fin 16384) : wR GA GN GB GR (ix2 i s) = total GA GN GB GR i s := by
  pointwise [wR, id]
  rfl

/-- The reference's result. -/
def oR : FVec Ideal S16384x1024 .f32 :=
  addf H (Host.dotGeneral dot_S16384x16384_S16384x1024_S16384x1024_1_0_0_1_n_n none (mulf (mulf (mulf (broadcastInDim S16384x16384 ![] bcast_S_S16384x16384 (constant S_ .f32 0x3F000000#32)) (hR XN U)) (Host.erfc (mulf (Host.negf (hR XN U)) (broadcastInDim S16384x16384 ![] bcast_S_S16384x16384 (constant S_ .f32 0x3F3504F3#32))))) (wR GA GN GB GR)) (shapeCast _ V shapeCasts_S1x16384x1024_S16384x1024))

theorem oR_apply (i : Fin 16384) (j : Fin 1024) :
    oR XN U V GA GN GB GR H (ix2 i j) = H (ix2 i j) + given XN U V GA GN GB GR i j := by
  pointwise [oR]
  simp only [hR_apply, wR_apply]
  unfold given act
  simp only [Ideal.hostUnary_erfc_def, neg_mul, Ideal.erfc_neg]

end Cert.Ex
-- ==== Proof.ExpPoint.lean ====
/-
  The experts: the blocks the kernel is given at a point of the grid, and what the point adds to the accumulator.
-/
module

public import proofs.«01_k».proof.Proof.ExpKernel
public import proofs.«01_k».proof.Proof.ExpReference
public import proofs.«01_k».proof.Proof.Gen.Kernel2Ideal.Value
public import Idealize.ShloMosaic.Lib.Pipeline.ValueKit
public import Idealize.ShloMosaic.Lib.Pipeline.Covers

@[expose] public section

set_option maxRecDepth 16384

noncomputable section

namespace Cert.Ex

open Cert.Kernel2Ideal Cert.Kernel2Ideal.Gen Idealize.ShloMosaic Idealize.ShloMosaic.TcCoe Idealize.SL.Sem

/-- The grid point's block of tokens and its block of experts. -/
def gi (t : Fin cfg0.N) : Fin 32 := grid0.coords t 0
def ge (t : Fin cfg0.N) : Fin 32 := grid0.coords t 1

theorem gi_eq : ∀ t : Fin cfg0.N, (gi t).val = t.val / 32 := (by decide +kernel : ∀ t : Fin grid0.N, (grid0.coords t 0).val = t.val / 32)
theorem ge_eq : ∀ t : Fin cfg0.N, (ge t).val = t.val % 32 := (by decide +kernel : ∀ t : Fin grid0.N, (grid0.coords t 1).val = t.val % 32)

theorem idx0 : ∀ t : Fin cfg0.N, win0_0.index t = ![0, (gi t).val] := (by decide +kernel : ∀ t : Fin grid0.N, _)
theorem idx1 : ∀ t : Fin cfg0.N, win0_1.index t = ![(ge t).val, 0] := (by decide +kernel : ∀ t : Fin grid0.N, _)
theorem idx2 : ∀ t : Fin cfg0.N, win0_2.index t = ![0, (ge t).val] := (by decide +kernel : ∀ t : Fin grid0.N, _)
theorem idx3 : ∀ t : Fin cfg0.N, win0_3.index t = ![0, 0, (gi t).val] := (by decide +kernel : ∀ t : Fin grid0.N, _)
theorem idx4 : ∀ t : Fin cfg0.N, win0_4.index t = ![0, 0, (gi t).val] := (by decide +kernel : ∀ t : Fin grid0.N, _)
theorem idx5 : ∀ t : Fin cfg0.N, win0_5.index t = ![0, 0, (gi t).val] := (by decide +kernel : ∀ t : Fin grid0.N, _)
theorem idx6 : ∀ t : Fin cfg0.N, win0_6.index t = ![0, 0, (gi t).val] := (by decide +kernel : ∀ t : Fin grid0.N, _)
theorem idx7 : ∀ t : Fin cfg0.N, win0_7.index t = ![(gi t).val, 0] := (by decide +kernel : ∀ t : Fin grid0.N, _)
theorem idx8 : ∀ t : Fin cfg0.N, win0_8.index t = ![(gi t).val, 0] := (by decide +kernel : ∀ t : Fin grid0.N, _)

variable (m : (ℓ : Loc nD τ sig) → Buf (Elt Ideal) ℓ) (c : Dev nD) (t : Fin cfg0.N)

/-- The arguments. -/
abbrev ax : FVec Ideal S16384x1024 .f32 := m ((c.tc : Thread nD τ).loc main_arg0)
abbrev au : FVec Ideal S1x16384x1024 .f32 := m ((c.tc : Thread nD τ).loc main_arg1)
abbrev av : FVec Ideal S1x16384x1024 .f32 := m ((c.tc : Thread nD τ).loc main_arg2)
abbrev aa : FVec Ideal S8x128x16384 .f32 := m ((c.tc : Thread nD τ).loc main_arg3)
abbrev an : FVec Ideal S8x128x16384 .f32 := m ((c.tc : Thread nD τ).loc main_arg4)
abbrev ab : FVec Ideal S8x128x16384 .f32 := m ((c.tc : Thread nD τ).loc main_arg5)
abbrev ar : FVec Ideal S8x128x16384 .f32 := m ((c.tc : Thread nD τ).loc main_arg6)
abbrev ah : FVec Ideal S16384x1024 .f32 := m ((c.tc : Thread nD τ).loc main_arg7)

/-- The blocks at a grid point. -/
abbrev b0 : FVec Ideal S1024x512 .bf16 := iblk m c 0 t
abbrev b1 : FVec Ideal S512x1024 .bf16 := iblk m c 1 t
abbrev b2 : FVec Ideal S1024x512 .bf16 := iblk m c 2 t
abbrev b3 : FVec Ideal S8x128x512 .f32 := iblk m c 3 t
abbrev b4 : FVec Ideal S8x128x512 .f32 := iblk m c 4 t
abbrev b5 : FVec Ideal S8x128x512 .f32 := iblk m c 5 t
abbrev b6 : FVec Ideal S8x128x512 .f32 := iblk m c 6 t
abbrev b7 : FVec Ideal S512x1024 .f32 := iblk m c 7 t

/-- Token `q` of the grid point's block among all the tokens, and expert `s` of its block among all the experts. -/
def tok (q : Fin 512) : Fin 16384 := ⟨512 * (gi t).val + q.val, by have := (gi t).isLt; have := q.isLt; omega⟩
def exp (s : Fin 512) : Fin 16384 := ⟨512 * (ge t).val + s.val, by have := (ge t).isLt; have := s.isLt; omega⟩

theorem block0 (d : Fin 1024) (q : Fin 512) : b0 m c t (ix2 d q) = ax m c (ix2 (tok t q) d) := by
  refine Eq.trans (b := V m c main_v1 (ix2 d (tok t q))) ?_ ?_
  · blk_simp [iblk, idx0]
    refine congrArg (V m c main_v1) ?_
    unfold tok
    blk_ext [idx0 t]
  · unfold V
    after_reads_at
    try rfl

theorem block1 (s : Fin 512) (d : Fin 1024) : b1 m c t (ix2 s d) = au m c (ix3 0 (exp t s) d) := by
  refine Eq.trans (b := V m c main_v3 (ix2 (exp t s) d)) ?_ ?_
  · blk_simp [iblk, idx1]
    refine congrArg (V m c main_v3) ?_
    unfold exp
    blk_ext [idx1 t]
  · unfold V
    after_reads_at
    try rfl

theorem block2 (j : Fin 1024) (s : Fin 512) : b2 m c t (ix2 j s) = av m c (ix3 0 (exp t s) j) := by
  refine Eq.trans (b := V m c main_v6 (ix2 j (exp t s))) ?_ ?_
  · blk_simp [iblk, idx2]
    refine congrArg (V m c main_v6) ?_
    unfold exp
    blk_ext [idx2 t]
  · unfold V
    after_reads_at
    try rfl

theorem block3 (h : Fin 8) (k : Fin 128) (q : Fin 512) : b3 m c t (ix3 h k q) = aa m c (ix3 h k (tok t q)) := by
  refine Eq.trans (b := V m c main_arg3 (ix3 h k (tok t q))) ?_ (congrFun (V_main_arg3 m c) _)
  blk_simp [iblk, idx3]
  refine congrArg (V m c main_arg3) ?_
  unfold tok
  blk_ext [idx3 t]

theorem block4 (h : Fin 8) (k : Fin 128) (q : Fin 512) : b4 m c t (ix3 h k q) = an m c (ix3 h k (tok t q)) := by
  refine Eq.trans (b := V m c main_arg4 (ix3 h k (tok t q))) ?_ (congrFun (V_main_arg4 m c) _)
  blk_simp [iblk, idx4]
  refine congrArg (V m c main_arg4) ?_
  unfold tok
  blk_ext [idx4 t]

theorem block5 (h : Fin 8) (k : Fin 128) (q : Fin 512) : b5 m c t (ix3 h k q) = ab m c (ix3 h k (tok t q)) := by
  refine Eq.trans (b := V m c main_arg5 (ix3 h k (tok t q))) ?_ (congrFun (V_main_arg5 m c) _)
  blk_simp [iblk, idx5]
  refine congrArg (V m c main_arg5) ?_
  unfold tok
  blk_ext [idx5 t]

theorem block6 (h : Fin 8) (k : Fin 128) (q : Fin 512) : b6 m c t (ix3 h k q) = ar m c (ix3 h k (tok t q)) := by
  refine Eq.trans (b := V m c main_arg6 (ix3 h k (tok t q))) ?_ (congrFun (V_main_arg6 m c) _)
  blk_simp [iblk, idx6]
  refine congrArg (V m c main_arg6) ?_
  unfold tok
  blk_ext [idx6 t]

theorem block7 (q : Fin 512) (j : Fin 1024) : b7 m c t (ix2 q j) = ah m c (ix2 (tok t q) j) := by
  refine Eq.trans (b := V m c main_arg7 (ix2 (tok t q) j)) ?_ (congrFun (V_main_arg7 m c) _)
  blk_simp [iblk, idx7]
  refine congrArg (V m c main_arg7) ?_
  unfold tok
  blk_ext [idx7 t]

/-- A load of one row of one head. -/
theorem row_load (B : FVec Ideal S8x128x512 .f32) (off : Fin 3 → ℕ) (inb) (h : Fin 8) (a : Fin 128) (hoff : off = ![h.val, a.val, 0]) (q : Fin 512) :
    View.ld (Val := Elt Ideal) (e' := .f32) B (Rect.unit (s := S8x128x512) off S1x1x512.size inb) (ix3 (0 : Fin 1) (0 : Fin 1) q) = B (ix3 h a q) := by
  subst hoff
  pointwise []

/-- A load of one head's rows. -/
theorem head_load (B : FVec Ideal S8x128x512 .f32) (off : Fin 3 → ℕ) (inb) (h : Fin 8) (hoff : off = ![h.val, 0, 0]) (k : Fin 128) (q : Fin 512) :
    View.ld (Val := Elt Ideal) (e' := .f32) B (Rect.unit (s := S8x128x512) off S1x128x512.size inb) (ix3 (0 : Fin 1) k q) = B (ix3 h k q) := by
  subst hoff
  pointwise []

/-- One head's weight, from the loads of the point: row `a` of the point's heads against their whole blocks. -/
theorem gate_eq (h : Fin 8) (a k : Fin 128) (q : Fin 512) (on oa orr ob : Fin 3 → ℕ) (in1) (in2) (in3) (in4)
    (hn : on = ![h.val, a.val, 0]) (ha : oa = ![h.val, a.val, 0]) (hr : orr = ![h.val, 0, 0]) (hb : ob = ![h.val, 0, 0]) :
    gate (View.ld (Val := Elt Ideal) (e' := .f32) (b4 m c t) (Rect.unit (s := S8x128x512) on S1x1x512.size in1)) (View.ld (Val := Elt Ideal) (e' := .f32) (b3 m c t) (Rect.unit (s := S8x128x512) oa S1x1x512.size in2))
        (View.ld (Val := Elt Ideal) (e' := .f32) (b6 m c t) (Rect.unit (s := S8x128x512) orr S1x128x512.size in3)) (View.ld (Val := Elt Ideal) (e' := .f32) (b5 m c t) (Rect.unit (s := S8x128x512) ob S1x128x512.size in4)) k q
      = weight (ar m c (ix3 h k (tok t q))) (an m c (ix3 h a (tok t q))) (aa m c (ix3 h a (tok t q))) (ab m c (ix3 h k (tok t q))) := by
  unfold gate
  rw [← block3, ← block4, ← block5, ← block6]
  exact congr (congr (congrArg₂ weight (head_load (b6 m c t) orr in3 h hr k q) (row_load (b4 m c t) on in1 h a hn q))
    (row_load (b3 m c t) oa in2 h a ha q)) (head_load (b5 m c t) ob in4 h hb k q)

/-- A hidden entry, from the point's blocks. -/
theorem hidden_eq (s q : Fin 512) :
    (∑ d : Fin 1024, b1 m c t (ix2 s d) * b0 m c t (ix2 d q)) = hidden (ax m c) (au m c) (tok t q) (exp t s) := by
  unfold hidden
  refine Finset.sum_congr rfl fun d _ => ?_
  rw [block0, block1, mul_comm]

/-- An activation, in the arguments. -/
def activation (i s : Fin 16384) : EReal :=
  act (hidden (ax m c) (au m c) i s) (total (aa m c) (an m c) (ab m c) (ar m c) i s)

/-- The row of experts a point's loads read: row `al` of the point's four. -/
theorem off_eq : ∀ (e : Fin 32) (al : Fin 4),
    (Scalar.indexCast (Scalar.addi (Scalar.muli (BitVec.ofNat 32 e.val) 4#32) (BitVec.ofNat 32 al.val))).toNat = 4 * e.val + al.val := by
  decide +kernel

/-- The row of experts `al` of the point. -/
def erow (al : Fin 4) : Fin 128 := ⟨4 * (ge t).val + al.val, by have := (ge t).isLt; have := al.isLt; omega⟩

theorem row_exp (al : Fin 4) (n : Fin 128) (s : Fin 512) (hs : s.val = 128 * al.val + n.val) : row (exp t s) = erow t al := by
  refine Fin.ext ?_
  have := n.isLt
  show (512 * (ge t).val + s.val) / 128 = 4 * (ge t).val + al.val
  omega

theorem col_exp (al : Fin 4) (n : Fin 128) (s : Fin 512) (hs : s.val = 128 * al.val + n.val) : col (exp t s) = n := by
  refine Fin.ext ?_
  have := n.isLt
  show (512 * (ge t).val + s.val) % 128 = n.val
  omega

theorem off1_0 : k0_off1 (grid0.coords t) 0#32 = ![((0 : Fin 8)).val, (erow t 0).val, 0] :=
  congrArg (fun x => (![0, x, 0] : Fin 3 → ℕ)) (off_eq (ge t) 0)

theorem off2_0 : k0_off2 (grid0.coords t) 0#32 = ![((1 : Fin 8)).val, (erow t 0).val, 0] :=
  congrArg (fun x => (![1, x, 0] : Fin 3 → ℕ)) (off_eq (ge t) 0)

theorem off3_0 : k0_off3 (grid0.coords t) 0#32 = ![((2 : Fin 8)).val, (erow t 0).val, 0] :=
  congrArg (fun x => (![2, x, 0] : Fin 3 → ℕ)) (off_eq (ge t) 0)

theorem off4_0 : k0_off4 (grid0.coords t) 0#32 = ![((3 : Fin 8)).val, (erow t 0).val, 0] :=
  congrArg (fun x => (![3, x, 0] : Fin 3 → ℕ)) (off_eq (ge t) 0)

theorem off5_0 : k0_off5 (grid0.coords t) 0#32 = ![((4 : Fin 8)).val, (erow t 0).val, 0] :=
  congrArg (fun x => (![4, x, 0] : Fin 3 → ℕ)) (off_eq (ge t) 0)

theorem off6_0 : k0_off6 (grid0.coords t) 0#32 = ![((5 : Fin 8)).val, (erow t 0).val, 0] :=
  congrArg (fun x => (![5, x, 0] : Fin 3 → ℕ)) (off_eq (ge t) 0)

theorem off7_0 : k0_off7 (grid0.coords t) 0#32 = ![((6 : Fin 8)).val, (erow t 0).val, 0] :=
  congrArg (fun x => (![6, x, 0] : Fin 3 → ℕ)) (off_eq (ge t) 0)

theorem off8_0 : k0_off8 (grid0.coords t) 0#32 = ![((7 : Fin 8)).val, (erow t 0).val, 0] :=
  congrArg (fun x => (![7, x, 0] : Fin 3 → ℕ)) (off_eq (ge t) 0)

theorem off1_1 : k0_off1 (grid0.coords t) 1#32 = ![((0 : Fin 8)).val, (erow t 1).val, 0] :=
  congrArg (fun x => (![0, x, 0] : Fin 3 → ℕ)) (off_eq (ge t) 1)

theorem off2_1 : k0_off2 (grid0.coords t) 1#32 = ![((1 : Fin 8)).val, (erow t 1).val, 0] :=
  congrArg (fun x => (![1, x, 0] : Fin 3 → ℕ)) (off_eq (ge t) 1)

theorem off3_1 : k0_off3 (grid0.coords t) 1#32 = ![((2 : Fin 8)).val, (erow t 1).val, 0] :=
  congrArg (fun x => (![2, x, 0] : Fin 3 → ℕ)) (off_eq (ge t) 1)

theorem off4_1 : k0_off4 (grid0.coords t) 1#32 = ![((3 : Fin 8)).val, (erow t 1).val, 0] :=
  congrArg (fun x => (![3, x, 0] : Fin 3 → ℕ)) (off_eq (ge t) 1)

theorem off5_1 : k0_off5 (grid0.coords t) 1#32 = ![((4 : Fin 8)).val, (erow t 1).val, 0] :=
  congrArg (fun x => (![4, x, 0] : Fin 3 → ℕ)) (off_eq (ge t) 1)

theorem off6_1 : k0_off6 (grid0.coords t) 1#32 = ![((5 : Fin 8)).val, (erow t 1).val, 0] :=
  congrArg (fun x => (![5, x, 0] : Fin 3 → ℕ)) (off_eq (ge t) 1)

theorem off7_1 : k0_off7 (grid0.coords t) 1#32 = ![((6 : Fin 8)).val, (erow t 1).val, 0] :=
  congrArg (fun x => (![6, x, 0] : Fin 3 → ℕ)) (off_eq (ge t) 1)

theorem off8_1 : k0_off8 (grid0.coords t) 1#32 = ![((7 : Fin 8)).val, (erow t 1).val, 0] :=
  congrArg (fun x => (![7, x, 0] : Fin 3 → ℕ)) (off_eq (ge t) 1)

theorem off1_2 : k0_off1 (grid0.coords t) 2#32 = ![((0 : Fin 8)).val, (erow t 2).val, 0] :=
  congrArg (fun x => (![0, x, 0] : Fin 3 → ℕ)) (off_eq (ge t) 2)

theorem off2_2 : k0_off2 (grid0.coords t) 2#32 = ![((1 : Fin 8)).val, (erow t 2).val, 0] :=
  congrArg (fun x => (![1, x, 0] : Fin 3 → ℕ)) (off_eq (ge t) 2)

theorem off3_2 : k0_off3 (grid0.coords t) 2#32 = ![((2 : Fin 8)).val, (erow t 2).val, 0] :=
  congrArg (fun x => (![2, x, 0] : Fin 3 → ℕ)) (off_eq (ge t) 2)

theorem off4_2 : k0_off4 (grid0.coords t) 2#32 = ![((3 : Fin 8)).val, (erow t 2).val, 0] :=
  congrArg (fun x => (![3, x, 0] : Fin 3 → ℕ)) (off_eq (ge t) 2)

theorem off5_2 : k0_off5 (grid0.coords t) 2#32 = ![((4 : Fin 8)).val, (erow t 2).val, 0] :=
  congrArg (fun x => (![4, x, 0] : Fin 3 → ℕ)) (off_eq (ge t) 2)

theorem off6_2 : k0_off6 (grid0.coords t) 2#32 = ![((5 : Fin 8)).val, (erow t 2).val, 0] :=
  congrArg (fun x => (![5, x, 0] : Fin 3 → ℕ)) (off_eq (ge t) 2)

theorem off7_2 : k0_off7 (grid0.coords t) 2#32 = ![((6 : Fin 8)).val, (erow t 2).val, 0] :=
  congrArg (fun x => (![6, x, 0] : Fin 3 → ℕ)) (off_eq (ge t) 2)

theorem off8_2 : k0_off8 (grid0.coords t) 2#32 = ![((7 : Fin 8)).val, (erow t 2).val, 0] :=
  congrArg (fun x => (![7, x, 0] : Fin 3 → ℕ)) (off_eq (ge t) 2)

theorem off1_3 : k0_off1 (grid0.coords t) 3#32 = ![((0 : Fin 8)).val, (erow t 3).val, 0] :=
  congrArg (fun x => (![0, x, 0] : Fin 3 → ℕ)) (off_eq (ge t) 3)

theorem off2_3 : k0_off2 (grid0.coords t) 3#32 = ![((1 : Fin 8)).val, (erow t 3).val, 0] :=
  congrArg (fun x => (![1, x, 0] : Fin 3 → ℕ)) (off_eq (ge t) 3)

theorem off3_3 : k0_off3 (grid0.coords t) 3#32 = ![((2 : Fin 8)).val, (erow t 3).val, 0] :=
  congrArg (fun x => (![2, x, 0] : Fin 3 → ℕ)) (off_eq (ge t) 3)

theorem off4_3 : k0_off4 (grid0.coords t) 3#32 = ![((3 : Fin 8)).val, (erow t 3).val, 0] :=
  congrArg (fun x => (![3, x, 0] : Fin 3 → ℕ)) (off_eq (ge t) 3)

theorem off5_3 : k0_off5 (grid0.coords t) 3#32 = ![((4 : Fin 8)).val, (erow t 3).val, 0] :=
  congrArg (fun x => (![4, x, 0] : Fin 3 → ℕ)) (off_eq (ge t) 3)

theorem off6_3 : k0_off6 (grid0.coords t) 3#32 = ![((5 : Fin 8)).val, (erow t 3).val, 0] :=
  congrArg (fun x => (![5, x, 0] : Fin 3 → ℕ)) (off_eq (ge t) 3)

theorem off7_3 : k0_off7 (grid0.coords t) 3#32 = ![((6 : Fin 8)).val, (erow t 3).val, 0] :=
  congrArg (fun x => (![6, x, 0] : Fin 3 → ℕ)) (off_eq (ge t) 3)

theorem off8_3 : k0_off8 (grid0.coords t) 3#32 = ![((7 : Fin 8)).val, (erow t 3).val, 0] :=
  congrArg (fun x => (![7, x, 0] : Fin 3 → ℕ)) (off_eq (ge t) 3)

end Cert.Ex
-- ==== Proof.ExpArray.lean ====
/-
  The experts' result array: at every entry what the reference's holds.
-/
module

public import proofs.«01_k».proof.Proof.ExpPoint
public import Idealize.ShloMosaic.Lib.Pipeline.ReadBack

@[expose] public section

set_option maxRecDepth 16384

noncomputable section

namespace Cert.Ex

open Cert.Kernel2Ideal Cert.Kernel2Ideal.Gen Idealize.ShloMosaic Idealize.ShloMosaic.TcCoe Idealize.SL.Sem

variable (m : (ℓ : Loc nD τ sig) → Buf (Elt Ideal) ℓ) (c : Dev nD) (t : Fin cfg0.N)

/-- An activation of the point's row `al` of experts: the eight heads' weights are added one after another. -/
theorem act_eq (al : Fin 4) (n : Fin 128) (q s : Fin 512) (hs : s.val = 128 * al.val + n.val) (x g0 g1 g2 g3 g4 g5 g6 g7 : EReal)
    (hx : x = ∑ d : Fin 1024, b1 m c t (ix2 s d) * b0 m c t (ix2 d q))
    (h0 : g0 = weight (ar m c (ix3 0 n (tok t q))) (an m c (ix3 0 (erow t al) (tok t q))) (aa m c (ix3 0 (erow t al) (tok t q))) (ab m c (ix3 0 n (tok t q))))
    (h1 : g1 = weight (ar m c (ix3 1 n (tok t q))) (an m c (ix3 1 (erow t al) (tok t q))) (aa m c (ix3 1 (erow t al) (tok t q))) (ab m c (ix3 1 n (tok t q))))
    (h2 : g2 = weight (ar m c (ix3 2 n (tok t q))) (an m c (ix3 2 (erow t al) (tok t q))) (aa m c (ix3 2 (erow t al) (tok t q))) (ab m c (ix3 2 n (tok t q))))
    (h3 : g3 = weight (ar m c (ix3 3 n (tok t q))) (an m c (ix3 3 (erow t al) (tok t q))) (aa m c (ix3 3 (erow t al) (tok t q))) (ab m c (ix3 3 n (tok t q))))
    (h4 : g4 = weight (ar m c (ix3 4 n (tok t q))) (an m c (ix3 4 (erow t al) (tok t q))) (aa m c (ix3 4 (erow t al) (tok t q))) (ab m c (ix3 4 n (tok t q))))
    (h5 : g5 = weight (ar m c (ix3 5 n (tok t q))) (an m c (ix3 5 (erow t al) (tok t q))) (aa m c (ix3 5 (erow t al) (tok t q))) (ab m c (ix3 5 n (tok t q))))
    (h6 : g6 = weight (ar m c (ix3 6 n (tok t q))) (an m c (ix3 6 (erow t al) (tok t q))) (aa m c (ix3 6 (erow t al) (tok t q))) (ab m c (ix3 6 n (tok t q))))
    (h7 : g7 = weight (ar m c (ix3 7 n (tok t q))) (an m c (ix3 7 (erow t al) (tok t q))) (aa m c (ix3 7 (erow t al) (tok t q))) (ab m c (ix3 7 n (tok t q)))) :
    act x (g0 + g1 + g2 + g3 + g4 + g5 + g6 + g7) = activation m c (tok t q) (exp t s) := by
  unfold activation
  rw [hx, hidden_eq, h0, h1, h2, h3, h4, h5, h6, h7]
  refine congrArg (act _) ?_
  unfold total
  rw [row_exp t al n s hs, col_exp t al n s hs, Fin.sum_univ_eight]

/-- A piece of the activations, rows `128 al` and on, is the point's activations at those rows. -/
theorem piece (al : Fin 4) (P : FVec Ideal S128x512 .bf16) (x : S128x512.Idx) (a b : Fin 512)
    (h : ∀ (n : Fin 128) (q : Fin 512), P (ix2 n q) = activation m c (tok t q) (exp t ⟨128 * al.val + n.val, by have := al.isLt; have := n.isLt; omega⟩))
    (ha : a.val = 128 * al.val + 1 * (x 0 : Fin 128).val) (hb : b.val = 0 + 1 * (x 1 : Fin 512).val) :
    P x = activation m c (tok t b) (exp t a) := by
  obtain ⟨n, q, rfl⟩ : ∃ (n : Fin 128) (q : Fin 512), x = ix2 n q := ⟨x 0, x 1, by funext a; fin_cases a <;> rfl⟩
  obtain rfl : b = q := Fin.ext (by rw [hb]; show 0 + 1 * q.val = _; omega)
  rw [h]
  refine congrArg (fun a => activation m c (tok t b) (exp t a)) (Fin.ext ?_)
  rw [ha]
  show 128 * al.val + n.val = 128 * al.val + 1 * n.val
  omega

/-- What a point adds to the accumulator. -/
def added (j : Fin 1024) (q : Fin 512) : EReal :=
  ∑ s : Fin 512, av m c (ix3 0 (exp t s) j) * activation m c (tok t q) (exp t s)

/-- The activations read back whole: the four pieces the point stores. -/
theorem acts_read (v : View sig .tc .vmem S512x512 .bf16) (P0 P1 P2 P3 : FVec Ideal S128x512 .bf16) (in0) (in1) (in2) (in3) (inw)
    (h0 : ∀ (n : Fin 128) (q : Fin 512), P0 (ix2 n q) = activation m c (tok t q) (exp t ⟨128 * (0 : Fin 4).val + n.val, by have := n.isLt; have := (0 : Fin 4).isLt; omega⟩))
    (h1 : ∀ (n : Fin 128) (q : Fin 512), P1 (ix2 n q) = activation m c (tok t q) (exp t ⟨128 * (1 : Fin 4).val + n.val, by have := n.isLt; have := (1 : Fin 4).isLt; omega⟩))
    (h2 : ∀ (n : Fin 128) (q : Fin 512), P2 (ix2 n q) = activation m c (tok t q) (exp t ⟨128 * (2 : Fin 4).val + n.val, by have := n.isLt; have := (2 : Fin 4).isLt; omega⟩))
    (h3 : ∀ (n : Fin 128) (q : Fin 512), P3 (ix2 n q) = activation m c (tok t q) (exp t ⟨128 * (3 : Fin 4).val + n.val, by have := n.isLt; have := (3 : Fin 4).isLt; omega⟩))
    (s q : Fin 512) :
    View.readCov (Val := Elt Ideal) v [⟨Rect.unit (s := S512x512) ![384, 0] S128x512.size in3, P3⟩, ⟨Rect.unit (s := S512x512) ![256, 0] S128x512.size in2, P2⟩,
        ⟨Rect.unit (s := S512x512) ![128, 0] S128x512.size in1, P1⟩, ⟨Rect.unit (s := S512x512) ![0, 0] S128x512.size in0, P0⟩]
      (Rect.unit (s := S512x512) ![0, 0] S512x512.size inw).toLoadRect (ix2 s q) = activation m c (tok t q) (exp t s) := by
  rw [View.readCov_eq_canon']
  refine (View.canon_apply_of_pieces (fun y => activation m c (tok t (y 1)) (exp t (y 0))) _ ?_ _ ?_).trans ?_
  · intro p hp x
    simp only [List.mem_cons, List.not_mem_nil, or_false] at hp
    rcases hp with rfl | rfl | rfl | rfl
    · exact piece m c t 3 P3 x _ _ h3 rfl rfl
    · exact piece m c t 2 P2 x _ _ h2 rfl rfl
    · exact piece m c t 1 P1 x _ _ h1 rfl rfl
    · exact piece m c t 0 P0 x _ _ h0 rfl rfl
  · refine View.cover_of_tiledL _ ![128, 512] ?_ _
    rfl
  · refine congrArg₂ (fun a b => activation m c (tok t a) (exp t b)) (Fin.ext ?_) (Fin.ext ?_)
    · show 0 + 1 * q.val = q.val
      omega
    · show 0 + 1 * s.val = s.val
      omega

/-- The first point of a block of tokens begins the accumulator. -/
theorem step_A (h0 : t.val % 32 = 0) (j : Fin 1024) (q : Fin 512) :
    (outsAt0 m c t.val t.isLt).2 (ix2 j q) = 0 + added m c t j q := by
  rw [outsAt0_A m c t h0 (by omega)]
  dsimp only
  frame_open
  simp (disch := decide) only [↓ View.readCov_skip, ↓ View.readCov_cons_toLoadRect, ↓ View.readCov_fill]
  frame_out
  refine (acc_apply _ _ _ j q).trans ?_
  refine congrArg₂ (fun x y : EReal => x + y) ?_ ?_
  · exact zero_apply j q
  · unfold added
    refine Finset.sum_congr rfl fun s _ => ?_
    refine congrArg₂ (fun x y : EReal => x * y) (block2 m c t j s) ?_
    refine acts_read m c t _ _ _ _ _ _ _ _ _ _ ?_ ?_ ?_ ?_ s q
    · refine fun n q => (act0_apply ..).trans (act_eq m c t 0 n q _ rfl _ _ _ _ _ _ _ _ _ rfl ?_ ?_ ?_ ?_ ?_ ?_ ?_ ?_)
      · exact gate_eq m c t 0 (erow t 0) n q _ _ _ _ _ _ _ _ (off1_0 t) (off1_0 t) rfl rfl
      · exact gate_eq m c t 1 (erow t 0) n q _ _ _ _ _ _ _ _ (off2_0 t) (off2_0 t) rfl rfl
      · exact gate_eq m c t 2 (erow t 0) n q _ _ _ _ _ _ _ _ (off3_0 t) (off3_0 t) rfl rfl
      · exact gate_eq m c t 3 (erow t 0) n q _ _ _ _ _ _ _ _ (off4_0 t) (off4_0 t) rfl rfl
      · exact gate_eq m c t 4 (erow t 0) n q _ _ _ _ _ _ _ _ (off5_0 t) (off5_0 t) rfl rfl
      · exact gate_eq m c t 5 (erow t 0) n q _ _ _ _ _ _ _ _ (off6_0 t) (off6_0 t) rfl rfl
      · exact gate_eq m c t 6 (erow t 0) n q _ _ _ _ _ _ _ _ (off7_0 t) (off7_0 t) rfl rfl
      · exact gate_eq m c t 7 (erow t 0) n q _ _ _ _ _ _ _ _ (off8_0 t) (off8_0 t) rfl rfl
    · refine fun n q => (act1_apply ..).trans (act_eq m c t 1 n q _ rfl _ _ _ _ _ _ _ _ _ rfl ?_ ?_ ?_ ?_ ?_ ?_ ?_ ?_)
      · exact gate_eq m c t 0 (erow t 1) n q _ _ _ _ _ _ _ _ (off1_1 t) (off1_1 t) rfl rfl
      · exact gate_eq m c t 1 (erow t 1) n q _ _ _ _ _ _ _ _ (off2_1 t) (off2_1 t) rfl rfl
      · exact gate_eq m c t 2 (erow t 1) n q _ _ _ _ _ _ _ _ (off3_1 t) (off3_1 t) rfl rfl
      · exact gate_eq m c t 3 (erow t 1) n q _ _ _ _ _ _ _ _ (off4_1 t) (off4_1 t) rfl rfl
      · exact gate_eq m c t 4 (erow t 1) n q _ _ _ _ _ _ _ _ (off5_1 t) (off5_1 t) rfl rfl
      · exact gate_eq m c t 5 (erow t 1) n q _ _ _ _ _ _ _ _ (off6_1 t) (off6_1 t) rfl rfl
      · exact gate_eq m c t 6 (erow t 1) n q _ _ _ _ _ _ _ _ (off7_1 t) (off7_1 t) rfl rfl
      · exact gate_eq m c t 7 (erow t 1) n q _ _ _ _ _ _ _ _ (off8_1 t) (off8_1 t) rfl rfl
    · refine fun n q => (act2_apply ..).trans (act_eq m c t 2 n q _ rfl _ _ _ _ _ _ _ _ _ rfl ?_ ?_ ?_ ?_ ?_ ?_ ?_ ?_)
      · exact gate_eq m c t 0 (erow t 2) n q _ _ _ _ _ _ _ _ (off1_2 t) (off1_2 t) rfl rfl
      · exact gate_eq m c t 1 (erow t 2) n q _ _ _ _ _ _ _ _ (off2_2 t) (off2_2 t) rfl rfl
      · exact gate_eq m c t 2 (erow t 2) n q _ _ _ _ _ _ _ _ (off3_2 t) (off3_2 t) rfl rfl
      · exact gate_eq m c t 3 (erow t 2) n q _ _ _ _ _ _ _ _ (off4_2 t) (off4_2 t) rfl rfl
      · exact gate_eq m c t 4 (erow t 2) n q _ _ _ _ _ _ _ _ (off5_2 t) (off5_2 t) rfl rfl
      · exact gate_eq m c t 5 (erow t 2) n q _ _ _ _ _ _ _ _ (off6_2 t) (off6_2 t) rfl rfl
      · exact gate_eq m c t 6 (erow t 2) n q _ _ _ _ _ _ _ _ (off7_2 t) (off7_2 t) rfl rfl
      · exact gate_eq m c t 7 (erow t 2) n q _ _ _ _ _ _ _ _ (off8_2 t) (off8_2 t) rfl rfl
    · refine fun n q => (act3_apply ..).trans (act_eq m c t 3 n q _ rfl _ _ _ _ _ _ _ _ _ rfl ?_ ?_ ?_ ?_ ?_ ?_ ?_ ?_)
      · exact gate_eq m c t 0 (erow t 3) n q _ _ _ _ _ _ _ _ (off1_3 t) (off1_3 t) rfl rfl
      · exact gate_eq m c t 1 (erow t 3) n q _ _ _ _ _ _ _ _ (off2_3 t) (off2_3 t) rfl rfl
      · exact gate_eq m c t 2 (erow t 3) n q _ _ _ _ _ _ _ _ (off3_3 t) (off3_3 t) rfl rfl
      · exact gate_eq m c t 3 (erow t 3) n q _ _ _ _ _ _ _ _ (off4_3 t) (off4_3 t) rfl rfl
      · exact gate_eq m c t 4 (erow t 3) n q _ _ _ _ _ _ _ _ (off5_3 t) (off5_3 t) rfl rfl
      · exact gate_eq m c t 5 (erow t 3) n q _ _ _ _ _ _ _ _ (off6_3 t) (off6_3 t) rfl rfl
      · exact gate_eq m c t 6 (erow t 3) n q _ _ _ _ _ _ _ _ (off7_3 t) (off7_3 t) rfl rfl
      · exact gate_eq m c t 7 (erow t 3) n q _ _ _ _ _ _ _ _ (off8_3 t) (off8_3 t) rfl rfl

/-- Each further point adds to it. -/
theorem step_B (h0 : ¬t.val % 32 = 0) (h1 : ¬t.val % 32 = 31) (j : Fin 1024) (q : Fin 512) :
    (outsAt0 m c t.val t.isLt).2 (ix2 j q)
      = (outsAt0 m c (t.val - 1) (Nat.lt_of_le_of_lt (Nat.sub_le _ _) t.isLt)).2 (ix2 j q) + added m c t j q := by
  rw [outsAt0_B m c t h0 h1]
  dsimp only
  frame_out
  refine (acc_apply _ _ _ j q).trans ?_
  refine congrArg₂ (fun x y : EReal => x + y) ?_ ?_
  · rw [read_unread_whole]
  · unfold added
    refine Finset.sum_congr rfl fun s _ => ?_
    refine congrArg₂ (fun x y : EReal => x * y) (block2 m c t j s) ?_
    refine acts_read m c t _ _ _ _ _ _ _ _ _ _ ?_ ?_ ?_ ?_ s q
    · refine fun n q => (act0_apply ..).trans (act_eq m c t 0 n q _ rfl _ _ _ _ _ _ _ _ _ rfl ?_ ?_ ?_ ?_ ?_ ?_ ?_ ?_)
      · exact gate_eq m c t 0 (erow t 0) n q _ _ _ _ _ _ _ _ (off1_0 t) (off1_0 t) rfl rfl
      · exact gate_eq m c t 1 (erow t 0) n q _ _ _ _ _ _ _ _ (off2_0 t) (off2_0 t) rfl rfl
      · exact gate_eq m c t 2 (erow t 0) n q _ _ _ _ _ _ _ _ (off3_0 t) (off3_0 t) rfl rfl
      · exact gate_eq m c t 3 (erow t 0) n q _ _ _ _ _ _ _ _ (off4_0 t) (off4_0 t) rfl rfl
      · exact gate_eq m c t 4 (erow t 0) n q _ _ _ _ _ _ _ _ (off5_0 t) (off5_0 t) rfl rfl
      · exact gate_eq m c t 5 (erow t 0) n q _ _ _ _ _ _ _ _ (off6_0 t) (off6_0 t) rfl rfl
      · exact gate_eq m c t 6 (erow t 0) n q _ _ _ _ _ _ _ _ (off7_0 t) (off7_0 t) rfl rfl
      · exact gate_eq m c t 7 (erow t 0) n q _ _ _ _ _ _ _ _ (off8_0 t) (off8_0 t) rfl rfl
    · refine fun n q => (act1_apply ..).trans (act_eq m c t 1 n q _ rfl _ _ _ _ _ _ _ _ _ rfl ?_ ?_ ?_ ?_ ?_ ?_ ?_ ?_)
      · exact gate_eq m c t 0 (erow t 1) n q _ _ _ _ _ _ _ _ (off1_1 t) (off1_1 t) rfl rfl
      · exact gate_eq m c t 1 (erow t 1) n q _ _ _ _ _ _ _ _ (off2_1 t) (off2_1 t) rfl rfl
      · exact gate_eq m c t 2 (erow t 1) n q _ _ _ _ _ _ _ _ (off3_1 t) (off3_1 t) rfl rfl
      · exact gate_eq m c t 3 (erow t 1) n q _ _ _ _ _ _ _ _ (off4_1 t) (off4_1 t) rfl rfl
      · exact gate_eq m c t 4 (erow t 1) n q _ _ _ _ _ _ _ _ (off5_1 t) (off5_1 t) rfl rfl
      · exact gate_eq m c t 5 (erow t 1) n q _ _ _ _ _ _ _ _ (off6_1 t) (off6_1 t) rfl rfl
      · exact gate_eq m c t 6 (erow t 1) n q _ _ _ _ _ _ _ _ (off7_1 t) (off7_1 t) rfl rfl
      · exact gate_eq m c t 7 (erow t 1) n q _ _ _ _ _ _ _ _ (off8_1 t) (off8_1 t) rfl rfl
    · refine fun n q => (act2_apply ..).trans (act_eq m c t 2 n q _ rfl _ _ _ _ _ _ _ _ _ rfl ?_ ?_ ?_ ?_ ?_ ?_ ?_ ?_)
      · exact gate_eq m c t 0 (erow t 2) n q _ _ _ _ _ _ _ _ (off1_2 t) (off1_2 t) rfl rfl
      · exact gate_eq m c t 1 (erow t 2) n q _ _ _ _ _ _ _ _ (off2_2 t) (off2_2 t) rfl rfl
      · exact gate_eq m c t 2 (erow t 2) n q _ _ _ _ _ _ _ _ (off3_2 t) (off3_2 t) rfl rfl
      · exact gate_eq m c t 3 (erow t 2) n q _ _ _ _ _ _ _ _ (off4_2 t) (off4_2 t) rfl rfl
      · exact gate_eq m c t 4 (erow t 2) n q _ _ _ _ _ _ _ _ (off5_2 t) (off5_2 t) rfl rfl
      · exact gate_eq m c t 5 (erow t 2) n q _ _ _ _ _ _ _ _ (off6_2 t) (off6_2 t) rfl rfl
      · exact gate_eq m c t 6 (erow t 2) n q _ _ _ _ _ _ _ _ (off7_2 t) (off7_2 t) rfl rfl
      · exact gate_eq m c t 7 (erow t 2) n q _ _ _ _ _ _ _ _ (off8_2 t) (off8_2 t) rfl rfl
    · refine fun n q => (act3_apply ..).trans (act_eq m c t 3 n q _ rfl _ _ _ _ _ _ _ _ _ rfl ?_ ?_ ?_ ?_ ?_ ?_ ?_ ?_)
      · exact gate_eq m c t 0 (erow t 3) n q _ _ _ _ _ _ _ _ (off1_3 t) (off1_3 t) rfl rfl
      · exact gate_eq m c t 1 (erow t 3) n q _ _ _ _ _ _ _ _ (off2_3 t) (off2_3 t) rfl rfl
      · exact gate_eq m c t 2 (erow t 3) n q _ _ _ _ _ _ _ _ (off3_3 t) (off3_3 t) rfl rfl
      · exact gate_eq m c t 3 (erow t 3) n q _ _ _ _ _ _ _ _ (off4_3 t) (off4_3 t) rfl rfl
      · exact gate_eq m c t 4 (erow t 3) n q _ _ _ _ _ _ _ _ (off5_3 t) (off5_3 t) rfl rfl
      · exact gate_eq m c t 5 (erow t 3) n q _ _ _ _ _ _ _ _ (off6_3 t) (off6_3 t) rfl rfl
      · exact gate_eq m c t 6 (erow t 3) n q _ _ _ _ _ _ _ _ (off7_3 t) (off7_3 t) rfl rfl
      · exact gate_eq m c t 7 (erow t 3) n q _ _ _ _ _ _ _ _ (off8_3 t) (off8_3 t) rfl rfl

/-- So does the last, which then stores the block of the result. -/
theorem step_C (h1 : t.val % 32 = 31) (j : Fin 1024) (q : Fin 512) :
    (outsAt0 m c t.val t.isLt).2 (ix2 j q)
      = (outsAt0 m c (t.val - 1) (Nat.lt_of_le_of_lt (Nat.sub_le _ _) t.isLt)).2 (ix2 j q) + added m c t j q := by
  rw [outsAt0_C m c t (by omega) h1]
  dsimp only
  frame_out
  refine (acc_apply _ _ _ j q).trans ?_
  refine congrArg₂ (fun x y : EReal => x + y) ?_ ?_
  · rw [read_unread_whole]
  · unfold added
    refine Finset.sum_congr rfl fun s _ => ?_
    refine congrArg₂ (fun x y : EReal => x * y) (block2 m c t j s) ?_
    refine acts_read m c t _ _ _ _ _ _ _ _ _ _ ?_ ?_ ?_ ?_ s q
    · refine fun n q => (act0_apply ..).trans (act_eq m c t 0 n q _ rfl _ _ _ _ _ _ _ _ _ rfl ?_ ?_ ?_ ?_ ?_ ?_ ?_ ?_)
      · exact gate_eq m c t 0 (erow t 0) n q _ _ _ _ _ _ _ _ (off1_0 t) (off1_0 t) rfl rfl
      · exact gate_eq m c t 1 (erow t 0) n q _ _ _ _ _ _ _ _ (off2_0 t) (off2_0 t) rfl rfl
      · exact gate_eq m c t 2 (erow t 0) n q _ _ _ _ _ _ _ _ (off3_0 t) (off3_0 t) rfl rfl
      · exact gate_eq m c t 3 (erow t 0) n q _ _ _ _ _ _ _ _ (off4_0 t) (off4_0 t) rfl rfl
      · exact gate_eq m c t 4 (erow t 0) n q _ _ _ _ _ _ _ _ (off5_0 t) (off5_0 t) rfl rfl
      · exact gate_eq m c t 5 (erow t 0) n q _ _ _ _ _ _ _ _ (off6_0 t) (off6_0 t) rfl rfl
      · exact gate_eq m c t 6 (erow t 0) n q _ _ _ _ _ _ _ _ (off7_0 t) (off7_0 t) rfl rfl
      · exact gate_eq m c t 7 (erow t 0) n q _ _ _ _ _ _ _ _ (off8_0 t) (off8_0 t) rfl rfl
    · refine fun n q => (act1_apply ..).trans (act_eq m c t 1 n q _ rfl _ _ _ _ _ _ _ _ _ rfl ?_ ?_ ?_ ?_ ?_ ?_ ?_ ?_)
      · exact gate_eq m c t 0 (erow t 1) n q _ _ _ _ _ _ _ _ (off1_1 t) (off1_1 t) rfl rfl
      · exact gate_eq m c t 1 (erow t 1) n q _ _ _ _ _ _ _ _ (off2_1 t) (off2_1 t) rfl rfl
      · exact gate_eq m c t 2 (erow t 1) n q _ _ _ _ _ _ _ _ (off3_1 t) (off3_1 t) rfl rfl
      · exact gate_eq m c t 3 (erow t 1) n q _ _ _ _ _ _ _ _ (off4_1 t) (off4_1 t) rfl rfl
      · exact gate_eq m c t 4 (erow t 1) n q _ _ _ _ _ _ _ _ (off5_1 t) (off5_1 t) rfl rfl
      · exact gate_eq m c t 5 (erow t 1) n q _ _ _ _ _ _ _ _ (off6_1 t) (off6_1 t) rfl rfl
      · exact gate_eq m c t 6 (erow t 1) n q _ _ _ _ _ _ _ _ (off7_1 t) (off7_1 t) rfl rfl
      · exact gate_eq m c t 7 (erow t 1) n q _ _ _ _ _ _ _ _ (off8_1 t) (off8_1 t) rfl rfl
    · refine fun n q => (act2_apply ..).trans (act_eq m c t 2 n q _ rfl _ _ _ _ _ _ _ _ _ rfl ?_ ?_ ?_ ?_ ?_ ?_ ?_ ?_)
      · exact gate_eq m c t 0 (erow t 2) n q _ _ _ _ _ _ _ _ (off1_2 t) (off1_2 t) rfl rfl
      · exact gate_eq m c t 1 (erow t 2) n q _ _ _ _ _ _ _ _ (off2_2 t) (off2_2 t) rfl rfl
      · exact gate_eq m c t 2 (erow t 2) n q _ _ _ _ _ _ _ _ (off3_2 t) (off3_2 t) rfl rfl
      · exact gate_eq m c t 3 (erow t 2) n q _ _ _ _ _ _ _ _ (off4_2 t) (off4_2 t) rfl rfl
      · exact gate_eq m c t 4 (erow t 2) n q _ _ _ _ _ _ _ _ (off5_2 t) (off5_2 t) rfl rfl
      · exact gate_eq m c t 5 (erow t 2) n q _ _ _ _ _ _ _ _ (off6_2 t) (off6_2 t) rfl rfl
      · exact gate_eq m c t 6 (erow t 2) n q _ _ _ _ _ _ _ _ (off7_2 t) (off7_2 t) rfl rfl
      · exact gate_eq m c t 7 (erow t 2) n q _ _ _ _ _ _ _ _ (off8_2 t) (off8_2 t) rfl rfl
    · refine fun n q => (act3_apply ..).trans (act_eq m c t 3 n q _ rfl _ _ _ _ _ _ _ _ _ rfl ?_ ?_ ?_ ?_ ?_ ?_ ?_ ?_)
      · exact gate_eq m c t 0 (erow t 3) n q _ _ _ _ _ _ _ _ (off1_3 t) (off1_3 t) rfl rfl
      · exact gate_eq m c t 1 (erow t 3) n q _ _ _ _ _ _ _ _ (off2_3 t) (off2_3 t) rfl rfl
      · exact gate_eq m c t 2 (erow t 3) n q _ _ _ _ _ _ _ _ (off3_3 t) (off3_3 t) rfl rfl
      · exact gate_eq m c t 3 (erow t 3) n q _ _ _ _ _ _ _ _ (off4_3 t) (off4_3 t) rfl rfl
      · exact gate_eq m c t 4 (erow t 3) n q _ _ _ _ _ _ _ _ (off5_3 t) (off5_3 t) rfl rfl
      · exact gate_eq m c t 5 (erow t 3) n q _ _ _ _ _ _ _ _ (off6_3 t) (off6_3 t) rfl rfl
      · exact gate_eq m c t 6 (erow t 3) n q _ _ _ _ _ _ _ _ (off7_3 t) (off7_3 t) rfl rfl
      · exact gate_eq m c t 7 (erow t 3) n q _ _ _ _ _ _ _ _ (off8_3 t) (off8_3 t) rfl rfl

theorem last_C (h1 : t.val % 32 = 31) (q : Fin 512) (j : Fin 1024) :
    (outsAt0 m c t.val t.isLt).1 (ix2 q j) = ah m c (ix2 (tok t q) j) + (outsAt0 m c t.val t.isLt).2 (ix2 j q) := by
  rw [outsAt0_C m c t (by omega) h1]
  dsimp only
  frame_open
  simp (disch := decide) only [↓ View.readCov_skip, ↓ View.readCov_cons_toLoadRect, ↓ View.readCov_fill]
  frame_out
  refine (out_apply _ _ q j).trans ?_
  exact congrArg₂ (fun x y : EReal => x + y) (block7 m c t q j) rfl

/-- The two kinds of further points together. -/
theorem step (h0 : ¬t.val % 32 = 0) (j : Fin 1024) (q : Fin 512) :
    (outsAt0 m c t.val t.isLt).2 (ix2 j q)
      = (outsAt0 m c (t.val - 1) (Nat.lt_of_le_of_lt (Nat.sub_le _ _) t.isLt)).2 (ix2 j q) + added m c t j q := by
  by_cases h1 : t.val % 32 = 31
  · exact step_C m c t h1 j q
  · exact step_B m c t h0 h1 j q

/-- After the last point of a block of tokens the accumulator holds every expert's part. -/
theorem acc_last (h1 : t.val % 32 = 31) (j : Fin 1024) (q : Fin 512) :
    (outsAt0 m c t.val t.isLt).2 (ix2 j q) = given (ax m c) (au m c) (av m c) (aa m c) (an m c) (ab m c) (ar m c) (tok t q) j := by
  rw [Pipeline.eq_sum_fin_of_reset_step_apply_of_flush (fun n h => (outsAt0 m c n h).2) 32 (fun _ => (0 : EReal))
    (fun t (i : S1024x512.Idx) => added m c t (i 0) (i 1))
    (fun t h i => by
      obtain ⟨j, q, rfl⟩ : ∃ (j : Fin 1024) (q : Fin 512), i = ix2 j q := ⟨i 0, i 1, by funext a; fin_cases a <;> rfl⟩
      exact step_A m c t h j q)
    (fun t h i => by
      obtain ⟨j, q, rfl⟩ : ∃ (j : Fin 1024) (q : Fin 512), i = ix2 j q := ⟨i 0, i 1, by funext a; fin_cases a <;> rfl⟩
      exact step m c t h j q)
    t h1 (ix2 j q), zero_add]
  unfold given
  refine Fin.sum_mul_add_congr (fun s k hl => ?_)
  have hs := s.isLt
  have hk := k.isLt
  have ht : t.val < 1024 := t.isLt
  refine (mul_comm _ _).trans ?_
  have e : exp ⟨32 * (t.val / 32) + s.val, Pipeline.run_point_lt_of_flush t h1 s⟩ k = ⟨s.val * 512 + k.val, hl⟩ := by
    refine Fin.ext ?_
    show 512 * (ge _).val + k.val = s.val * 512 + k.val
    rw [ge_eq]
    show 512 * ((32 * (t.val / 32) + s.val) % 32) + k.val = _
    omega
  have f : tok ⟨32 * (t.val / 32) + s.val, Pipeline.run_point_lt_of_flush t h1 s⟩ q = tok t q := by
    refine Fin.ext ?_
    show 512 * (gi _).val + q.val = 512 * (gi t).val + q.val
    rw [gi_eq, gi_eq]
    show 512 * ((32 * (t.val / 32) + s.val) / 32) + q.val = _
    omega
  show activation m c (tok _ q) (exp _ k) * av m c (ix3 0 (exp _ k) j) = _
  rw [e, f]
  rfl

theorem covers8 : (cfg0.win 8).Covers := (cfg0.win 8).covers_of_indexMap_surj rfl (by decide) (by decide +kernel)

/-- The result array. -/
theorem array8 : (dats m 0 c).arrAt 8 cfg0.N = oR (ax m c) (au m c) (av m c) (aa m c) (an m c) (ab m c) (ar m c) (ah m c) := by
  refine (dats m 0 c).arrAt_eq_of_covers 8 _ covers8 fun t hf y => ?_
  have h1 : t.val % 32 = 31 := (flush0_8 t).mp hf
  blk_simp
  rw [after0_8]
  obtain ⟨q, j, rfl⟩ : ∃ (q : Fin 512) (j : Fin 1024), y = ix2 q j := ⟨y 0, y 1, by funext a; fin_cases a <;> rfl⟩
  refine ((last_C m c t h1 q j).trans ?_).trans (congrArg (oR (ax m c) (au m c) (av m c) (aa m c) (an m c) (ab m c) (ar m c) (ah m c)) (?_ : ix2 (tok t q) j = _))
  · rw [oR_apply, acc_last m c t h1 j q]
  · unfold tok
    blk_ext [idx8 t]

end Cert.Ex
-- ==== Proof.ExpClaim.lean ====
/-
  The experts' claims about values and about the reference's run.
-/
module

public import proofs.«01_k».proof.Defs
public import proofs.«01_k».proof.Proof.ExpArray
public import proofs.«01_k».proof.Proof.Gen.Kernel2Ideal
public import proofs.«01_k».proof.Proof.Gen.Reference2Ideal
public import Idealize.ShloMosaic.Adequacy

@[expose] public section

noncomputable section

namespace Cert.Ex

open Idealize.ShloMosaic Idealize.SL.Sem

/-- The reference runs, keeps its arguments, and leaves every counter at zero. -/
theorem quiescent_reference : Cert.quiescent_Reference2Ideal (hReference2Ideal := Cert.Reference2Ideal.Gen.facts) := fun m g _ =>
  (θ_run _ _ _).mono (fun r h => ⟨fun c => (h c).2, Idealize.ShloMosaic.sem_eq_zero_of_no_sems (by decide) r.2⟩)
    (Cert.Reference2Ideal.Value.run m g)

/-- The experts' kernel computes what the reference computes. -/
theorem algebraic : Cert.algebraic_Kernel2Ideal_Reference2Ideal (hKernel2Ideal := Cert.Kernel2Ideal.Gen.facts)
    (hReference2Ideal := Cert.Reference2Ideal.Gen.facts) := by
  intro m g m' g' _ hagree
  refine ⟨fun c => (Cert.Kernel2Ideal.Gen.dats m 0 c).arrAt 8 Cert.Kernel2Ideal.cfg0.N, Cert.Kernel2Ideal.Value.run_blocks m g,
    (θ_run _ _ _).mono (fun r h c => ?_) (Cert.Reference2Ideal.Value.run m' g')⟩
  obtain ⟨h0, h1⟩ := h c
  obtain ⟨a0, a1, a2, a3, a4, a5, a6, a7⟩ := hagree c
  refine ⟨h0.trans ?_, h1⟩
  refine Eq.trans ?_ (array8 m c).symm
  rw [a0, a1, a2, a3, a4, a5, a6, a7]
  rfl

end Cert.Ex
-- ==== Proof.OutKernel.lean ====
/-
  The out-projection, the experts' queries and their scores: what the kernel computes from the blocks it is given.
-/
module

public import proofs.«01_k».proof.Proof.Gen.Kernel3Ideal.Value
public import Idealize.ShloMosaic.Lib.Pointwise
public import Idealize.ShloMosaic.Lib.Pipeline.ValueKit

@[expose] public section

set_option maxRecDepth 16384

noncomputable section

namespace Cert.Op

open Cert.Kernel3Ideal Cert.Kernel3Ideal.Gen Idealize.ShloMosaic Idealize.ShloMosaic.TcCoe Idealize.SL.Sem

variable (x0 : FVec Ideal S512x1024 .f32) (x1 x2 : FVec Ideal S512x512 .bf16) (x3 : FVec Ideal S1024x1024 .bf16)
  (x4 : FVec Ideal S1x1024 .f32) (x5 : FVec Ideal S2048x1024 .bf16) (x6 : FVec Ideal S16x128x128 .bf16)

/-- The residual stream of a block of rows. -/
theorem pay2_apply (r : Fin 512) (j : Fin 1024) :
    k0_pay2 (F := Ideal) (View.ld x0 r0_0) (View.ld x1 r0_1) (View.ld x3 r0_2) (View.ld x2 r0_1) (View.ld x3 r0_3) (ix2 r j)
      = x0 (ix2 r j) + (∑ k : Fin 512, x1 (ix2 r k) * x3 (ix2 ⟨k.val, by have := k.isLt; omega⟩ j))
        + ∑ k : Fin 512, x2 (ix2 r k) * x3 (ix2 ⟨512 + k.val, by have := k.isLt; omega⟩ j) := by
  pointwise [k0_pay2]

section
variable (v0 : FVec Ideal S512x1024 .f32) (v2 v7 : FVec Ideal S512x512 .bf16) (v3 v8 : FVec Ideal S512x1024 .bf16) (v23 : FVec Ideal S1x1024 .f32)

/-- The stream normalised, tokens across. -/
theorem pay3_apply (j : Fin 1024) (r : Fin 512) :
    k0_pay3 (F := Ideal) v0 v2 v3 v7 v8 v23 (ix2 j r)
      = k0_pay2 (F := Ideal) v0 v2 v3 v7 v8 (ix2 r j) * Ideal.rsqrt (Ideal.div (∑ k, k0_pay2 (F := Ideal) v0 v2 v3 v7 v8 (ix2 r k) * k0_pay2 (F := Ideal) v0 v2 v3 v7 v8 (ix2 r k))
          (Ideal.ofBits .f32 0x44800000#32) + Ideal.ofBits .f32 0x358637BD#32) * v23 (ix2 0 j) := by
  pointwise [k0_pay3]

/-- The queries, tokens across. -/
theorem pay4_apply (v30 : FVec Ideal S2048x1024 .bf16) (n : Fin 2048) (r : Fin 512) :
    k0_pay4 (F := Ideal) v0 v2 v3 v7 v8 v23 v30 (ix2 n r) = ∑ j, v30 (ix2 n j) * k0_pay3 (F := Ideal) v0 v2 v3 v7 v8 v23 (ix2 j r) := by
  pointwise [k0_pay4]

end

/-- A half's keys against its queries. -/
def halfScore (v : FVec Ideal S2048x512 .f32) (x6 : FVec Ideal S16x128x128 .bf16) (s : Fin 16) (n : Fin 128) (r : Fin 512) : EReal :=
  ∑ d : Fin 128, x6 (ix3 s n d) * v (ix2 ⟨s.val * 128 + d.val, by have := s.isLt; have := d.isLt; omega⟩ r)

section
variable (v : FVec Ideal S2048x512 .f32)

theorem score0 (n : Fin 128) (r : Fin 512) : k0_pay5 (F := Ideal) v (View.ld x6 r0_7) (ix3 0 n r) = halfScore v x6 0 n r := by
  pointwise [k0_pay5]
  exact Finset.sum_congr rfl fun d _ => congrArg (fun x => _ * v (ix2 x r)) (Fin.ext (by show d.val = 0 * 128 + d.val; omega))

theorem score1 (n : Fin 128) (r : Fin 512) : k0_pay6 (F := Ideal) v (View.ld x6 r0_9) (ix3 0 n r) = halfScore v x6 1 n r := by
  pointwise [k0_pay6]
  rfl

theorem score2 (n : Fin 128) (r : Fin 512) : k0_pay7 (F := Ideal) v (View.ld x6 r0_11) (ix3 0 n r) = halfScore v x6 2 n r := by
  pointwise [k0_pay7]
  rfl

theorem score3 (n : Fin 128) (r : Fin 512) : k0_pay9 (F := Ideal) (k0_pay8 (F := Ideal) v (View.ld x6 r0_13)) (ix3 0 n r) = halfScore v x6 3 n r := by
  pointwise [k0_pay9, k0_pay8]
  rfl

theorem score4 (n : Fin 128) (r : Fin 512) : k0_pay10 (F := Ideal) v (View.ld x6 r0_15) (ix3 0 n r) = halfScore v x6 4 n r := by
  pointwise [k0_pay10]
  rfl

theorem score5 (n : Fin 128) (r : Fin 512) : k0_pay11 (F := Ideal) v (View.ld x6 r0_17) (ix3 0 n r) = halfScore v x6 5 n r := by
  pointwise [k0_pay11]
  rfl

theorem score6 (n : Fin 128) (r : Fin 512) : k0_pay12 (F := Ideal) v (View.ld x6 r0_19) (ix3 0 n r) = halfScore v x6 6 n r := by
  pointwise [k0_pay12]
  rfl

theorem score7 (n : Fin 128) (r : Fin 512) : k0_pay15 (F := Ideal) (k0_pay13 (F := Ideal) v) (k0_pay14 (F := Ideal) (View.ld x6 r0_21)) (constant S128x512 .f32 0x00000000#32) (ix3 0 n r) = halfScore v x6 7 n r := by
  pointwise [k0_pay15, k0_pay13, k0_pay14]
  rfl

theorem score8 (n : Fin 128) (r : Fin 512) : k0_pay16 (F := Ideal) v (View.ld x6 r0_23) (ix3 0 n r) = halfScore v x6 8 n r := by
  pointwise [k0_pay16]
  rfl

theorem score9 (n : Fin 128) (r : Fin 512) : k0_pay17 (F := Ideal) v (View.ld x6 r0_25) (ix3 0 n r) = halfScore v x6 9 n r := by
  pointwise [k0_pay17]
  rfl

theorem score10 (n : Fin 128) (r : Fin 512) : k0_pay18 (F := Ideal) v (View.ld x6 r0_27) (ix3 0 n r) = halfScore v x6 10 n r := by
  pointwise [k0_pay18]
  rfl

theorem score11 (n : Fin 128) (r : Fin 512) : k0_pay20 (F := Ideal) (k0_pay19 (F := Ideal) v) (View.ld x6 r0_29) (ix3 0 n r) = halfScore v x6 11 n r := by
  pointwise [k0_pay20, k0_pay19]
  rfl

theorem score12 (n : Fin 128) (r : Fin 512) : k0_pay21 (F := Ideal) v (View.ld x6 r0_31) (ix3 0 n r) = halfScore v x6 12 n r := by
  pointwise [k0_pay21]
  rfl

theorem score13 (n : Fin 128) (r : Fin 512) : k0_pay22 (F := Ideal) v (View.ld x6 r0_33) (ix3 0 n r) = halfScore v x6 13 n r := by
  pointwise [k0_pay22]
  rfl

theorem score14 (n : Fin 128) (r : Fin 512) : k0_pay23 (F := Ideal) v (View.ld x6 r0_35) (ix3 0 n r) = halfScore v x6 14 n r := by
  pointwise [k0_pay23]
  rfl

theorem score15 (n : Fin 128) (r : Fin 512) : k0_pay1 (F := Ideal) v (View.ld x6 r0_37) (ix3 0 n r) = halfScore v x6 15 n r := by
  pointwise [k0_pay1]
  rfl

/-- A store of half `s` puts its scores at the half's place. -/
theorem piece {v : FVec Ideal S2048x512 .f32} {x6 : FVec Ideal S16x128x128 .bf16} {p : FVec Ideal S1x128x512 .f32} (x : S1x128x512.Idx) {s : Fin 16}
    (h : ∀ (n : Fin 128) (r : Fin 512), p (ix3 0 n r) = halfScore v x6 s n r) {a : Fin 16} {b : Fin 128} {d : Fin 512} (ha : a.val = s.val + 1 * (x 0 : Fin 1).val)
    (hb : b.val = 0 + 1 * (x 1 : Fin 128).val) (hd : d.val = 0 + 1 * (x 2 : Fin 512).val) : p x = halfScore v x6 a b d := by
  obtain ⟨z, n, r, rfl⟩ : ∃ (z : Fin 1) (n : Fin 128) (r : Fin 512), x = ix3 z n r := ⟨x 0, x 1, x 2, by funext a; fin_cases a <;> rfl⟩
  have hz : z = 0 := Subsingleton.elim _ _
  subst hz
  obtain rfl : b = n := Fin.ext (by rw [hb]; show 0 + 1 * n.val = _; omega)
  obtain rfl : d = r := Fin.ext (by rw [hd]; show 0 + 1 * r.val = _; omega)
  obtain rfl : a = s := Fin.ext (by rw [ha]; show s.val + 1 * 0 = _; omega)
  rw [h]

/-- All the halves' scores, as the body stores them. -/
theorem out9_apply (s : Fin 16) (n : Fin 128) (r : Fin 512) :
    out0_9 (F := Ideal) x0 x1 x2 x3 x4 x5 x6 (ix3 s n r) = halfScore (k0_pay24 (F := Ideal) x0 x1 x2 x3 x4 x5 x6) x6 s n r := by
  unfold out0_9
  refine (View.canon_apply_of_pieces (fun y => halfScore (k0_pay24 (F := Ideal) x0 x1 x2 x3 x4 x5 x6) x6 (y 0) (y 1) (y 2)) _ ?_ _ (cover0_9 ..)).trans rfl
  intro p hp x
  simp only [List.mem_cons, List.not_mem_nil, or_false] at hp
  rcases hp with rfl | rfl | rfl | rfl | rfl | rfl | rfl | rfl | rfl | rfl | rfl | rfl | rfl | rfl | rfl | rfl
  · exact piece x (score15 x6 _) rfl rfl rfl
  · exact piece x (score14 x6 _) rfl rfl rfl
  · exact piece x (score13 x6 _) rfl rfl rfl
  · exact piece x (score12 x6 _) rfl rfl rfl
  · exact piece x (score11 x6 _) rfl rfl rfl
  · exact piece x (score10 x6 _) rfl rfl rfl
  · exact piece x (score9 x6 _) rfl rfl rfl
  · exact piece x (score8 x6 _) rfl rfl rfl
  · exact piece x (score7 x6 _) rfl rfl rfl
  · exact piece x (score6 x6 _) rfl rfl rfl
  · exact piece x (score5 x6 _) rfl rfl rfl
  · exact piece x (score4 x6 _) rfl rfl rfl
  · exact piece x (score3 x6 _) rfl rfl rfl
  · exact piece x (score2 x6 _) rfl rfl rfl
  · exact piece x (score1 x6 _) rfl rfl rfl
  · exact piece x (score0 x6 _) rfl rfl rfl

end

end Cert.Op
-- ==== Proof.OutReference.lean ====
/-
  The out-projection, the experts' queries and their scores: what the reference's three results hold, entry by entry.
-/
module

public import proofs.«01_k».proof.Proof.Gen.Reference3Ideal.Run
public import Idealize.ShloMosaic.Lib.Pointwise
public import Idealize.ShloMosaic.Lib.StableHlo.ReadAt

@[expose] public section

set_option maxRecDepth 16384

noncomputable section

namespace Cert.Op

open Cert.Reference3Ideal Cert.Reference3Ideal.Gen Idealize.ShloMosaic Idealize.ShloMosaic.TcCoe Idealize.SL.Sem

variable (X : FVec Ideal S2x8192x1024 .f32) (OA OB : FVec Ideal S16384x512 .bf16) (WO : FVec Ideal S1x1024x1024 .f32)
  (G : FVec Ideal S1x1024 .f32) (WQ : FVec Ideal S1x1024x2048 .f32) (KY : FVec Ideal S1x8x2x128x128 .f32)

/-- The layer's input at a row of both batches. -/
def inp (i : Fin 16384) (j : Fin 1024) : EReal := X (ix3 ⟨i.val / 8192, by have := i.isLt; omega⟩ ⟨i.val % 8192, by omega⟩ j)

/-- The residual stream after the attentions. -/
def stream (i : Fin 16384) (j : Fin 1024) : EReal :=
  inp X i j + ((∑ k : Fin 512, OA (ix2 i k) * WO (ix3 0 ⟨k.val, by have := k.isLt; omega⟩ j))
    + ∑ k : Fin 512, OB (ix2 i k) * WO (ix3 0 ⟨512 + k.val, by have := k.isLt; omega⟩ j))

/-- A row of numbers divided by its root mean square, times a gain. -/
def normed (h : Fin 1024 → EReal) (g : Fin 1024 → EReal) (j : Fin 1024) : EReal :=
  h j * Ideal.rsqrt (Ideal.div (∑ k, h k * h k) (Ideal.ofBits .f32 0x44800000#32) + Ideal.ofBits .f32 0x358637BD#32) * g j

/-- The reference's residual stream. -/
def hR : FVec Ideal S16384x1024 .f32 :=
  addf (shapeCast _ X shapeCasts_S2x8192x1024_S16384x1024) (Host.dotGeneral dot_S16384x1024_S1024x1024_S16384x1024_1_0_0_1_n_n none (concatenate S16384x1024 1 [⟨S16384x512, (extf .f32 OA bitsLt_bf16_f32)⟩, ⟨S16384x512, (extf .f32 OB bitsLt_bf16_f32)⟩] concatenates_S16384x512_S16384x512_S16384x1024_d1) (shapeCast _ WO shapeCasts_S1x1024x1024_S1024x1024))

theorem hR_apply (i : Fin 16384) (j : Fin 1024) : hR X OA OB WO (ix2 i j) = stream X OA OB WO i j := by
  pointwise [hR]
  rfl

/-- The reference's normalised stream. -/
def nR : FVec Ideal S16384x1024 .f32 :=
  mulf (mulf (hR X OA OB WO) (broadcastInDim S16384x1024 ![0, 1] bcast_S16384x1_S16384x1024_0_1 (Host.rsqrt (addf (Host.divf (broadcastInDim S16384x1 ![0] bcast_S16384_S16384x1_0 (Host.reduceAdd (mulf (hR X OA OB WO) (hR X OA OB WO)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ G shapeCasts_S1x1024_S1024)))

theorem nR_apply (i : Fin 16384) (j : Fin 1024) :
    nR X OA OB WO G (ix2 i j) = normed (stream X OA OB WO i) (fun j => G (ix2 0 j)) j := by
  pointwise [nR]
  simp only [hR_apply]
  rfl

/-- The reference's second result: the normalised stream, tokens across. -/
def xR : FVec Ideal S1024x16384 .bf16 :=
  truncf .bf16 (transpose S1024x16384 [1, 0] (nR X OA OB WO G) transposes_S16384x1024_S1024x16384_1_0) bitsLt_bf16_f32

theorem xR_apply (j : Fin 1024) (i : Fin 16384) :
    xR X OA OB WO G (ix2 j i) = normed (stream X OA OB WO i) (fun j => G (ix2 0 j)) j := by
  pointwise [xR]
  exact nR_apply X OA OB WO G i j

/-- A query lane: the normalised row against a column of the query matrix. -/
def query (x : Fin 1024 → EReal) (n : Fin 2048) : EReal := ∑ j, x j * WQ (ix3 0 j n)

/-- The score of key `n` of half `s` (head `s / 2`, half `s % 2`). -/
def keyScore (x : Fin 1024 → EReal) (s : Fin 16) (n : Fin 128) : EReal :=
  ∑ d : Fin 128, KY (ix5 0 ⟨s.val / 2, by have := s.isLt; omega⟩ ⟨s.val % 2, by omega⟩ n d)
    * query WQ x ⟨s.val * 128 + d.val, by have := s.isLt; have := d.isLt; omega⟩

/-- The reference's third result: the scores. -/
def sR : FVec Ideal S16x128x16384 .f32 :=
  transpose S16x128x16384 [1, 2, 0] (shapeCast _ (transpose S16384x8x2x128 [3, 0, 1, 2] (Host.dotGeneral dot_S8x2x128x128_S16384x8x2x128_S8x2x128x16384_3_3_2_0_01_12 none (shapeCast _ KY shapeCasts_S1x8x2x128x128_S8x2x128x128) (shapeCast _ (Host.dotGeneral dot_S16384x1024_S1024x2048_S16384x2048_1_0_0_1_n_n none (nR X OA OB WO G) (shapeCast _ WQ shapeCasts_S1x1024x2048_S1024x2048)) shapeCasts_S16384x2048_S16384x8x2x128)) transposes_S8x2x128x16384_S16384x8x2x128_3_0_1_2) shapeCasts_S16384x8x2x128_S16384x16x128) transposes_S16384x16x128_S16x128x16384_1_2_0

theorem sR_apply (s : Fin 16) (n : Fin 128) (i : Fin 16384) :
    sR X OA OB WO G WQ KY (ix3 s n i) = keyScore WQ KY (normed (stream X OA OB WO i) (fun j => G (ix2 0 j))) s n := by
  pointwise [sR]
  simp only [nR_apply]
  unfold keyScore query
  refine Finset.sum_congr rfl fun d _ => congrArg (_ * ·) (Finset.sum_congr rfl fun j _ => congrArg (fun x => _ * WQ (ix3 0 j x)) (Fin.ext ?_))
  have := s.isLt
  show s.val / 2 * 256 + s.val % 2 * 128 + d.val = s.val * 128 + d.val
  omega

end Cert.Op
-- ==== Proof.OutArray.lean ====
/-
  The out-projection's three result arrays: at every entry what the reference's hold.
-/
module

public import proofs.«01_k».proof.Proof.OutKernel
public import proofs.«01_k».proof.Proof.OutReference
public import Idealize.ShloMosaic.Lib.Pipeline.Covers

@[expose] public section

set_option maxRecDepth 16384

noncomputable section

namespace Cert.Op

open Cert.Kernel3Ideal Cert.Kernel3Ideal.Gen Idealize.ShloMosaic Idealize.ShloMosaic.TcCoe Idealize.SL.Sem

/-- The grid point's block of rows. -/
def gi (t : Fin cfg0.N) : Fin 32 := grid0.coords t 0

theorem idx0 : ∀ t : Fin cfg0.N, win0_0.index t = ![(gi t).val, 0] := (by decide +kernel : ∀ t : Fin grid0.N, _)
theorem idx1 : ∀ t : Fin cfg0.N, win0_1.index t = ![(gi t).val, 0] := (by decide +kernel : ∀ t : Fin grid0.N, _)
theorem idx2 : ∀ t : Fin cfg0.N, win0_2.index t = ![(gi t).val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![(gi t).val, 0] := (by decide +kernel : ∀ t : Fin grid0.N, _)
theorem idx8 : ∀ t : Fin cfg0.N, win0_8.index t = ![0, (gi t).val] := (by decide +kernel : ∀ t : Fin grid0.N, _)
theorem idx9 : ∀ t : Fin cfg0.N, win0_9.index t = ![0, 0, (gi t).val] := (by decide +kernel : ∀ t : Fin grid0.N, _)

variable (m : (ℓ : Loc nD τ sig) → Buf (Elt Ideal) ℓ) (c : Dev nD) (t : Fin cfg0.N)

/-- The arguments. -/
abbrev ax : FVec Ideal S2x8192x1024 .f32 := m ((c.tc : Thread nD τ).loc main_arg0)
abbrev aa : FVec Ideal S16384x512 .bf16 := m ((c.tc : Thread nD τ).loc main_arg1)
abbrev ab : FVec Ideal S16384x512 .bf16 := m ((c.tc : Thread nD τ).loc main_arg2)
abbrev aw : FVec Ideal S1x1024x1024 .f32 := m ((c.tc : Thread nD τ).loc main_arg3)
abbrev ag : FVec Ideal S1x1024 .f32 := m ((c.tc : Thread nD τ).loc main_arg4)
abbrev aq : FVec Ideal S1x1024x2048 .f32 := m ((c.tc : Thread nD τ).loc main_arg5)
abbrev ak : FVec Ideal S1x8x2x128x128 .f32 := m ((c.tc : Thread nD τ).loc main_arg6)

/-- The blocks at a grid point. -/
abbrev b0 : FVec Ideal S512x1024 .f32 := iblk m c 0 t
abbrev b1 : FVec Ideal S512x512 .bf16 := iblk m c 1 t
abbrev b2 : FVec Ideal S512x512 .bf16 := iblk m c 2 t
abbrev b3 : FVec Ideal S1024x1024 .bf16 := iblk m c 3 t
abbrev b4 : FVec Ideal S1x1024 .f32 := iblk m c 4 t
abbrev b5 : FVec Ideal S2048x1024 .bf16 := iblk m c 5 t
abbrev b6 : FVec Ideal S16x128x128 .bf16 := iblk m c 6 t

/-- Row `r` of the grid point's block among all the rows. -/
def rowOf (r : Fin 512) : Fin 16384 := ⟨512 * (gi t).val + r.val, by have := (gi t).isLt; have := r.isLt; omega⟩

theorem block0 (r : Fin 512) (j : Fin 1024) : b0 m c t (ix2 r j) = inp (ax m c) (rowOf t r) j := by
  refine Eq.trans (b := V m c main_v0 (ix2 (rowOf t r) j)) ?_ ?_
  · blk_simp [iblk, idx0]
    refine congrArg (V m c main_v0) ?_
    unfold rowOf
    blk_ext [idx0 t]
  · unfold V
    after_reads_at
    rfl

theorem block1 (r : Fin 512) (k : Fin 512) : b1 m c t (ix2 r k) = aa m c (ix2 (rowOf t r) k) := by
  refine Eq.trans (b := V m c main_arg1 (ix2 (rowOf t r) k)) ?_ (congrFun (V_main_arg1 m c) _)
  blk_simp [iblk, idx1]
  refine congrArg (V m c main_arg1) ?_
  unfold rowOf
  blk_ext [idx1 t]

theorem block2 (r : Fin 512) (k : Fin 512) : b2 m c t (ix2 r k) = ab m c (ix2 (rowOf t r) k) := by
  refine Eq.trans (b := V m c main_arg2 (ix2 (rowOf t r) k)) ?_ (congrFun (V_main_arg2 m c) _)
  blk_simp [iblk, idx2]
  refine congrArg (V m c main_arg2) ?_
  unfold rowOf
  blk_ext [idx2 t]

theorem block3 (k j : Fin 1024) : b3 m c t (ix2 k j) = aw m c (ix3 0 k j) := by
  refine Eq.trans (b := V m c main_v5 (ix2 k j)) ?_ ?_
  · blk_simp [iblk, idx3]
    refine congrArg (V m c main_v5) ?_
    blk_ext [idx3 t]
  · unfold V
    after_reads_at
    try rfl

theorem block4 (j : Fin 1024) : b4 m c t (ix2 0 j) = ag m c (ix2 0 j) := by
  refine Eq.trans (b := V m c main_v7 (ix2 0 j)) ?_ ?_
  · blk_simp [iblk, idx4]
    refine congrArg (V m c main_v7) ?_
    blk_ext [idx4 t]
  · unfold V
    after_reads_at
    try rfl

theorem block5 (n : Fin 2048) (j : Fin 1024) : b5 m c t (ix2 n j) = aq m c (ix3 0 j n) := by
  refine Eq.trans (b := V m c main_v10 (ix2 n j)) ?_ ?_
  · blk_simp [iblk, idx5]
    refine congrArg (V m c main_v10) ?_
    blk_ext [idx5 t]
  · unfold V
    after_reads_at
    try rfl

theorem block6 (s : Fin 16) (n d : Fin 128) :
    b6 m c t (ix3 s n d) = ak m c (ix5 0 ⟨s.val / 2, by have := s.isLt; omega⟩ ⟨s.val % 2, by omega⟩ n d) := by
  refine Eq.trans (b := V m c main_v3 (ix3 s n d)) ?_ ?_
  · blk_simp [iblk, idx6]
    refine congrArg (V m c main_v3) ?_
    blk_ext [idx6 t]
  · unfold V
    after_reads_at
    try rfl

/-- A row of the stream, from the blocks the kernel is given. -/
theorem stream_eq (r : Fin 512) (j : Fin 1024) :
    k0_pay2 (F := Ideal) (View.ld (b0 m c t) r0_0) (View.ld (b1 m c t) r0_1) (View.ld (b3 m c t) r0_2) (View.ld (b2 m c t) r0_1) (View.ld (b3 m c t) r0_3) (ix2 r j)
      = stream (ax m c) (aa m c) (ab m c) (aw m c) (rowOf t r) j := by
  rw [pay2_apply]
  unfold stream
  rw [add_assoc]
  simp only [block0, block1, block2, block3]

/-- A normalised row. -/
theorem normed_eq (r : Fin 512) (j : Fin 1024) :
    k0_pay3 (F := Ideal) (View.ld (b0 m c t) r0_0) (View.ld (b1 m c t) r0_1) (View.ld (b3 m c t) r0_2) (View.ld (b2 m c t) r0_1) (View.ld (b3 m c t) r0_3)
        (View.ld (b4 m c t) r0_4) (ix2 j r)
      = normed (stream (ax m c) (aa m c) (ab m c) (aw m c) (rowOf t r)) (fun j => ag m c (ix2 0 j)) j := by
  rw [pay3_apply]
  simp only [stream_eq]
  unfold normed
  refine congrArg₂ (fun x y : EReal => x * y) rfl ?_
  pointwise []
  exact block4 m c t j

/-- A query. -/
theorem query_eq (r : Fin 512) (n : Fin 2048) :
    k0_pay24 (F := Ideal) (b0 m c t) (b1 m c t) (b2 m c t) (b3 m c t) (b4 m c t) (b5 m c t) (b6 m c t) (ix2 n r)
      = query (aq m c) (normed (stream (ax m c) (aa m c) (ab m c) (aw m c) (rowOf t r)) (fun j => ag m c (ix2 0 j))) n := by
  unfold k0_pay24
  rw [pay4_apply]
  unfold query
  refine Finset.sum_congr rfl fun j _ => ?_
  rw [mul_comm (normed _ _ _)]
  refine congrArg₂ (fun x y : EReal => x * y) ?_ (normed_eq m c t r j)
  pointwise []
  exact block5 m c t n j

/-- A score. -/
theorem score_eq (s : Fin 16) (n : Fin 128) (r : Fin 512) :
    out0_9 (F := Ideal) (b0 m c t) (b1 m c t) (b2 m c t) (b3 m c t) (b4 m c t) (b5 m c t) (b6 m c t) (ix3 s n r)
      = keyScore (aq m c) (ak m c) (normed (stream (ax m c) (aa m c) (ab m c) (aw m c) (rowOf t r)) (fun j => ag m c (ix2 0 j))) s n := by
  rw [out9_apply]
  unfold halfScore keyScore
  simp only [query_eq, block6]

theorem covers7 : (cfg0.win 7).Covers := (cfg0.win 7).covers_of_indexMap_surj rfl (by decide) (by decide +kernel)
theorem covers8 : (cfg0.win 8).Covers := (cfg0.win 8).covers_of_indexMap_surj rfl (by decide) (by decide +kernel)
theorem covers9 : (cfg0.win 9).Covers := (cfg0.win 9).covers_of_indexMap_surj rfl (by decide) (by decide +kernel)

/-- The array of the stream. -/
theorem array7 : (dats m 0 c).arrAt 7 cfg0.N = hR (ax m c) (aa m c) (ab m c) (aw m c) := by
  refine (dats m 0 c).arrAt_eq_of_covers 7 _ covers7 fun t hf y => ?_
  blk_simp
  rw [after0_7]
  unfold out0_7
  obtain ⟨r, j, rfl⟩ : ∃ (r : Fin 512) (j : Fin 1024), y = ix2 r j := ⟨y 0, y 1, by funext a; fin_cases a <;> rfl⟩
  refine Eq.trans ?_ (((stream_eq m c t r j).trans (hR_apply _ _ _ _ _ _).symm).trans (congrArg (hR (ax m c) (aa m c) (ab m c) (aw m c)) ?_))
  · simp (disch := decide) only [View.canon_cons_unit_lit']
  · unfold rowOf
    blk_ext [idx7 t]

/-- The array of the normalised stream. -/
theorem array8 : (dats m 0 c).arrAt 8 cfg0.N = xR (ax m c) (aa m c) (ab m c) (aw m c) (ag m c) := by
  refine (dats m 0 c).arrAt_eq_of_covers 8 _ covers8 fun t hf y => ?_
  blk_simp
  rw [after0_8]
  unfold out0_8
  obtain ⟨j, r, rfl⟩ : ∃ (j : Fin 1024) (r : Fin 512), y = ix2 j r := ⟨y 0, y 1, by funext a; fin_cases a <;> rfl⟩
  refine Eq.trans ?_ (((normed_eq m c t r j).trans (xR_apply _ _ _ _ _ _ _).symm).trans (congrArg (xR (ax m c) (aa m c) (ab m c) (aw m c) (ag m c)) ?_))
  · simp (disch := decide) only [View.canon_cons_unit_lit']
  · unfold rowOf
    blk_ext [idx8 t]

/-- The array of the scores. -/
theorem array9 : (dats m 0 c).arrAt 9 cfg0.N = sR (ax m c) (aa m c) (ab m c) (aw m c) (ag m c) (aq m c) (ak m c) := by
  refine (dats m 0 c).arrAt_eq_of_covers 9 _ covers9 fun t hf y => ?_
  blk_simp
  rw [after0_9]
  obtain ⟨s, n, r, rfl⟩ : ∃ (s : Fin 16) (n : Fin 128) (r : Fin 512), y = ix3 s n r := ⟨y 0, y 1, y 2, by funext a; fin_cases a <;> rfl⟩
  refine ((score_eq m c t s n r).trans (sR_apply _ _ _ _ _ _ _ _ _ _).symm).trans (congrArg (sR (ax m c) (aa m c) (ab m c) (aw m c) (ag m c) (aq m c) (ak m c)) ?_)
  unfold rowOf
  blk_ext [idx9 t]

end Cert.Op
-- ==== Proof.OutClaim.lean ====
/-
  The out-projection's claims about values and about the reference's run.
-/
module

public import proofs.«01_k».proof.Defs
public import proofs.«01_k».proof.Proof.OutArray
public import proofs.«01_k».proof.Proof.Gen.Kernel3Ideal
public import proofs.«01_k».proof.Proof.Gen.Reference3Ideal
public import Idealize.ShloMosaic.Adequacy

@[expose] public section

noncomputable section

namespace Cert.Op

open Idealize.ShloMosaic Idealize.SL.Sem

/-- The reference runs, keeps its arguments, and leaves every counter at zero. -/
theorem quiescent_reference : Cert.quiescent_Reference3Ideal (hReference3Ideal := Cert.Reference3Ideal.Gen.facts) := fun m g _ =>
  (θ_run _ _ _).mono (fun r h => ⟨fun c => (h c).2.2.2, Idealize.ShloMosaic.sem_eq_zero_of_no_sems (by decide) r.2⟩)
    (Cert.Reference3Ideal.Value.run m g)

/-- The out-projection's kernel computes what the reference computes. -/
theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => (Cert.Kernel3Ideal.Gen.dats m 0 c).arrAt 7 Cert.Kernel3Ideal.cfg0.N, fun c => (Cert.Kernel3Ideal.Gen.dats m 0 c).arrAt 8 Cert.Kernel3Ideal.cfg0.N,
    fun c => (Cert.Kernel3Ideal.Gen.dats m 0 c).arrAt 9 Cert.Kernel3Ideal.cfg0.N, Cert.Kernel3Ideal.Value.run_blocks m g,
    (θ_run _ _ _).mono (fun r h c => ?_) (Cert.Reference3Ideal.Value.run m' g')⟩
  obtain ⟨h0, h1, h2, h3⟩ := h c
  obtain ⟨a0, a1, a2, a3, a4, a5, a6⟩ := hagree c
  refine ⟨h0.trans ?_, h1.trans ?_, h2.trans ?_, h3⟩
  · refine Eq.trans ?_ (array7 m c).symm
    rw [a0, a1, a2, a3]
    rfl
  · refine Eq.trans ?_ (array8 m c).symm
    rw [a0, a1, a2, a3, a4]
    rfl
  · refine Eq.trans ?_ (array9 m c).symm
    rw [a0, a1, a2, a3, a4, a5, a6]
    rfl

end Cert.Op
-- ==== Proof.DaLoop.lean ====
module

public import proofs.«01_k».proof.Proof.Gen.Kernel5Ideal.Loops
public import Idealize.ShloMosaic.Lib.Exec
public import Idealize.ShloMosaic.Lib.Tactic
public import Idealize.ShloMosaic.Lib.Pipeline.Kit

/-! # Differential attention: the loops over the keys, idealized kernel

The six arrays a trip keeps are read back by the next one, so the stores of the trips are stated as
functions of what each trip finds. -/

@[expose] public section

set_option maxRecDepth 8192
set_option maxHeartbeats 4000000

noncomputable section

namespace Cert.Da

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What one trip holds: the two arrays it reads, and the six it keeps, at any contents. -/
abbrev Trip_k0_t1 (c : Dev nD) (arg4 : Memref sig .tc .vmem S1x8192x128 .bf16) (arg5 : Memref sig .tc .vmem S1x8192x128 .bf16) (arg9 : Memref sig .tc .vmem S256x128 .f32) (arg10 : Memref sig .tc .vmem S256x128 .f32) (arg11 : Memref sig .tc .vmem S256x128 .f32) (arg12 : Memref sig .tc .vmem S256x128 .f32) (arg13 : Memref sig .tc .vmem S256x128 .f32) (arg14 : Memref sig .tc .vmem S256x128 .f32) (X_arg4 : BufTy.Contents (Elt F) arg4.view.ty) (X_arg5 : BufTy.Contents (Elt F) arg5.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) : sProp 𝕄 :=
  iprop((arg4.view.loc (c : Thread nD τ) ↦[arg4.view.set]{fullShare} X_arg4) ∗ (arg5.view.loc (c : Thread nD τ) ↦[arg5.view.set]{fullShare} X_arg5) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14))

/-- One trip of the loop: the two arrays it reads stay as they are, and in each of the six arrays it
    keeps, a list of stores depending on what the trip found there. -/
@[irreducible] def trip_k0_t1 (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (v1 : FVec F S256x128 .bf16) (v4 : IVec S256x128 1) (c0_i32_41 : BitVec 32) (v121 : BitVec 32) (X_arg4 : BufTy.Contents (Elt F) arg4.view.ty) (X_arg5 : BufTy.Contents (Elt F) arg5.view.ty) (k : Fin (k0_t1_loop i).trips) :
    Σ' (L_arg9 : (BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S256x128 .f32))) (L_arg10 : (BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S256x128 .f32))) (L_arg11 : (BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S256x128 .f32))) (L_arg12 : (BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S256x128 .f32))) (L_arg13 : (BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S256x128 .f32))) , { L_arg14 : (BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S256x128 .f32)) // ∀ (E : Set ℕ) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty),
      Trip_k0_t1 (F := F) c arg4 arg5 arg9 arg10 arg11 arg12 arg13 arg14 X_arg4 X_arg5 f_arg9 f_arg10 f_arg11 f_arg12 f_arg13 f_arg14
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg13 harg13 arg14 harg14 v1 v4 c0_i32_41 v121 k PUnit.unit)
          (fun _ => Trip_k0_t1 (F := F) c arg4 arg5 arg9 arg10 arg11 arg12 arg13 arg14 X_arg4 X_arg5 (arg9.view.writes (Elt F) f_arg9 (L_arg9 f_arg9 f_arg10 f_arg11 f_arg12 f_arg13 f_arg14)) (arg10.view.writes (Elt F) f_arg10 (L_arg10 f_arg9 f_arg10 f_arg11 f_arg12 f_arg13 f_arg14)) (arg11.view.writes (Elt F) f_arg11 (L_arg11 f_arg9 f_arg10 f_arg11 f_arg12 f_arg13 f_arg14)) (arg12.view.writes (Elt F) f_arg12 (L_arg12 f_arg9 f_arg10 f_arg11 f_arg12 f_arg13 f_arg14)) (arg13.view.writes (Elt F) f_arg13 (L_arg13 f_arg9 f_arg10 f_arg11 f_arg12 f_arg13 f_arg14)) (arg14.view.writes (Elt F) f_arg14 (L_arg14 f_arg9 f_arg10 f_arg11 f_arg12 f_arg13 f_arg14))) } := by
  refine ⟨?_, ?_, ?_, ?_, ?_, ?_, fun E f_arg9 f_arg10 f_arg11 f_arg12 f_arg13 f_arg14 => ?run⟩
  case run =>
    unfold k0_t1_body
    iintro ⟨HR_arg4, HR_arg5, HW_arg9, HW_arg10, HW_arg11, HW_arg12, HW_arg13, HW_arg14⟩
    sl_exec
    sl_step
    sl_close

/-- The six lists of stores of one trip. -/
abbrev tripL_k0_t1 (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (v1 : FVec F S256x128 .bf16) (v4 : IVec S256x128 1) (c0_i32_41 : BitVec 32) (v121 : BitVec 32) (X_arg4 : BufTy.Contents (Elt F) arg4.view.ty) (X_arg5 : BufTy.Contents (Elt F) arg5.view.ty) (k : Fin (k0_t1_loop i).trips) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) : List (View.Piece (Elt F) S256x128 .f32) × List (View.Piece (Elt F) S256x128 .f32) × List (View.Piece (Elt F) S256x128 .f32) × List (View.Piece (Elt F) S256x128 .f32) × List (View.Piece (Elt F) S256x128 .f32) × List (View.Piece (Elt F) S256x128 .f32) :=
  ((trip_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 k).1 f_arg9 f_arg10 f_arg11 f_arg12 f_arg13 f_arg14, (trip_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 k).2.1 f_arg9 f_arg10 f_arg11 f_arg12 f_arg13 f_arg14, (trip_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 k).2.2.1 f_arg9 f_arg10 f_arg11 f_arg12 f_arg13 f_arg14, (trip_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 k).2.2.2.1 f_arg9 f_arg10 f_arg11 f_arg12 f_arg13 f_arg14, (trip_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 k).2.2.2.2.1 f_arg9 f_arg10 f_arg11 f_arg12 f_arg13 f_arg14, (trip_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 k).2.2.2.2.2.1 f_arg9 f_arg10 f_arg11 f_arg12 f_arg13 f_arg14)

/-- The stores made so far, with those of trip `k` put in front; past the last trip, no more. -/
@[irreducible] def pb_k0_t1Step (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (v1 : FVec F S256x128 .bf16) (v4 : IVec S256x128 1) (c0_i32_41 : BitVec 32) (v121 : BitVec 32) (X_arg4 : BufTy.Contents (Elt F) arg4.view.ty) (X_arg5 : BufTy.Contents (Elt F) arg5.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) (k : ℕ) (prev : List (View.Piece (Elt F) S256x128 .f32) × List (View.Piece (Elt F) S256x128 .f32) × List (View.Piece (Elt F) S256x128 .f32) × List (View.Piece (Elt F) S256x128 .f32) × List (View.Piece (Elt F) S256x128 .f32) × List (View.Piece (Elt F) S256x128 .f32)) : List (View.Piece (Elt F) S256x128 .f32) × List (View.Piece (Elt F) S256x128 .f32) × List (View.Piece (Elt F) S256x128 .f32) × List (View.Piece (Elt F) S256x128 .f32) × List (View.Piece (Elt F) S256x128 .f32) × List (View.Piece (Elt F) S256x128 .f32) :=
  if h : k < (k0_t1_loop i).trips then
    ((tripL_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 ⟨k, h⟩ (arg9.view.writes (Elt F) G_arg9 prev.1) (arg10.view.writes (Elt F) G_arg10 prev.2.1) (arg11.view.writes (Elt F) G_arg11 prev.2.2.1) (arg12.view.writes (Elt F) G_arg12 prev.2.2.2.1) (arg13.view.writes (Elt F) G_arg13 prev.2.2.2.2.1) (arg14.view.writes (Elt F) G_arg14 prev.2.2.2.2.2)).1 ++ prev.1, (tripL_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 ⟨k, h⟩ (arg9.view.writes (Elt F) G_arg9 prev.1) (arg10.view.writes (Elt F) G_arg10 prev.2.1) (arg11.view.writes (Elt F) G_arg11 prev.2.2.1) (arg12.view.writes (Elt F) G_arg12 prev.2.2.2.1) (arg13.view.writes (Elt F) G_arg13 prev.2.2.2.2.1) (arg14.view.writes (Elt F) G_arg14 prev.2.2.2.2.2)).2.1 ++ prev.2.1, (tripL_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 ⟨k, h⟩ (arg9.view.writes (Elt F) G_arg9 prev.1) (arg10.view.writes (Elt F) G_arg10 prev.2.1) (arg11.view.writes (Elt F) G_arg11 prev.2.2.1) (arg12.view.writes (Elt F) G_arg12 prev.2.2.2.1) (arg13.view.writes (Elt F) G_arg13 prev.2.2.2.2.1) (arg14.view.writes (Elt F) G_arg14 prev.2.2.2.2.2)).2.2.1 ++ prev.2.2.1, (tripL_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 ⟨k, h⟩ (arg9.view.writes (Elt F) G_arg9 prev.1) (arg10.view.writes (Elt F) G_arg10 prev.2.1) (arg11.view.writes (Elt F) G_arg11 prev.2.2.1) (arg12.view.writes (Elt F) G_arg12 prev.2.2.2.1) (arg13.view.writes (Elt F) G_arg13 prev.2.2.2.2.1) (arg14.view.writes (Elt F) G_arg14 prev.2.2.2.2.2)).2.2.2.1 ++ prev.2.2.2.1, (tripL_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 ⟨k, h⟩ (arg9.view.writes (Elt F) G_arg9 prev.1) (arg10.view.writes (Elt F) G_arg10 prev.2.1) (arg11.view.writes (Elt F) G_arg11 prev.2.2.1) (arg12.view.writes (Elt F) G_arg12 prev.2.2.2.1) (arg13.view.writes (Elt F) G_arg13 prev.2.2.2.2.1) (arg14.view.writes (Elt F) G_arg14 prev.2.2.2.2.2)).2.2.2.2.1 ++ prev.2.2.2.2.1, (tripL_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 ⟨k, h⟩ (arg9.view.writes (Elt F) G_arg9 prev.1) (arg10.view.writes (Elt F) G_arg10 prev.2.1) (arg11.view.writes (Elt F) G_arg11 prev.2.2.1) (arg12.view.writes (Elt F) G_arg12 prev.2.2.2.1) (arg13.view.writes (Elt F) G_arg13 prev.2.2.2.2.1) (arg14.view.writes (Elt F) G_arg14 prev.2.2.2.2.2)).2.2.2.2.2 ++ prev.2.2.2.2.2)
  else prev

/-- The stores of all the trips before `k`, each trip run on what the trips before it left. -/
def pb_k0_t1 (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (v1 : FVec F S256x128 .bf16) (v4 : IVec S256x128 1) (c0_i32_41 : BitVec 32) (v121 : BitVec 32) (X_arg4 : BufTy.Contents (Elt F) arg4.view.ty) (X_arg5 : BufTy.Contents (Elt F) arg5.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) : ℕ → List (View.Piece (Elt F) S256x128 .f32) × List (View.Piece (Elt F) S256x128 .f32) × List (View.Piece (Elt F) S256x128 .f32) × List (View.Piece (Elt F) S256x128 .f32) × List (View.Piece (Elt F) S256x128 .f32) × List (View.Piece (Elt F) S256x128 .f32)
  | 0 => ([], [], [], [], [], [])
  | k + 1 => pb_k0_t1Step 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k (pb_k0_t1 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k)

/-- After trip `k`, its stores are in front. -/
theorem pb_k0_t1_succ (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (v1 : FVec F S256x128 .bf16) (v4 : IVec S256x128 1) (c0_i32_41 : BitVec 32) (v121 : BitVec 32) (X_arg4 : BufTy.Contents (Elt F) arg4.view.ty) (X_arg5 : BufTy.Contents (Elt F) arg5.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) (k : Fin (k0_t1_loop i).trips) :
    pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 (k.val + 1)
      = ((tripL_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 k (arg9.view.writes (Elt F) G_arg9 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).1) (arg10.view.writes (Elt F) G_arg10 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.1) (arg11.view.writes (Elt F) G_arg11 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.1) (arg12.view.writes (Elt F) G_arg12 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.1) (arg13.view.writes (Elt F) G_arg13 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.1) (arg14.view.writes (Elt F) G_arg14 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.2)).1 ++ (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).1, (tripL_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 k (arg9.view.writes (Elt F) G_arg9 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).1) (arg10.view.writes (Elt F) G_arg10 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.1) (arg11.view.writes (Elt F) G_arg11 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.1) (arg12.view.writes (Elt F) G_arg12 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.1) (arg13.view.writes (Elt F) G_arg13 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.1) (arg14.view.writes (Elt F) G_arg14 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.2)).2.1 ++ (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.1, (tripL_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 k (arg9.view.writes (Elt F) G_arg9 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).1) (arg10.view.writes (Elt F) G_arg10 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.1) (arg11.view.writes (Elt F) G_arg11 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.1) (arg12.view.writes (Elt F) G_arg12 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.1) (arg13.view.writes (Elt F) G_arg13 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.1) (arg14.view.writes (Elt F) G_arg14 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.2)).2.2.1 ++ (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.1, (tripL_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 k (arg9.view.writes (Elt F) G_arg9 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).1) (arg10.view.writes (Elt F) G_arg10 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.1) (arg11.view.writes (Elt F) G_arg11 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.1) (arg12.view.writes (Elt F) G_arg12 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.1) (arg13.view.writes (Elt F) G_arg13 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.1) (arg14.view.writes (Elt F) G_arg14 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.2)).2.2.2.1 ++ (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.1, (tripL_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 k (arg9.view.writes (Elt F) G_arg9 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).1) (arg10.view.writes (Elt F) G_arg10 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.1) (arg11.view.writes (Elt F) G_arg11 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.1) (arg12.view.writes (Elt F) G_arg12 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.1) (arg13.view.writes (Elt F) G_arg13 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.1) (arg14.view.writes (Elt F) G_arg14 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.2)).2.2.2.2.1 ++ (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.1, (tripL_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 k (arg9.view.writes (Elt F) G_arg9 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).1) (arg10.view.writes (Elt F) G_arg10 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.1) (arg11.view.writes (Elt F) G_arg11 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.1) (arg12.view.writes (Elt F) G_arg12 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.1) (arg13.view.writes (Elt F) G_arg13 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.1) (arg14.view.writes (Elt F) G_arg14 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.2)).2.2.2.2.2 ++ (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.2) := by
  rw [pb_k0_t1.eq_2]; unfold pb_k0_t1Step; exact dif_pos k.isLt

/-- Before trip `k` the arrays read are unchanged, and each array kept is what it was at the start of
    the loop with the stores of the earlier trips made. -/
abbrev inv_k0_t1 (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (v1 : FVec F S256x128 .bf16) (v4 : IVec S256x128 1) (c0_i32_41 : BitVec 32) (v121 : BitVec 32) (X_arg4 : BufTy.Contents (Elt F) arg4.view.ty) (X_arg5 : BufTy.Contents (Elt F) arg5.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) (k : ℕ) (_u : PUnit) : sProp 𝕄 :=
  iprop((arg4.view.loc (c : Thread nD τ) ↦[arg4.view.set]{fullShare} X_arg4) ∗ (arg5.view.loc (c : Thread nD τ) ↦[arg5.view.set]{fullShare} X_arg5) ∗ (∃ f, (arg9.view.loc (c : Thread nD τ) ↦[arg9.view.set]{fullShare} f) ∗ ⌜f = arg9.view.writes (Elt F) G_arg9 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k).1⌝) ∗ (∃ f, (arg10.view.loc (c : Thread nD τ) ↦[arg10.view.set]{fullShare} f) ∗ ⌜f = arg10.view.writes (Elt F) G_arg10 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k).2.1⌝) ∗ (∃ f, (arg11.view.loc (c : Thread nD τ) ↦[arg11.view.set]{fullShare} f) ∗ ⌜f = arg11.view.writes (Elt F) G_arg11 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k).2.2.1⌝) ∗ (∃ f, (arg12.view.loc (c : Thread nD τ) ↦[arg12.view.set]{fullShare} f) ∗ ⌜f = arg12.view.writes (Elt F) G_arg12 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k).2.2.2.1⌝) ∗ (∃ f, (arg13.view.loc (c : Thread nD τ) ↦[arg13.view.set]{fullShare} f) ∗ ⌜f = arg13.view.writes (Elt F) G_arg13 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k).2.2.2.2.1⌝) ∗ (∃ f, (arg14.view.loc (c : Thread nD τ) ↦[arg14.view.set]{fullShare} f) ∗ ⌜f = arg14.view.writes (Elt F) G_arg14 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k).2.2.2.2.2⌝))

set_option warn.classDefReducibility false in
/-- The loop keeps this invariant. -/
@[sl_loop] def loopInv_k0_t1 (𝒱 : Variants) (c : Dev nD) (bd : Option 𝒱.V) (E : Set ℕ) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (v1 : FVec F S256x128 .bf16) (v4 : IVec S256x128 1) (c0_i32_41 : BitVec 32) (v121 : BitVec 32) (X_arg4 : BufTy.Contents (Elt F) arg4.view.ty) (X_arg5 : BufTy.Contents (Elt F) arg5.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v1 v4 c0_i32_41 v121 where
  inv := inv_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14
  step k acc := by
    iintro ⟨HR_arg4, HR_arg5, ⟨%f_arg9, HW_arg9, %h_arg9⟩, ⟨%f_arg10, HW_arg10, %h_arg10⟩, ⟨%f_arg11, HW_arg11, %h_arg11⟩, ⟨%f_arg12, HW_arg12, %h_arg12⟩, ⟨%f_arg13, HW_arg13, %h_arg13⟩, ⟨%f_arg14, HW_arg14, %h_arg14⟩⟩
    iapply (wp_wand_r Idealize.ShloMosaic.frame (wpE (defs₀ (F := F)) 𝒱 (c : Thread nD τ) bd) E)
    isplitl [HR_arg4 HR_arg5 HW_arg9 HW_arg10 HW_arg11 HW_arg12 HW_arg13 HW_arg14]
    · iapply ((trip_k0_t1 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 k).2.2.2.2.2.2 E f_arg9 f_arg10 f_arg11 f_arg12 f_arg13 f_arg14)
      isplitl [HR_arg4]; · iexact HR_arg4
      isplitl [HR_arg5]; · iexact HR_arg5
      isplitl [HW_arg9]; · iexact HW_arg9
      isplitl [HW_arg10]; · iexact HW_arg10
      isplitl [HW_arg11]; · iexact HW_arg11
      isplitl [HW_arg12]; · iexact HW_arg12
      isplitl [HW_arg13]; · iexact HW_arg13
      iexact HW_arg14
    · iintro %_ ⟨HR_arg4, HR_arg5, HW_arg9, HW_arg10, HW_arg11, HW_arg12, HW_arg13, HW_arg14⟩
      isplitl [HR_arg4]; · iexact HR_arg4
      isplitl [HR_arg5]; · iexact HR_arg5
      rw [pb_k0_t1_succ]
      isplitl [HW_arg9]
      · iexists _; isplitl [HW_arg9]; · iexact HW_arg9
        ipureintro; rw [h_arg9, h_arg10, h_arg11, h_arg12, h_arg13, h_arg14, ← View.writes_append]
      isplitl [HW_arg10]
      · iexists _; isplitl [HW_arg10]; · iexact HW_arg10
        ipureintro; rw [h_arg9, h_arg10, h_arg11, h_arg12, h_arg13, h_arg14, ← View.writes_append]
      isplitl [HW_arg11]
      · iexists _; isplitl [HW_arg11]; · iexact HW_arg11
        ipureintro; rw [h_arg9, h_arg10, h_arg11, h_arg12, h_arg13, h_arg14, ← View.writes_append]
      isplitl [HW_arg12]
      · iexists _; isplitl [HW_arg12]; · iexact HW_arg12
        ipureintro; rw [h_arg9, h_arg10, h_arg11, h_arg12, h_arg13, h_arg14, ← View.writes_append]
      isplitl [HW_arg13]
      · iexists _; isplitl [HW_arg13]; · iexact HW_arg13
        ipureintro; rw [h_arg9, h_arg10, h_arg11, h_arg12, h_arg13, h_arg14, ← View.writes_append]
      iexists _; isplitl [HW_arg14]; · iexact HW_arg14
      ipureintro; rw [h_arg9, h_arg10, h_arg11, h_arg12, h_arg13, h_arg14, ← View.writes_append]

/-- What one trip holds: the two arrays it reads, and the six it keeps, at any contents. -/
abbrev Trip_k0_t2 (c : Dev nD) (arg4 : Memref sig .tc .vmem S1x8192x128 .bf16) (arg5 : Memref sig .tc .vmem S1x8192x128 .bf16) (arg9 : Memref sig .tc .vmem S256x128 .f32) (arg10 : Memref sig .tc .vmem S256x128 .f32) (arg11 : Memref sig .tc .vmem S256x128 .f32) (arg12 : Memref sig .tc .vmem S256x128 .f32) (arg13 : Memref sig .tc .vmem S256x128 .f32) (arg14 : Memref sig .tc .vmem S256x128 .f32) (X_arg4 : BufTy.Contents (Elt F) arg4.view.ty) (X_arg5 : BufTy.Contents (Elt F) arg5.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) : sProp 𝕄 :=
  iprop((arg4.view.loc (c : Thread nD τ) ↦[arg4.view.set]{fullShare} X_arg4) ∗ (arg5.view.loc (c : Thread nD τ) ↦[arg5.view.set]{fullShare} X_arg5) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14))

/-- One trip of the loop: the two arrays it reads stay as they are, and in each of the six arrays it
    keeps, a list of stores depending on what the trip found there. -/
@[irreducible] def trip_k0_t2 (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (v1 : FVec F S256x128 .bf16) (v4 : IVec S256x128 1) (c0_i32_41 : BitVec 32) (v121 : BitVec 32) (X_arg4 : BufTy.Contents (Elt F) arg4.view.ty) (X_arg5 : BufTy.Contents (Elt F) arg5.view.ty) (k : Fin (k0_t2_loop i).trips) :
    Σ' (L_arg9 : (BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S256x128 .f32))) (L_arg10 : (BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S256x128 .f32))) (L_arg11 : (BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S256x128 .f32))) (L_arg12 : (BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S256x128 .f32))) (L_arg13 : (BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S256x128 .f32))) , { L_arg14 : (BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S256x128 .f32)) // ∀ (E : Set ℕ) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty),
      Trip_k0_t2 (F := F) c arg4 arg5 arg9 arg10 arg11 arg12 arg13 arg14 X_arg4 X_arg5 f_arg9 f_arg10 f_arg11 f_arg12 f_arg13 f_arg14
      ⊢ wp frame (wpE (defs₀ (F := F)) 𝒱 (c : Thread nD τ) bd) E (k0_t2_body (F := F) i arg3 harg3 arg4 harg4 arg5 harg5 arg6 harg6 arg7 harg7 arg8 harg8 arg9 harg9 arg10 harg10 arg11 harg11 arg12 harg12 arg13 harg13 arg14 harg14 v1 v4 c0_i32_41 v121 k PUnit.unit)
          (fun _ => Trip_k0_t2 (F := F) c arg4 arg5 arg9 arg10 arg11 arg12 arg13 arg14 X_arg4 X_arg5 (arg9.view.writes (Elt F) f_arg9 (L_arg9 f_arg9 f_arg10 f_arg11 f_arg12 f_arg13 f_arg14)) (arg10.view.writes (Elt F) f_arg10 (L_arg10 f_arg9 f_arg10 f_arg11 f_arg12 f_arg13 f_arg14)) (arg11.view.writes (Elt F) f_arg11 (L_arg11 f_arg9 f_arg10 f_arg11 f_arg12 f_arg13 f_arg14)) (arg12.view.writes (Elt F) f_arg12 (L_arg12 f_arg9 f_arg10 f_arg11 f_arg12 f_arg13 f_arg14)) (arg13.view.writes (Elt F) f_arg13 (L_arg13 f_arg9 f_arg10 f_arg11 f_arg12 f_arg13 f_arg14)) (arg14.view.writes (Elt F) f_arg14 (L_arg14 f_arg9 f_arg10 f_arg11 f_arg12 f_arg13 f_arg14))) } := by
  refine ⟨?_, ?_, ?_, ?_, ?_, ?_, fun E f_arg9 f_arg10 f_arg11 f_arg12 f_arg13 f_arg14 => ?run⟩
  case run =>
    unfold k0_t2_body
    iintro ⟨HR_arg4, HR_arg5, HW_arg9, HW_arg10, HW_arg11, HW_arg12, HW_arg13, HW_arg14⟩
    sl_exec
    sl_step
    sl_close

/-- The six lists of stores of one trip. -/
abbrev tripL_k0_t2 (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (v1 : FVec F S256x128 .bf16) (v4 : IVec S256x128 1) (c0_i32_41 : BitVec 32) (v121 : BitVec 32) (X_arg4 : BufTy.Contents (Elt F) arg4.view.ty) (X_arg5 : BufTy.Contents (Elt F) arg5.view.ty) (k : Fin (k0_t2_loop i).trips) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) : List (View.Piece (Elt F) S256x128 .f32) × List (View.Piece (Elt F) S256x128 .f32) × List (View.Piece (Elt F) S256x128 .f32) × List (View.Piece (Elt F) S256x128 .f32) × List (View.Piece (Elt F) S256x128 .f32) × List (View.Piece (Elt F) S256x128 .f32) :=
  ((trip_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 k).1 f_arg9 f_arg10 f_arg11 f_arg12 f_arg13 f_arg14, (trip_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 k).2.1 f_arg9 f_arg10 f_arg11 f_arg12 f_arg13 f_arg14, (trip_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 k).2.2.1 f_arg9 f_arg10 f_arg11 f_arg12 f_arg13 f_arg14, (trip_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 k).2.2.2.1 f_arg9 f_arg10 f_arg11 f_arg12 f_arg13 f_arg14, (trip_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 k).2.2.2.2.1 f_arg9 f_arg10 f_arg11 f_arg12 f_arg13 f_arg14, (trip_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 k).2.2.2.2.2.1 f_arg9 f_arg10 f_arg11 f_arg12 f_arg13 f_arg14)

/-- The stores made so far, with those of trip `k` put in front; past the last trip, no more. -/
@[irreducible] def pb_k0_t2Step (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (v1 : FVec F S256x128 .bf16) (v4 : IVec S256x128 1) (c0_i32_41 : BitVec 32) (v121 : BitVec 32) (X_arg4 : BufTy.Contents (Elt F) arg4.view.ty) (X_arg5 : BufTy.Contents (Elt F) arg5.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) (k : ℕ) (prev : List (View.Piece (Elt F) S256x128 .f32) × List (View.Piece (Elt F) S256x128 .f32) × List (View.Piece (Elt F) S256x128 .f32) × List (View.Piece (Elt F) S256x128 .f32) × List (View.Piece (Elt F) S256x128 .f32) × List (View.Piece (Elt F) S256x128 .f32)) : List (View.Piece (Elt F) S256x128 .f32) × List (View.Piece (Elt F) S256x128 .f32) × List (View.Piece (Elt F) S256x128 .f32) × List (View.Piece (Elt F) S256x128 .f32) × List (View.Piece (Elt F) S256x128 .f32) × List (View.Piece (Elt F) S256x128 .f32) :=
  if h : k < (k0_t2_loop i).trips then
    ((tripL_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 ⟨k, h⟩ (arg9.view.writes (Elt F) G_arg9 prev.1) (arg10.view.writes (Elt F) G_arg10 prev.2.1) (arg11.view.writes (Elt F) G_arg11 prev.2.2.1) (arg12.view.writes (Elt F) G_arg12 prev.2.2.2.1) (arg13.view.writes (Elt F) G_arg13 prev.2.2.2.2.1) (arg14.view.writes (Elt F) G_arg14 prev.2.2.2.2.2)).1 ++ prev.1, (tripL_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 ⟨k, h⟩ (arg9.view.writes (Elt F) G_arg9 prev.1) (arg10.view.writes (Elt F) G_arg10 prev.2.1) (arg11.view.writes (Elt F) G_arg11 prev.2.2.1) (arg12.view.writes (Elt F) G_arg12 prev.2.2.2.1) (arg13.view.writes (Elt F) G_arg13 prev.2.2.2.2.1) (arg14.view.writes (Elt F) G_arg14 prev.2.2.2.2.2)).2.1 ++ prev.2.1, (tripL_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 ⟨k, h⟩ (arg9.view.writes (Elt F) G_arg9 prev.1) (arg10.view.writes (Elt F) G_arg10 prev.2.1) (arg11.view.writes (Elt F) G_arg11 prev.2.2.1) (arg12.view.writes (Elt F) G_arg12 prev.2.2.2.1) (arg13.view.writes (Elt F) G_arg13 prev.2.2.2.2.1) (arg14.view.writes (Elt F) G_arg14 prev.2.2.2.2.2)).2.2.1 ++ prev.2.2.1, (tripL_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 ⟨k, h⟩ (arg9.view.writes (Elt F) G_arg9 prev.1) (arg10.view.writes (Elt F) G_arg10 prev.2.1) (arg11.view.writes (Elt F) G_arg11 prev.2.2.1) (arg12.view.writes (Elt F) G_arg12 prev.2.2.2.1) (arg13.view.writes (Elt F) G_arg13 prev.2.2.2.2.1) (arg14.view.writes (Elt F) G_arg14 prev.2.2.2.2.2)).2.2.2.1 ++ prev.2.2.2.1, (tripL_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 ⟨k, h⟩ (arg9.view.writes (Elt F) G_arg9 prev.1) (arg10.view.writes (Elt F) G_arg10 prev.2.1) (arg11.view.writes (Elt F) G_arg11 prev.2.2.1) (arg12.view.writes (Elt F) G_arg12 prev.2.2.2.1) (arg13.view.writes (Elt F) G_arg13 prev.2.2.2.2.1) (arg14.view.writes (Elt F) G_arg14 prev.2.2.2.2.2)).2.2.2.2.1 ++ prev.2.2.2.2.1, (tripL_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 ⟨k, h⟩ (arg9.view.writes (Elt F) G_arg9 prev.1) (arg10.view.writes (Elt F) G_arg10 prev.2.1) (arg11.view.writes (Elt F) G_arg11 prev.2.2.1) (arg12.view.writes (Elt F) G_arg12 prev.2.2.2.1) (arg13.view.writes (Elt F) G_arg13 prev.2.2.2.2.1) (arg14.view.writes (Elt F) G_arg14 prev.2.2.2.2.2)).2.2.2.2.2 ++ prev.2.2.2.2.2)
  else prev

/-- The stores of all the trips before `k`, each trip run on what the trips before it left. -/
def pb_k0_t2 (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (v1 : FVec F S256x128 .bf16) (v4 : IVec S256x128 1) (c0_i32_41 : BitVec 32) (v121 : BitVec 32) (X_arg4 : BufTy.Contents (Elt F) arg4.view.ty) (X_arg5 : BufTy.Contents (Elt F) arg5.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) : ℕ → List (View.Piece (Elt F) S256x128 .f32) × List (View.Piece (Elt F) S256x128 .f32) × List (View.Piece (Elt F) S256x128 .f32) × List (View.Piece (Elt F) S256x128 .f32) × List (View.Piece (Elt F) S256x128 .f32) × List (View.Piece (Elt F) S256x128 .f32)
  | 0 => ([], [], [], [], [], [])
  | k + 1 => pb_k0_t2Step 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k (pb_k0_t2 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k)

/-- After trip `k`, its stores are in front. -/
theorem pb_k0_t2_succ (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (v1 : FVec F S256x128 .bf16) (v4 : IVec S256x128 1) (c0_i32_41 : BitVec 32) (v121 : BitVec 32) (X_arg4 : BufTy.Contents (Elt F) arg4.view.ty) (X_arg5 : BufTy.Contents (Elt F) arg5.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) (k : Fin (k0_t2_loop i).trips) :
    pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 (k.val + 1)
      = ((tripL_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 k (arg9.view.writes (Elt F) G_arg9 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).1) (arg10.view.writes (Elt F) G_arg10 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.1) (arg11.view.writes (Elt F) G_arg11 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.1) (arg12.view.writes (Elt F) G_arg12 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.1) (arg13.view.writes (Elt F) G_arg13 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.1) (arg14.view.writes (Elt F) G_arg14 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.2)).1 ++ (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).1, (tripL_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 k (arg9.view.writes (Elt F) G_arg9 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).1) (arg10.view.writes (Elt F) G_arg10 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.1) (arg11.view.writes (Elt F) G_arg11 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.1) (arg12.view.writes (Elt F) G_arg12 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.1) (arg13.view.writes (Elt F) G_arg13 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.1) (arg14.view.writes (Elt F) G_arg14 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.2)).2.1 ++ (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.1, (tripL_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 k (arg9.view.writes (Elt F) G_arg9 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).1) (arg10.view.writes (Elt F) G_arg10 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.1) (arg11.view.writes (Elt F) G_arg11 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.1) (arg12.view.writes (Elt F) G_arg12 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.1) (arg13.view.writes (Elt F) G_arg13 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.1) (arg14.view.writes (Elt F) G_arg14 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.2)).2.2.1 ++ (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.1, (tripL_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 k (arg9.view.writes (Elt F) G_arg9 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).1) (arg10.view.writes (Elt F) G_arg10 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.1) (arg11.view.writes (Elt F) G_arg11 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.1) (arg12.view.writes (Elt F) G_arg12 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.1) (arg13.view.writes (Elt F) G_arg13 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.1) (arg14.view.writes (Elt F) G_arg14 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.2)).2.2.2.1 ++ (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.1, (tripL_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 k (arg9.view.writes (Elt F) G_arg9 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).1) (arg10.view.writes (Elt F) G_arg10 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.1) (arg11.view.writes (Elt F) G_arg11 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.1) (arg12.view.writes (Elt F) G_arg12 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.1) (arg13.view.writes (Elt F) G_arg13 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.1) (arg14.view.writes (Elt F) G_arg14 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.2)).2.2.2.2.1 ++ (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.1, (tripL_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 k (arg9.view.writes (Elt F) G_arg9 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).1) (arg10.view.writes (Elt F) G_arg10 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.1) (arg11.view.writes (Elt F) G_arg11 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.1) (arg12.view.writes (Elt F) G_arg12 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.1) (arg13.view.writes (Elt F) G_arg13 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.1) (arg14.view.writes (Elt F) G_arg14 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.2)).2.2.2.2.2 ++ (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k.val).2.2.2.2.2) := by
  rw [pb_k0_t2.eq_2]; unfold pb_k0_t2Step; exact dif_pos k.isLt

/-- Before trip `k` the arrays read are unchanged, and each array kept is what it was at the start of
    the loop with the stores of the earlier trips made. -/
abbrev inv_k0_t2 (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (v1 : FVec F S256x128 .bf16) (v4 : IVec S256x128 1) (c0_i32_41 : BitVec 32) (v121 : BitVec 32) (X_arg4 : BufTy.Contents (Elt F) arg4.view.ty) (X_arg5 : BufTy.Contents (Elt F) arg5.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) (k : ℕ) (_u : PUnit) : sProp 𝕄 :=
  iprop((arg4.view.loc (c : Thread nD τ) ↦[arg4.view.set]{fullShare} X_arg4) ∗ (arg5.view.loc (c : Thread nD τ) ↦[arg5.view.set]{fullShare} X_arg5) ∗ (∃ f, (arg9.view.loc (c : Thread nD τ) ↦[arg9.view.set]{fullShare} f) ∗ ⌜f = arg9.view.writes (Elt F) G_arg9 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k).1⌝) ∗ (∃ f, (arg10.view.loc (c : Thread nD τ) ↦[arg10.view.set]{fullShare} f) ∗ ⌜f = arg10.view.writes (Elt F) G_arg10 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k).2.1⌝) ∗ (∃ f, (arg11.view.loc (c : Thread nD τ) ↦[arg11.view.set]{fullShare} f) ∗ ⌜f = arg11.view.writes (Elt F) G_arg11 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k).2.2.1⌝) ∗ (∃ f, (arg12.view.loc (c : Thread nD τ) ↦[arg12.view.set]{fullShare} f) ∗ ⌜f = arg12.view.writes (Elt F) G_arg12 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k).2.2.2.1⌝) ∗ (∃ f, (arg13.view.loc (c : Thread nD τ) ↦[arg13.view.set]{fullShare} f) ∗ ⌜f = arg13.view.writes (Elt F) G_arg13 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k).2.2.2.2.1⌝) ∗ (∃ f, (arg14.view.loc (c : Thread nD τ) ↦[arg14.view.set]{fullShare} f) ∗ ⌜f = arg14.view.writes (Elt F) G_arg14 (pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14 k).2.2.2.2.2⌝))

set_option warn.classDefReducibility false in
/-- The loop keeps this invariant. -/
@[sl_loop] def loopInv_k0_t2 (𝒱 : Variants) (c : Dev nD) (bd : Option 𝒱.V) (E : Set ℕ) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (v1 : FVec F S256x128 .bf16) (v4 : IVec S256x128 1) (c0_i32_41 : BitVec 32) (v121 : BitVec 32) (X_arg4 : BufTy.Contents (Elt F) arg4.view.ty) (X_arg5 : BufTy.Contents (Elt F) arg5.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) :
    LoopInvTy_k0_t2 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v1 v4 c0_i32_41 v121 where
  inv := inv_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 G_arg9 G_arg10 G_arg11 G_arg12 G_arg13 G_arg14
  step k acc := by
    iintro ⟨HR_arg4, HR_arg5, ⟨%f_arg9, HW_arg9, %h_arg9⟩, ⟨%f_arg10, HW_arg10, %h_arg10⟩, ⟨%f_arg11, HW_arg11, %h_arg11⟩, ⟨%f_arg12, HW_arg12, %h_arg12⟩, ⟨%f_arg13, HW_arg13, %h_arg13⟩, ⟨%f_arg14, HW_arg14, %h_arg14⟩⟩
    iapply (wp_wand_r Idealize.ShloMosaic.frame (wpE (defs₀ (F := F)) 𝒱 (c : Thread nD τ) bd) E)
    isplitl [HR_arg4 HR_arg5 HW_arg9 HW_arg10 HW_arg11 HW_arg12 HW_arg13 HW_arg14]
    · iapply ((trip_k0_t2 (F := F) 𝒱 c bd i arg3 harg3 arg4 harg4 arg5 harg5 arg6 harg6 arg7 harg7 arg8 harg8 arg9 harg9 arg10 harg10 arg11 harg11 arg12 harg12 arg13 harg13 arg14 harg14 v1 v4 c0_i32_41 v121 X_arg4 X_arg5 k).2.2.2.2.2.2 E f_arg9 f_arg10 f_arg11 f_arg12 f_arg13 f_arg14)
      isplitl [HR_arg4]; · iexact HR_arg4
      isplitl [HR_arg5]; · iexact HR_arg5
      isplitl [HW_arg9]; · iexact HW_arg9
      isplitl [HW_arg10]; · iexact HW_arg10
      isplitl [HW_arg11]; · iexact HW_arg11
      isplitl [HW_arg12]; · iexact HW_arg12
      isplitl [HW_arg13]; · iexact HW_arg13
      iexact HW_arg14
    · iintro %_ ⟨HR_arg4, HR_arg5, HW_arg9, HW_arg10, HW_arg11, HW_arg12, HW_arg13, HW_arg14⟩
      isplitl [HR_arg4]; · iexact HR_arg4
      isplitl [HR_arg5]; · iexact HR_arg5
      rw [pb_k0_t2_succ]
      isplitl [HW_arg9]
      · iexists _; isplitl [HW_arg9]; · iexact HW_arg9
        ipureintro; rw [h_arg9, h_arg10, h_arg11, h_arg12, h_arg13, h_arg14, ← View.writes_append]
      isplitl [HW_arg10]
      · iexists _; isplitl [HW_arg10]; · iexact HW_arg10
        ipureintro; rw [h_arg9, h_arg10, h_arg11, h_arg12, h_arg13, h_arg14, ← View.writes_append]
      isplitl [HW_arg11]
      · iexists _; isplitl [HW_arg11]; · iexact HW_arg11
        ipureintro; rw [h_arg9, h_arg10, h_arg11, h_arg12, h_arg13, h_arg14, ← View.writes_append]
      isplitl [HW_arg12]
      · iexists _; isplitl [HW_arg12]; · iexact HW_arg12
        ipureintro; rw [h_arg9, h_arg10, h_arg11, h_arg12, h_arg13, h_arg14, ← View.writes_append]
      isplitl [HW_arg13]
      · iexists _; isplitl [HW_arg13]; · iexact HW_arg13
        ipureintro; rw [h_arg9, h_arg10, h_arg11, h_arg12, h_arg13, h_arg14, ← View.writes_append]
      iexists _; isplitl [HW_arg14]; · iexact HW_arg14
      ipureintro; rw [h_arg9, h_arg10, h_arg11, h_arg12, h_arg13, h_arg14, ← View.writes_append]

end Cert.Da

end
-- ==== Proof.DaRun.lean ====
module

public import proofs.«01_k».proof.Proof.DaLoop
public import proofs.«01_k».proof.Proof.Gen.Kernel5Ideal.Frame
public import Idealize.ShloMosaic.Lib.Claim
public import Idealize.ShloMosaic.Lib.Pipeline.Value

/-! # Differential attention: the run of the idealized kernel -/

@[expose] public section

set_option maxRecDepth 16384

noncomputable section

namespace Cert.Da

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- One staging buffer of the result, through which its contents are read. -/
abbrev VO0_5 : View sig .tc .vmem S256x128 .bf16 := (Memref.whole cc0_stg5_0 : Memref sig .tc .vmem S256x128 .bf16).view

/-- The staging buffer of each window at a point, and that it is a whole buffer. -/
abbrev ms0_0 (t : Fin cfg0.N) : Memref sig .tc .vmem S1x256x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .bf16 := win0_5.stage (cfg0.slots t 5)
abbrev hs0_5 (t : Fin cfg0.N) : (ms0_5 t).IsWhole := hstage0_5 ((cfg0.slots t 5).cast nbuf0_5)

/-- The six scratch buffers: maximum, sum and accumulator of each of the two heads. -/
abbrev scM0_0 : Memref sig .tc .vmem S256x128 .f32 := Memref.whole cc0_scratch0
abbrev scM0_1 : Memref sig .tc .vmem S256x128 .f32 := Memref.whole cc0_scratch1
abbrev scM0_2 : Memref sig .tc .vmem S256x128 .f32 := Memref.whole cc0_scratch2
abbrev scM0_3 : Memref sig .tc .vmem S256x128 .f32 := Memref.whole cc0_scratch3
abbrev scM0_4 : Memref sig .tc .vmem S256x128 .f32 := Memref.whole cc0_scratch4
abbrev scM0_5 : Memref sig .tc .vmem S256x128 .f32 := Memref.whole cc0_scratch5

/-- The scratch buffers and the generator register, as the launch hands them to the body. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

set_option maxHeartbeats 1000000 in
/-- The body on any whole buffers: the inputs stay as they are, the scratch ends at something, and the
    result ends with a list of stores that the run itself finds. -/
noncomputable def kernelRun0_A (c : Dev nD) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole)
    (x0 : Vec F S1x256x128 .bf16) (x1 : Vec F S1x8192x128 .bf16) (x2 : Vec F S1x8192x128 .bf16) (x3 : Vec F S4x64 .f32) (x4 : Vec F S1x128 .f32) :
    { L5 : List (View.Piece (Elt F) S256x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_diffattn i arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_diffattn_eq_skeleton]; unfold cc0_diffattn_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg3.eq_unread hf0; obtain rfl := harg4.eq_unread hf1; obtain rfl := harg5.eq_unread hf2; obtain rfl := harg6.eq_unread hf3; obtain rfl := harg7.eq_unread hf4
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

/-- The stores to the result reach every entry of its block. -/
theorem cover0_A_5 (c : Dev nD) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole)
    (x0 : Vec F S1x256x128 .bf16) (x1 : Vec F S1x8192x128 .bf16) (x2 : Vec F S1x8192x128 .bf16) (x3 : Vec F S4x64 .f32) (x4 : Vec F S1x128 .f32) (y : S256x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 x0 x1 x2 x3 x4).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 x0 x1 x2 x3 x4).1 S256x128.size (by sl_kernel_rfl) y

/-- The block of the result that the body leaves. -/
def out0_A_5 (c : Dev nD) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole)
    (x0 : Vec F S1x256x128 .bf16) (x1 : Vec F S1x8192x128 .bf16) (x2 : Vec F S1x8192x128 .bf16) (x3 : Vec F S4x64 .f32) (x4 : Vec F S1x128 .f32) : Vec F S256x128 .bf16 :=
  VO0_5.read (Elt F) (VO0_5.writes (Elt F) VO0_5.junk (kernelRun0_A c i arg3 harg3 arg4 harg4 arg5 harg5 arg6 harg6 arg7 harg7 arg8 harg8 arg9 harg9 arg10 harg10 arg11 harg11 arg12 harg12 arg13 harg13 arg14 harg14 x0 x1 x2 x3 x4).1)

/-- The block that the body leaves at a point. -/
def outsAt0 (c : Dev nD) (t : Fin cfg0.N) : Vec F S256x128 .bf16 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t)

/-- The data of the launch: the arrays as the region finds them, the inputs left as they are, the result
    as the body leaves it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
  Φ _ := Pipeline.ΦA spec0 c
  q w := Pipeline.shareOf spec0 w
  owed _ := 0

/-- The arrays are those the region finds. -/
theorem A_eq (c : Dev nD) (w : Fin cfg0.W) : (dats m 0 c).A w = V m c (Pipeline.arrRef spec0 w) := by
  dsimp only [dats]

/-- What each window holds after the body. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t) := by dsimp only [dats]

/-- Each input window holds its block before the body. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body starts from. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What the body ends with. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1200000 in
/-- The body, at any point, goes from the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0
  unfold out0_A_5
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, ⟨%e5, H5⟩, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 c _ _ _ _ _ _ _ _ _ _ _ _ _ _ _ _ _ _ _ _ _ _ _ _ _ _ _ _ _ _)

/-- The body called at a point is the body run above. -/
theorem defs₀_row (t : Fin cfg0.N) :
    defs₀ (F := F) .tc cfg0.body (cfg0.bodyArgs t (cfg0.slots t)) = bodyAt0 t := by
  unfold defs₀; rw [Defs.onTc_tc]

/-- The body does what the launch asks of it, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole run ends, with the arrays as the data of the launch say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The whole run ends, with the arrays as the data of the launch say. -/
theorem run_main : θ_run defs (onTc (τ := τ) (main (F := F))) (s₀ m ρ) (Pipeline.FramePost cfgs (dats m) 0 (V m)) :=
  (θ_run defs _ _).mono (fun _ h => h.1) (run_main_quiescent m ρ)

/-- The run leaves the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The run ends, leaves the arguments as they were, and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- What a point writes back to the result. -/
theorem flushed5 (c : Dev nD) (t : Fin cfg0.N) :
    (dats m 0 c).flushed 5 t = (cfg0.win 5).cut (grid0.coords t) (outsAt0 m c t) := by
  show (cfg0.win 5).cut (grid0.coords t) ((dats m 0 c).after 5 t) = _
  rw [after0_5]

theorem post5 (r : PUnit × MemSt nD τ sig (Elt F)) (h : Pipeline.FramePost cfgs (dats m) 0 (V m) r) (c : Dev nD) :
    r.2.mem ((c : Thread nD τ).loc main_v11) = (dats m 0 c).arrAt 5 cfg0.N :=
  (h c).1 5

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The run, with the result named: it is the array the points write back, and the arguments stay. -/
theorem run_blocks : θ_run defs (onTc (τ := τ) (main (F := F))) ⟨m, fun _ => 0, ρ⟩ fun r => ∀ c : Dev nD,
      r.2.mem ((c : Thread nD τ).loc main_v11) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      kept_main_arg0 m r h c,
      kept_main_arg1 m r h c,
      kept_main_arg2 m r h c,
      kept_main_arg3 m r h c,
      kept_main_arg4 m r h c⟩)
    (run_main m ρ)

end Cert.Da

end
-- ==== Proof.DaTrip.lean ====
/-
  One trip of the loop of differential attention, and what the block on the diagonal leaves, as functions of the blocks.
  A point holds six arrays between trips: for each of the two heads of a group a maximum (`m0`, `m1`), the sum of the
  exponentials (`l0`, `l1`) and the running output (`a0`, `a1`). `St` bundles them, `first` is what the block on the
  diagonal leaves in them, `step` what one further block of keys does to them.
-/
module

public import proofs.«01_k».proof.Proof.DaRun
public import Idealize.ShloMosaic.Lib.Pipeline.ValueKit

@[expose] public section

set_option maxRecDepth 16384

noncomputable section

namespace Cert.Da

open Cert.Kernel5Ideal Cert.Kernel5Ideal.Gen Idealize.ShloMosaic Idealize.ShloMosaic.TcCoe Idealize.SL.Sem

variable {F : FTy → Type} [FloatOps F] [Named F]

/-- The six arrays a grid point carries from block to block. -/
@[ext] structure St (F : FTy → Type) [FloatOps F] where
  m0 : Vec F S256x128 .f32
  l0 : Vec F S256x128 .f32
  a0 : Vec F S256x128 .f32
  m1 : Vec F S256x128 .f32
  l1 : Vec F S256x128 .f32
  a1 : Vec F S256x128 .f32

/-- Six arrays equal to those of `s` make up `s`. -/
theorem St.mk_eq {s : St F} {m0 l0 a0 m1 l1 a1 : Vec F S256x128 .f32} (h0 : m0 = s.m0) (h1 : l0 = s.l0) (h2 : a0 = s.a0)
    (h3 : m1 = s.m1) (h4 : l1 = s.l1) (h5 : a1 = s.a1) : (⟨m0, l0, a0, m1, l1, a1⟩ : St F) = s := by
  subst h0 h1 h2 h3 h4 h5; rfl

/-- The offset of block `j` of the keys. -/
theorem inb_row (j : Fin 32) : ∀ a, (![0, 256 * j.val, 0] : Fin 3 → ℕ) a + S1x256x128.size a ≤ S1x8192x128.size a := by
  have := j.isLt
  intro a
  match a with
  | ⟨0, _⟩ => show 0 + 1 ≤ 1; omega
  | ⟨1, _⟩ => show 256 * j.val + 256 ≤ 8192; omega
  | ⟨2, _⟩ => show 0 + 128 ≤ 128; omega

/-- Rows `256 j … 256 j + 255` of the keys (or values) of a group. -/
def rows (X : Vec F S1x8192x128 .bf16) (j : Fin 32) : Vec F S1x256x128 .bf16 :=
  View.ld X (Rect.unit (s := S1x8192x128) ![0, 256 * j.val, 0] S1x256x128.size (inb_row j))

/-- The keys a query may see in the block on the diagonal. -/
abbrev seen : IVec S256x256 1 := k0_pay50 k0_pay47 k0_pay48 k0_pay49

/-- What the block on the diagonal leaves in the six arrays. -/
def first (x0 kb vb : Vec F S1x256x128 .bf16) : St F where
  m0 := k0_pay54 (k0_pay45 x0 kb) k0_pay47 k0_pay48 k0_pay49
  l0 := k0_pay56 (k0_pay55 (k0_pay45 x0 kb) k0_pay47 k0_pay48 k0_pay49)
  a0 := k0_pay57 (k0_pay43 vb) (k0_pay53 (k0_pay45 x0 kb) k0_pay47 k0_pay48 k0_pay49)
  m1 := k0_pay61 (k0_pay46 x0 kb) seen
  l1 := k0_pay62 (k0_pay46 x0 kb) seen
  a1 := k0_pay63 (k0_pay43 vb) (k0_pay46 x0 kb) seen

/-- What one further block of keys `kb` and values `vb` does to them. -/
def step (v1 : FVec F S256x128 .bf16) (v4 : IVec S256x128 1) (kb vb : Vec F S1x256x128 .bf16) (s : St F) : St F where
  m0 := k0_pay11 v1 v4 kb s.m0
  l0 := k0_pay12 v1 v4 kb s.m0 s.l0
  a0 := k0_pay13 (k0_pay3 vb) (k0_pay9 v1 v4 kb s.m0) (k0_pay10 v1 v4 kb s.m0) s.a0
  m1 := k0_pay18 (k0_pay6 v1 v4 kb) s.m1
  l1 := k0_pay19 (k0_pay6 v1 v4 kb) s.m1 s.l1
  a1 := k0_pay64 (k0_pay20 (k0_pay3 vb) (k0_pay6 v1 v4 kb) s.m1 s.a1)

theorem hz2 : (![0, 0] : Fin 2 → ℕ) = fun _ => 0 := funext fun a => by fin_cases a <;> rfl
theorem hz3 : (![0, 0, 0] : Fin 3 → ℕ) = fun _ => 0 := funext fun a => by fin_cases a <;> rfl

/-- A whole-block store read back is what was stored. -/
theorem read_writes_whole {κ : Kind} {sp : Space} {e : EltTy} (v : View sig κ sp S256x128 e) (f : v.ty.Contents (Elt F))
    (inb : ∀ a, (![0, 0] : Fin 2 → ℕ) a + S256x128.size a ≤ S256x128.size a) (w : Vec F S256x128 e)
    (L : List (View.Piece (Elt F) S256x128 e)) :
    v.read (Elt F) (v.writes (Elt F) f (⟨Rect.unit ![0, 0] S256x128.size inb, w⟩ :: L)) = w := by
  rw [View.read_writes_eq_canon, View.canon_cons_unit_zero hz2]
  intro y
  exact ⟨_, List.mem_cons_self, View.mem_set_unit_zero hz2 inb y⟩

theorem trips_nat : ∀ n : Fin 32, Scf.trips (0#32) (Scalar.addi 0#32 (Scalar.muli (Scalar.divsi (Scalar.subi (BitVec.ofNat 32 n.val) 0#32) 1#32) 1#32)) 1#32 = n.val := by
  decide +kernel

theorem trips2_nat : ∀ n : Fin 32, Scf.trips (Scalar.addi 0#32 (Scalar.muli (Scalar.divsi (Scalar.subi (BitVec.ofNat 32 n.val) 0#32) 1#32) 1#32)) (Scalar.addi 0#32 (Scalar.subi (BitVec.ofNat 32 n.val) 0#32)) 1#32 = 0 := by
  decide +kernel

/-- Row block `i` is followed by `i` trips, -/
theorem trips_eq (i : grid0.Coords) : (k0_t1_loop i).trips = (i 2).val := trips_nat (i 2)
/-- and the loop for what the unrolling leaves over makes none. -/
theorem trips2_eq (i : grid0.Coords) : (k0_t2_loop i).trips = 0 := trips2_nat (i 2)

theorem off1_nat : ∀ n : Fin 32, (Scalar.muli (BitVec.ofNat 32 n.val) 256#32).toNat = 256 * n.val := by decide +kernel

theorem off2_nat : ∀ k : Fin 32, (Scalar.muli (Scf.iv 0#32 1#32 k.val) 256#32).toNat = 256 * (k.val % 32) := by
  decide +kernel

/-- The first block read is the row block's own. -/
theorem off1_eq (i : grid0.Coords) : k0_off1 i = ![0, 256 * (i 2).val, 0] := by
  have h := off1_nat (i 2)
  unfold k0_off1
  dsimp only
  rw [← h]; rfl

/-- Block `k`, the one trip `k` reads. -/
def nth (k : ℕ) : Fin 32 := ⟨k % 32, Nat.mod_lt _ (by decide)⟩

theorem off2_eq (i : grid0.Coords) (k : Fin (k0_t1_loop i).trips) : k0_off2 i k = ![0, 256 * (nth k.val).val, 0] := by
  have hk : k.val < (i 2).val := lt_of_lt_of_eq k.isLt (trips_eq i)
  have h := off2_nat ⟨k.val, hk.trans (i 2).isLt⟩
  unfold k0_off2 nth
  dsimp only
  rw [← h]; rfl

theorem ld_congr {X : Vec F S1x8192x128 .bf16} {o o' : Fin 3 → ℕ} (h : o = o') (inb : ∀ a, o a + S1x256x128.size a ≤ S1x8192x128.size a)
    (inb' : ∀ a, o' a + S1x256x128.size a ≤ S1x8192x128.size a) :
    View.ld X (Rect.unit (s := S1x8192x128) o S1x256x128.size inb) = View.ld X (Rect.unit (s := S1x8192x128) o' S1x256x128.size inb') := by
  subst h; rfl

theorem ld_off1 (i : grid0.Coords) (X : Vec F S1x8192x128 .bf16) :
    View.ld X (Rect.unit (s := S1x8192x128) (k0_off1 i) S1x256x128.size (k0_off1_inb i)) = rows X (i 2) :=
  ld_congr (off1_eq i) _ _

theorem ld_off2 (i : grid0.Coords) (k : Fin (k0_t1_loop i).trips) (X : Vec F S1x8192x128 .bf16) :
    View.ld X (Rect.unit (s := S1x8192x128) (k0_off2 i k) S1x256x128.size (k0_off2_inb i k)) = rows X (nth k.val) :=
  ld_congr (off2_eq i k) _ _

/-- The six arrays after `n` trips from `s`. -/
def iter (v1 : FVec F S256x128 .bf16) (v4 : IVec S256x128 1) (K V : Vec F S1x8192x128 .bf16) (s : St F) : ℕ → St F
  | 0 => s
  | n + 1 => step v1 v4 (rows K (nth n)) (rows V (nth n)) (iter v1 v4 K V s n)

section
variable (𝒱 : Variants) (c : Dev nD) (bd : Option 𝒱.V) (i : grid0.Coords)
  (arg3 : Memref sig .tc .vmem S1x256x128 .bf16) (harg3 : arg3.IsWhole) (arg4 : Memref sig .tc .vmem S1x8192x128 .bf16) (harg4 : arg4.IsWhole)
  (arg5 : Memref sig .tc .vmem S1x8192x128 .bf16) (harg5 : arg5.IsWhole) (arg6 : Memref sig .tc .vmem S4x64 .f32) (harg6 : arg6.IsWhole)
  (arg7 : Memref sig .tc .vmem S1x128 .f32) (harg7 : arg7.IsWhole) (arg8 : Memref sig .tc .vmem S256x128 .bf16) (harg8 : arg8.IsWhole)
  (arg9 : Memref sig .tc .vmem S256x128 .f32) (harg9 : arg9.IsWhole) (arg10 : Memref sig .tc .vmem S256x128 .f32) (harg10 : arg10.IsWhole)
  (arg11 : Memref sig .tc .vmem S256x128 .f32) (harg11 : arg11.IsWhole) (arg12 : Memref sig .tc .vmem S256x128 .f32) (harg12 : arg12.IsWhole)
  (arg13 : Memref sig .tc .vmem S256x128 .f32) (harg13 : arg13.IsWhole) (arg14 : Memref sig .tc .vmem S256x128 .f32) (harg14 : arg14.IsWhole)
  (v1 : FVec F S256x128 .bf16) (v4 : IVec S256x128 1) (w0 w1 : BitVec 32)
  (X4 : BufTy.Contents (Elt F) arg4.view.ty) (X5 : BufTy.Contents (Elt F) arg5.view.ty)
  (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty)

/-- What trip `k` leaves in array `m0`. -/
theorem trip_m0 (k : Fin (k0_t1_loop i).trips) :
    arg9.view.read (Elt F) (arg9.view.writes (Elt F) f9 ((trip_k0_t1 (F := F) 𝒱 c bd i arg3 harg3 arg4 harg4 arg5 harg5 arg6 harg6 arg7 harg7 arg8 harg8 arg9 harg9 arg10 harg10 arg11 harg11 arg12 harg12 arg13 harg13 arg14 harg14 v1 v4 w0 w1 X4 X5 k).1 f9 f10 f11 f12 f13 f14))
      = (step v1 v4 (rows (arg4.view.read (Elt F) X4) (nth k.val)) (rows (arg5.view.read (Elt F) X5) (nth k.val))
          ⟨arg9.view.read (Elt F) f9, arg10.view.read (Elt F) f10, arg11.view.read (Elt F) f11, arg12.view.read (Elt F) f12, arg13.view.read (Elt F) f13, arg14.view.read (Elt F) f14⟩).m0 := by
  unfold trip_k0_t1
  dsimp only
  refine (read_writes_whole _ _ _ _ _).trans ?_
  sl_unfold_words
  simp only [← ld_off2 i k]
  unfold step
  dsimp only
  simp only [View.readAt_eq_ld, View.ld_unit_zero (S := S256x128) hz2]
  rfl

/-- What trip `k` leaves in array `l0`. -/
theorem trip_l0 (k : Fin (k0_t1_loop i).trips) :
    arg10.view.read (Elt F) (arg10.view.writes (Elt F) f10 ((trip_k0_t1 (F := F) 𝒱 c bd i arg3 harg3 arg4 harg4 arg5 harg5 arg6 harg6 arg7 harg7 arg8 harg8 arg9 harg9 arg10 harg10 arg11 harg11 arg12 harg12 arg13 harg13 arg14 harg14 v1 v4 w0 w1 X4 X5 k).2.1 f9 f10 f11 f12 f13 f14))
      = (step v1 v4 (rows (arg4.view.read (Elt F) X4) (nth k.val)) (rows (arg5.view.read (Elt F) X5) (nth k.val))
          ⟨arg9.view.read (Elt F) f9, arg10.view.read (Elt F) f10, arg11.view.read (Elt F) f11, arg12.view.read (Elt F) f12, arg13.view.read (Elt F) f13, arg14.view.read (Elt F) f14⟩).l0 := by
  unfold trip_k0_t1
  dsimp only
  refine (read_writes_whole _ _ _ _ _).trans ?_
  sl_unfold_words
  simp only [← ld_off2 i k]
  unfold step
  dsimp only
  simp only [View.readAt_eq_ld, View.ld_unit_zero (S := S256x128) hz2]
  rfl

/-- What trip `k` leaves in array `a0`. -/
theorem trip_a0 (k : Fin (k0_t1_loop i).trips) :
    arg11.view.read (Elt F) (arg11.view.writes (Elt F) f11 ((trip_k0_t1 (F := F) 𝒱 c bd i arg3 harg3 arg4 harg4 arg5 harg5 arg6 harg6 arg7 harg7 arg8 harg8 arg9 harg9 arg10 harg10 arg11 harg11 arg12 harg12 arg13 harg13 arg14 harg14 v1 v4 w0 w1 X4 X5 k).2.2.1 f9 f10 f11 f12 f13 f14))
      = (step v1 v4 (rows (arg4.view.read (Elt F) X4) (nth k.val)) (rows (arg5.view.read (Elt F) X5) (nth k.val))
          ⟨arg9.view.read (Elt F) f9, arg10.view.read (Elt F) f10, arg11.view.read (Elt F) f11, arg12.view.read (Elt F) f12, arg13.view.read (Elt F) f13, arg14.view.read (Elt F) f14⟩).a0 := by
  unfold trip_k0_t1
  dsimp only
  refine (read_writes_whole _ _ _ _ _).trans ?_
  sl_unfold_words
  simp only [← ld_off2 i k]
  unfold step
  dsimp only
  simp only [View.readAt_eq_ld, View.ld_unit_zero (S := S256x128) hz2]
  rfl

/-- What trip `k` leaves in array `m1`. -/
theorem trip_m1 (k : Fin (k0_t1_loop i).trips) :
    arg12.view.read (Elt F) (arg12.view.writes (Elt F) f12 ((trip_k0_t1 (F := F) 𝒱 c bd i arg3 harg3 arg4 harg4 arg5 harg5 arg6 harg6 arg7 harg7 arg8 harg8 arg9 harg9 arg10 harg10 arg11 harg11 arg12 harg12 arg13 harg13 arg14 harg14 v1 v4 w0 w1 X4 X5 k).2.2.2.1 f9 f10 f11 f12 f13 f14))
      = (step v1 v4 (rows (arg4.view.read (Elt F) X4) (nth k.val)) (rows (arg5.view.read (Elt F) X5) (nth k.val))
          ⟨arg9.view.read (Elt F) f9, arg10.view.read (Elt F) f10, arg11.view.read (Elt F) f11, arg12.view.read (Elt F) f12, arg13.view.read (Elt F) f13, arg14.view.read (Elt F) f14⟩).m1 := by
  unfold trip_k0_t1
  dsimp only
  refine (read_writes_whole _ _ _ _ _).trans ?_
  sl_unfold_words
  simp only [← ld_off2 i k]
  unfold step
  dsimp only
  simp only [View.readAt_eq_ld, View.ld_unit_zero (S := S256x128) hz2]
  rfl

/-- What trip `k` leaves in array `l1`. -/
theorem trip_l1 (k : Fin (k0_t1_loop i).trips) :
    arg13.view.read (Elt F) (arg13.view.writes (Elt F) f13 ((trip_k0_t1 (F := F) 𝒱 c bd i arg3 harg3 arg4 harg4 arg5 harg5 arg6 harg6 arg7 harg7 arg8 harg8 arg9 harg9 arg10 harg10 arg11 harg11 arg12 harg12 arg13 harg13 arg14 harg14 v1 v4 w0 w1 X4 X5 k).2.2.2.2.1 f9 f10 f11 f12 f13 f14))
      = (step v1 v4 (rows (arg4.view.read (Elt F) X4) (nth k.val)) (rows (arg5.view.read (Elt F) X5) (nth k.val))
          ⟨arg9.view.read (Elt F) f9, arg10.view.read (Elt F) f10, arg11.view.read (Elt F) f11, arg12.view.read (Elt F) f12, arg13.view.read (Elt F) f13, arg14.view.read (Elt F) f14⟩).l1 := by
  unfold trip_k0_t1
  dsimp only
  refine (read_writes_whole _ _ _ _ _).trans ?_
  sl_unfold_words
  simp only [← ld_off2 i k]
  unfold step
  dsimp only
  simp only [View.readAt_eq_ld, View.ld_unit_zero (S := S256x128) hz2]
  rfl

/-- What trip `k` leaves in array `a1`. -/
theorem trip_a1 (k : Fin (k0_t1_loop i).trips) :
    arg14.view.read (Elt F) (arg14.view.writes (Elt F) f14 ((trip_k0_t1 (F := F) 𝒱 c bd i arg3 harg3 arg4 harg4 arg5 harg5 arg6 harg6 arg7 harg7 arg8 harg8 arg9 harg9 arg10 harg10 arg11 harg11 arg12 harg12 arg13 harg13 arg14 harg14 v1 v4 w0 w1 X4 X5 k).2.2.2.2.2.1 f9 f10 f11 f12 f13 f14))
      = (step v1 v4 (rows (arg4.view.read (Elt F) X4) (nth k.val)) (rows (arg5.view.read (Elt F) X5) (nth k.val))
          ⟨arg9.view.read (Elt F) f9, arg10.view.read (Elt F) f10, arg11.view.read (Elt F) f11, arg12.view.read (Elt F) f12, arg13.view.read (Elt F) f13, arg14.view.read (Elt F) f14⟩).a1 := by
  unfold trip_k0_t1
  dsimp only
  refine (read_writes_whole _ _ _ _ _).trans ?_
  sl_unfold_words
  simp only [← ld_off2 i k]
  unfold step
  dsimp only
  simp only [View.readAt_eq_ld, View.ld_unit_zero (S := S256x128) hz2]
  rfl

/-- What trip `k` leaves in the six arrays. -/
theorem trip_all (k : Fin (k0_t1_loop i).trips) :
    (⟨arg9.view.read (Elt F) (arg9.view.writes (Elt F) f9 ((trip_k0_t1 (F := F) 𝒱 c bd i arg3 harg3 arg4 harg4 arg5 harg5 arg6 harg6 arg7 harg7 arg8 harg8 arg9 harg9 arg10 harg10 arg11 harg11 arg12 harg12 arg13 harg13 arg14 harg14 v1 v4 w0 w1 X4 X5 k).1 f9 f10 f11 f12 f13 f14)),
      arg10.view.read (Elt F) (arg10.view.writes (Elt F) f10 ((trip_k0_t1 (F := F) 𝒱 c bd i arg3 harg3 arg4 harg4 arg5 harg5 arg6 harg6 arg7 harg7 arg8 harg8 arg9 harg9 arg10 harg10 arg11 harg11 arg12 harg12 arg13 harg13 arg14 harg14 v1 v4 w0 w1 X4 X5 k).2.1 f9 f10 f11 f12 f13 f14)),
      arg11.view.read (Elt F) (arg11.view.writes (Elt F) f11 ((trip_k0_t1 (F := F) 𝒱 c bd i arg3 harg3 arg4 harg4 arg5 harg5 arg6 harg6 arg7 harg7 arg8 harg8 arg9 harg9 arg10 harg10 arg11 harg11 arg12 harg12 arg13 harg13 arg14 harg14 v1 v4 w0 w1 X4 X5 k).2.2.1 f9 f10 f11 f12 f13 f14)),
      arg12.view.read (Elt F) (arg12.view.writes (Elt F) f12 ((trip_k0_t1 (F := F) 𝒱 c bd i arg3 harg3 arg4 harg4 arg5 harg5 arg6 harg6 arg7 harg7 arg8 harg8 arg9 harg9 arg10 harg10 arg11 harg11 arg12 harg12 arg13 harg13 arg14 harg14 v1 v4 w0 w1 X4 X5 k).2.2.2.1 f9 f10 f11 f12 f13 f14)),
      arg13.view.read (Elt F) (arg13.view.writes (Elt F) f13 ((trip_k0_t1 (F := F) 𝒱 c bd i arg3 harg3 arg4 harg4 arg5 harg5 arg6 harg6 arg7 harg7 arg8 harg8 arg9 harg9 arg10 harg10 arg11 harg11 arg12 harg12 arg13 harg13 arg14 harg14 v1 v4 w0 w1 X4 X5 k).2.2.2.2.1 f9 f10 f11 f12 f13 f14)),
      arg14.view.read (Elt F) (arg14.view.writes (Elt F) f14 ((trip_k0_t1 (F := F) 𝒱 c bd i arg3 harg3 arg4 harg4 arg5 harg5 arg6 harg6 arg7 harg7 arg8 harg8 arg9 harg9 arg10 harg10 arg11 harg11 arg12 harg12 arg13 harg13 arg14 harg14 v1 v4 w0 w1 X4 X5 k).2.2.2.2.2.1 f9 f10 f11 f12 f13 f14))⟩ : St F)
      = step v1 v4 (rows (arg4.view.read (Elt F) X4) (nth k.val)) (rows (arg5.view.read (Elt F) X5) (nth k.val))
          ⟨arg9.view.read (Elt F) f9, arg10.view.read (Elt F) f10, arg11.view.read (Elt F) f11, arg12.view.read (Elt F) f12, arg13.view.read (Elt F) f13, arg14.view.read (Elt F) f14⟩ := by
  exact St.mk_eq (trip_m0 𝒱 c bd i arg3 harg3 arg4 harg4 arg5 harg5 arg6 harg6 arg7 harg7 arg8 harg8 arg9 harg9 arg10 harg10 arg11 harg11 arg12 harg12 arg13 harg13 arg14 harg14 v1 v4 w0 w1 X4 X5 f9 f10 f11 f12 f13 f14 k)
    (trip_l0 𝒱 c bd i arg3 harg3 arg4 harg4 arg5 harg5 arg6 harg6 arg7 harg7 arg8 harg8 arg9 harg9 arg10 harg10 arg11 harg11 arg12 harg12 arg13 harg13 arg14 harg14 v1 v4 w0 w1 X4 X5 f9 f10 f11 f12 f13 f14 k)
    (trip_a0 𝒱 c bd i arg3 harg3 arg4 harg4 arg5 harg5 arg6 harg6 arg7 harg7 arg8 harg8 arg9 harg9 arg10 harg10 arg11 harg11 arg12 harg12 arg13 harg13 arg14 harg14 v1 v4 w0 w1 X4 X5 f9 f10 f11 f12 f13 f14 k)
    (trip_m1 𝒱 c bd i arg3 harg3 arg4 harg4 arg5 harg5 arg6 harg6 arg7 harg7 arg8 harg8 arg9 harg9 arg10 harg10 arg11 harg11 arg12 harg12 arg13 harg13 arg14 harg14 v1 v4 w0 w1 X4 X5 f9 f10 f11 f12 f13 f14 k)
    (trip_l1 𝒱 c bd i arg3 harg3 arg4 harg4 arg5 harg5 arg6 harg6 arg7 harg7 arg8 harg8 arg9 harg9 arg10 harg10 arg11 harg11 arg12 harg12 arg13 harg13 arg14 harg14 v1 v4 w0 w1 X4 X5 f9 f10 f11 f12 f13 f14 k)
    (trip_a1 𝒱 c bd i arg3 harg3 arg4 harg4 arg5 harg5 arg6 harg6 arg7 harg7 arg8 harg8 arg9 harg9 arg10 harg10 arg11 harg11 arg12 harg12 arg13 harg13 arg14 harg14 v1 v4 w0 w1 X4 X5 f9 f10 f11 f12 f13 f14 k)

/-- The loop leaves the iterated step: by induction on the trip. -/
theorem loop_eq :
    ∀ (n : ℕ) (hn : n ≤ (k0_t1_loop i).trips),
    (⟨arg9.view.read (Elt F) (arg9.view.writes (Elt F) f9 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 w0 w1 X4 X5 f9 f10 f11 f12 f13 f14 n).1),
      arg10.view.read (Elt F) (arg10.view.writes (Elt F) f10 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 w0 w1 X4 X5 f9 f10 f11 f12 f13 f14 n).2.1),
      arg11.view.read (Elt F) (arg11.view.writes (Elt F) f11 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 w0 w1 X4 X5 f9 f10 f11 f12 f13 f14 n).2.2.1),
      arg12.view.read (Elt F) (arg12.view.writes (Elt F) f12 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 w0 w1 X4 X5 f9 f10 f11 f12 f13 f14 n).2.2.2.1),
      arg13.view.read (Elt F) (arg13.view.writes (Elt F) f13 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 w0 w1 X4 X5 f9 f10 f11 f12 f13 f14 n).2.2.2.2.1),
      arg14.view.read (Elt F) (arg14.view.writes (Elt F) f14 (pb_k0_t1 (F := F) 𝒱 c bd i arg3 harg3 arg4 harg4 arg5 harg5 arg6 harg6 arg7 harg7 arg8 harg8 arg9 harg9 arg10 harg10 arg11 harg11 arg12 harg12 arg13 harg13 arg14 harg14 v1 v4 w0 w1 X4 X5 f9 f10 f11 f12 f13 f14 n).2.2.2.2.2)⟩ : St F)
    = iter v1 v4 (arg4.view.read (Elt F) X4) (arg5.view.read (Elt F) X5)
        ⟨arg9.view.read (Elt F) f9, arg10.view.read (Elt F) f10, arg11.view.read (Elt F) f11, arg12.view.read (Elt F) f12, arg13.view.read (Elt F) f13, arg14.view.read (Elt F) f14⟩ n
  | 0, _ => rfl
  | n + 1, hn => by
    have ih := loop_eq n (Nat.le_of_succ_le hn)
    rw [pb_k0_t1_succ (F := F) 𝒱 c bd i arg3 harg3 arg4 harg4 arg5 harg5 arg6 harg6 arg7 harg7 arg8 harg8 arg9 harg9 arg10 harg10 arg11 harg11 arg12 harg12 arg13 harg13 arg14 harg14 v1 v4 w0 w1 X4 X5 f9 f10 f11 f12 f13 f14 ⟨n, hn⟩]
    dsimp only [tripL_k0_t1]
    simp only [View.writes_append]
    refine (trip_all 𝒱 c bd i arg3 harg3 arg4 harg4 arg5 harg5 arg6 harg6 arg7 harg7 arg8 harg8 arg9 harg9 arg10 harg10 arg11 harg11 arg12 harg12 arg13 harg13 arg14 harg14 v1 v4 w0 w1 X4 X5 _ _ _ _ _ _ ⟨n, hn⟩).trans ?_
    exact congrArg (step v1 v4 (rows (arg4.view.read (Elt F) X4) (nth n)) (rows (arg5.view.read (Elt F) X5) (nth n))) ih

/-- The loop for what the unrolling leaves over stores nothing. -/
theorem pb2_nil :
    pb_k0_t2 (F := F) 𝒱 c bd i arg3 harg3 arg4 harg4 arg5 harg5 arg6 harg6 arg7 harg7 arg8 harg8 arg9 harg9 arg10 harg10 arg11 harg11 arg12 harg12 arg13 harg13 arg14 harg14 v1 v4 w0 w1 X4 X5 f9 f10 f11 f12 f13 f14 (k0_t2_loop i).trips = ([], [], [], [], [], []) := by
  rw [trips2_eq]; rfl

end

/-- The six arrays after the block on the diagonal and `n` further blocks. -/
def carried (x0 : Vec F S1x256x128 .bf16) (K V : Vec F S1x8192x128 .bf16) (j : Fin 32) (n : ℕ) : St F :=
  iter (k0_pay40 x0) k0_pay41 K V (first x0 (rows K j) (rows V j)) n

/-- What a grid point computes from its block `x0` of queries, the group's keys `K` and values `V`, the four weights of
    the difference and the gains. -/
def result (i : grid0.Coords) (x0 : Vec F S1x256x128 .bf16) (K V : Vec F S1x8192x128 .bf16) (lam : Vec F S4x64 .f32)
    (g : Vec F S1x128 .f32) : Vec F S256x128 .bf16 :=
  k0_pay1 (k0_pay66 lam (carried x0 K V (i 2) (i 2).val).a0 (carried x0 K V (i 2) (i 2).val).l0
    (carried x0 K V (i 2) (i 2).val).a1 (carried x0 K V (i 2) (i 2).val).l1) (k0_pay67 g)

end Cert.Da
-- ==== Proof.DaSoftmax.lean ====
/-
  A softmax over the keys, summed block by block. `z` is the row of scores of one query, `w` one column of the
  values. Whatever real number the scores are shifted by before the exponential, the quotient of the two sums is the
  same; the running sums carry one such number each.
-/
module

public import Idealize.ShloMosaic.PureOps.Ideal
public import Mathlib.Data.EReal.Inv
public import Mathlib.Analysis.SpecialFunctions.Exp

@[expose] public section

noncomputable section

namespace Cert.Da

open Idealize.ShloMosaic

/-- A finite sum of reals, taken in the extended reals. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The terms of the keys from `a` up to `b`, the scores shifted by `M`. -/
def num (z w : ℕ → ℝ) (M : ℝ) (a b : ℕ) : ℝ := ∑ k ∈ Finset.Ico a b, Real.exp (z k - M) * w k

/-- The weights of the keys from `a` up to `b`, the scores shifted by `M`. -/
def den (z : ℕ → ℝ) (M : ℝ) (a b : ℕ) : ℝ := ∑ k ∈ Finset.Ico a b, Real.exp (z k - M)

/-- The weighted mean of the values of the first `T` keys. -/
def mean (z w : ℕ → ℝ) (T : ℕ) : ℝ := num z w 0 0 T / den z 0 0 T

theorem num_shift (z w : ℕ → ℝ) (M M' : ℝ) (a b : ℕ) : Real.exp (M - M') * num z w M a b = num z w M' a b := by
  unfold num
  rw [Finset.mul_sum]
  refine Finset.sum_congr rfl fun k _ => ?_
  rw [← mul_assoc, ← Real.exp_add]
  congr 2; ring

theorem den_shift (z : ℕ → ℝ) (M M' : ℝ) (a b : ℕ) : Real.exp (M - M') * den z M a b = den z M' a b := by
  unfold den
  rw [Finset.mul_sum]
  refine Finset.sum_congr rfl fun k _ => ?_
  rw [← Real.exp_add]
  congr 1; ring

theorem num_add (z w : ℕ → ℝ) (M : ℝ) {a b c : ℕ} (h1 : a ≤ b) (h2 : b ≤ c) : num z w M a b + num z w M b c = num z w M a c :=
  Finset.sum_Ico_consecutive _ h1 h2

theorem den_add (z : ℕ → ℝ) (M : ℝ) {a b c : ℕ} (h1 : a ≤ b) (h2 : b ≤ c) : den z M a b + den z M b c = den z M a c :=
  Finset.sum_Ico_consecutive _ h1 h2

theorem den_pos (z : ℕ → ℝ) (M : ℝ) (T : ℕ) (h : 0 < T) : 0 < den z M 0 T :=
  Finset.sum_pos (fun _ _ => Real.exp_pos _) ⟨0, by simpa using h⟩

/-- The quotient does not depend on the shift. -/
theorem quot_mean (z w : ℕ → ℝ) (M : ℝ) (T : ℕ) : num z w M 0 T / den z M 0 T = mean z w T := by
  unfold mean
  rw [← num_shift z w 0 M, ← den_shift z 0 M, mul_div_mul_left _ _ (Real.exp_pos _).ne']

theorem div_mean (z w : ℕ → ℝ) (M : ℝ) (T : ℕ) (h : 0 < T) :
    Ideal.div (num z w M 0 T : EReal) (den z M 0 T : EReal) = (mean z w T : EReal) := by
  rw [Ideal.div_coe (den_pos z M T h).ne', ← EReal.coe_mul, ← quot_mean z w M T]
  congr 1; ring

/-- The largest of finitely many extended reals none of which is `⊤`, one of which is real, is real. -/
theorem fold_max_real {n : ℕ} (f : Fin n → EReal) (ht : ∀ t, f t ≠ ⊤) (hb : ∃ t, f t ≠ ⊥) :
    ∃ M : ℝ, Finset.univ.fold max (⊥ : EReal) f = (M : EReal) := by
  have hle : ∀ t, f t ≤ Finset.univ.fold max (⊥ : EReal) f := fun t =>
    (Finset.le_fold_max _).2 (Or.inr ⟨t, Finset.mem_univ t, le_rfl⟩)
  have hlt : Finset.univ.fold max (⊥ : EReal) f < ⊤ :=
    (Finset.fold_max_lt _).2 ⟨bot_lt_top, fun t _ => lt_top_iff_ne_top.2 (ht t)⟩
  obtain ⟨t, h⟩ := hb
  have hbot : Finset.univ.fold max (⊥ : EReal) f ≠ ⊥ := fun e => h (le_bot_iff.1 (e ▸ hle t))
  exact ⟨_, (EReal.coe_toReal hlt.ne hbot).symm⟩

theorem max_real (x y : ℝ) : ∃ M : ℝ, max (x : EReal) (y : EReal) = (M : EReal) :=
  ⟨max x y, (EReal.coe_strictMono.monotone.map_max).symm⟩

/-- A masked score, shifted and exponentiated: zero where the mask hides it. -/
theorem exp_masked (c : Prop) [Decidable c] (x M : ℝ) :
    Ideal.exp ((if c then (x : EReal) else ⊥) - (M : EReal)) = ((if c then Real.exp (x - M) else 0 : ℝ) : EReal) := by
  by_cases h : c
  · rw [if_pos h, if_pos h, ← EReal.coe_sub, Ideal.exp_coe]
  · rw [if_neg h, if_neg h, EReal.bot_sub, Ideal.exp_bot, EReal.coe_zero]

theorem exp_score (x M : ℝ) : Ideal.exp ((x : EReal) - (M : EReal)) = (Real.exp (x - M) : EReal) := by
  rw [← EReal.coe_sub, Ideal.exp_coe]

/-- A sum over the places of a block, as a sum over the keys of the block. -/
theorem block_sum (f : ℕ → ℝ) (a n : ℕ) : ∑ t : Fin n, f (a + t.val) = ∑ k ∈ Finset.Ico a (a + n), f k := by
  rw [Finset.sum_Ico_eq_sum_range, Fin.sum_univ_eq_sum_range (fun t => f (a + t)) n, Nat.add_sub_cancel_left]

/-- The first `r` places of a block. -/
theorem block_sum_lt (f : ℕ → ℝ) (a r n : ℕ) (h : r ≤ n) :
    ∑ t : Fin n, (if t.val < r then f (a + t.val) else 0) = ∑ k ∈ Finset.Ico a (a + r), f k := by
  rw [Fin.sum_univ_eq_sum_range (fun t => if t < r then f (a + t) else 0) n, ← Finset.sum_filter, Finset.sum_Ico_eq_sum_range,
    Nat.add_sub_cancel_left]
  refine Finset.sum_congr ?_ fun _ _ => rfl
  ext x
  simp only [Finset.mem_filter, Finset.mem_range]
  omega

section
variable (z w : ℕ → ℝ) (M : ℝ) (a n : ℕ)

/-- The weights of a whole block. -/
theorem den_block : ∑ t : Fin n, Ideal.exp ((z (a + t.val) : EReal) - (M : EReal)) = (den z M a (a + n) : EReal) := by
  unfold den
  rw [← block_sum (fun k => Real.exp (z k - M)), ← sum_coe]
  exact Finset.sum_congr rfl fun t _ => exp_score _ _

/-- The terms of a whole block. -/
theorem num_block : ∑ t : Fin n, Ideal.exp ((z (a + t.val) : EReal) - (M : EReal)) * (w (a + t.val) : EReal)
    = (num z w M a (a + n) : EReal) := by
  unfold num
  rw [← block_sum (fun k => Real.exp (z k - M) * w k), ← sum_coe]
  exact Finset.sum_congr rfl fun t _ => by rw [exp_score, EReal.coe_mul]

/-- The weights of the first `r` places of a block, the others masked. -/
theorem den_masked (r : ℕ) (h : r ≤ n) :
    ∑ t : Fin n, Ideal.exp ((if t.val < r then (z (a + t.val) : EReal) else ⊥) - (M : EReal)) = (den z M a (a + r) : EReal) := by
  unfold den
  rw [← block_sum_lt (fun k => Real.exp (z k - M)) a r n h, ← sum_coe]
  exact Finset.sum_congr rfl fun t _ => exp_masked _ _ _

/-- The terms of the first `r` places of a block, the others masked. -/
theorem num_masked (r : ℕ) (h : r ≤ n) :
    ∑ t : Fin n, Ideal.exp ((if t.val < r then (z (a + t.val) : EReal) else ⊥) - (M : EReal)) * (w (a + t.val) : EReal)
      = (num z w M a (a + r) : EReal) := by
  unfold num
  rw [← block_sum_lt (fun k => Real.exp (z k - M) * w k) a r n h, ← sum_coe]
  refine Finset.sum_congr rfl fun t _ => ?_
  rw [exp_masked]
  by_cases h : t.val < r
  · rw [if_pos h, if_pos h, EReal.coe_mul]
  · rw [if_neg h, if_neg h, EReal.coe_zero, zero_mul]

end

/-- The three carried numbers of a query and a column of the values, when the keys up to `b` and from `c` up to `d` have been
    added: the shift is some real number and the sums are those of that shift. -/
def Good (z w : ℕ → ℝ) (b c d : ℕ) (m l a : EReal) : Prop :=
  ∃ M : ℝ, m = (M : EReal) ∧ l = ((den z M 0 b + den z M c d : ℝ) : EReal) ∧ a = ((num z w M 0 b + num z w M c d : ℝ) : EReal)

/-- The block on the diagonal, of which a query sees the first `r` places. -/
theorem good_first (z w : ℕ → ℝ) (c r n : ℕ) (h0 : 0 < r) (h : r ≤ n) (m l a : EReal)
    (hm : m = Finset.univ.fold max (⊥ : EReal) fun t : Fin n => if t.val < r then (z (c + t.val) : EReal) else ⊥)
    (hl : l = ∑ t : Fin n, Ideal.exp ((if t.val < r then (z (c + t.val) : EReal) else ⊥) - m))
    (ha : a = ∑ t : Fin n, Ideal.exp ((if t.val < r then (z (c + t.val) : EReal) else ⊥) - m) * (w (c + t.val) : EReal)) :
    Good z w 0 c (c + r) m l a := by
  obtain ⟨M, hM⟩ := fold_max_real (fun t : Fin n => if t.val < r then (z (c + t.val) : EReal) else ⊥)
    (fun t => by split_ifs; exacts [EReal.coe_ne_top _, bot_ne_top])
    ⟨⟨0, by omega⟩, by rw [if_pos h0]; exact EReal.coe_ne_bot _⟩
  rw [hM] at hm
  subst hm
  refine ⟨M, rfl, ?_, ?_⟩
  · rw [hl, den_masked z M c n r h]; simp [den]
  · rw [ha, num_masked z w M c n r h]; simp [num]

/-- One further whole block. -/
theorem good_step (z w : ℕ → ℝ) (b n c d : ℕ) (hn : 0 < n) (m l a m' l' a' : EReal) (h : Good z w b c d m l a)
    (hm : m' = max m (Finset.univ.fold max (⊥ : EReal) fun t : Fin n => (z (b + t.val) : EReal)))
    (hl : l' = Ideal.exp (m - m') * l + ∑ t : Fin n, Ideal.exp ((z (b + t.val) : EReal) - m'))
    (ha : a' = Ideal.exp (m - m') * a + ∑ t : Fin n, Ideal.exp ((z (b + t.val) : EReal) - m') * (w (b + t.val) : EReal)) :
    Good z w (b + n) c d m' l' a' := by
  obtain ⟨M, rfl, rfl, rfl⟩ := h
  obtain ⟨B, hB⟩ := fold_max_real (fun t : Fin n => (z (b + t.val) : EReal)) (fun t => EReal.coe_ne_top _)
    ⟨⟨0, hn⟩, EReal.coe_ne_bot _⟩
  obtain ⟨M', hM'⟩ := max_real M B
  rw [hB, hM'] at hm
  subst hm
  refine ⟨M', rfl, ?_, ?_⟩
  · rw [hl, den_block, exp_score, ← EReal.coe_mul, ← EReal.coe_add, mul_add, den_shift, den_shift,
      ← den_add z M' (Nat.zero_le b) (Nat.le_add_right b n)]
    congr 1; ring
  · rw [ha, num_block, exp_score, ← EReal.coe_mul, ← EReal.coe_add, mul_add, num_shift, num_shift,
      ← num_add z w M' (Nat.zero_le b) (Nat.le_add_right b n)]
    congr 1; ring

/-- When every key before the diagonal block has been added, the quotient of the sums is the mean. -/
theorem good_quot (z w : ℕ → ℝ) (b d : ℕ) (hd : b < d) (m l a : EReal) (h : Good z w b b d m l a) :
    Ideal.div a l = (mean z w d : EReal) := by
  obtain ⟨M, -, rfl, rfl⟩ := h
  rw [den_add z M (Nat.zero_le b) hd.le, num_add z w M (Nat.zero_le b) hd.le]
  exact div_mean z w M d (by omega)

/-- A row of weights divided by its sum, summed against a column of the values. -/
theorem sum_softmax (z w : ℕ → ℝ) (M : ℝ) (r n : ℕ) (h0 : 0 < r) (h : r ≤ n) :
    ∑ t : Fin n, (if t.val < r then Real.exp (z t.val - M) else 0) / den z M 0 r * w t.val = mean z w r := by
  rw [← quot_mean z w M r]
  have e : num z w M 0 r = ∑ t : Fin n, if t.val < r then Real.exp (z t.val - M) * w t.val else 0 := by
    have := block_sum_lt (fun k => Real.exp (z k - M) * w k) 0 r n h
    simp only [Nat.zero_add] at this
    exact this.symm
  rw [e, Finset.sum_div]
  refine Finset.sum_congr rfl fun t _ => ?_
  split_ifs
  · ring
  · simp

/-- The difference of two softmax rows, the second scaled, summed against a column of the values. -/
theorem sum_difference (z0 z1 w : ℕ → ℝ) (lam M0 M1 : ℝ) (r n : ℕ) (h0 : 0 < r) (h : r ≤ n) :
    ∑ t : Fin n, (Ideal.div (Ideal.exp ((if t.val < r then (z0 t.val : EReal) else ⊥) - (M0 : EReal))) (den z0 M0 0 r : EReal)
        - (lam : EReal) * Ideal.div (Ideal.exp ((if t.val < r then (z1 t.val : EReal) else ⊥) - (M1 : EReal))) (den z1 M1 0 r : EReal))
        * (w t.val : EReal)
      = (mean z0 w r : EReal) - (lam : EReal) * (mean z1 w r : EReal) := by
  rw [← EReal.coe_mul, ← EReal.coe_sub, ← sum_softmax z0 w M0 r n h0 h, ← sum_softmax z1 w M1 r n h0 h, Finset.mul_sum,
    ← Finset.sum_sub_distrib, ← sum_coe]
  refine Finset.sum_congr rfl fun t _ => ?_
  rw [exp_masked, exp_masked, Ideal.div_coe (den_pos z0 M0 r h0).ne', Ideal.div_coe (den_pos z1 M1 r h0).ne', ← EReal.coe_mul,
    ← EReal.coe_mul, ← EReal.coe_mul, ← EReal.coe_sub, ← EReal.coe_mul]
  congr 1; ring

end Cert.Da
-- ==== Proof.DaBlock.lean ====
/-
  The block on the diagonal and one further block of keys, read at an entry, for the two heads of a group.
-/
module

public import proofs.«01_k».proof.Proof.DaTrip
public import proofs.«01_k».proof.Proof.DaSoftmax
public import Idealize.ShloMosaic.Lib.Pointwise
public import Idealize.ShloMosaic.Lib.Tactic.WordOmega

@[expose] public section

set_option maxRecDepth 16384

noncomputable section

namespace Cert.Da

open Cert.Kernel5Ideal Cert.Kernel5Ideal.Gen Idealize.ShloMosaic Idealize.ShloMosaic.TcCoe Idealize.SL.Sem

/-- The lanes of the first head of a slab are the first 64. -/
theorem pay41_apply (r : Fin 256) (l : Fin 128) : k0_pay41 (ix2 r l) = BitVec.ofBool (decide (l.val < 64)) := by
  pointwise [k0_pay41]
  have := l.isLt
  word_omega

/-- The quotient of a place by 64, rounded down. -/
theorem group (t : Fin 256) :
    Scalar.select
        (IntOp.andi
          (IntOp.cmpi CmpIPredicate.ne
            (IntOp.subi (BitVec.setWidth 32 (IntOp.cmpi CmpIPredicate.sgt (BitVec.ofNat 32 t.val) 0#32))
              (BitVec.setWidth 32 (IntOp.cmpi CmpIPredicate.slt (BitVec.ofNat 32 t.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 t.val) 64#32) 0#32))
        (IntOp.subi (IntOp.divsi ArithUnit.vector (BitVec.ofNat 32 t.val) 64#32) 1#32)
        (IntOp.divsi ArithUnit.vector (BitVec.ofNat 32 t.val) 64#32) = BitVec.ofNat 32 (t.val / 64) := by
  revert t
  decide +kernel

/-- On the diagonal a query sees the keys of its group of 64 and of the groups before it. -/
theorem seen_apply (r t : Fin 256) : seen (ix2 r t) = BitVec.ofBool (decide (t.val < 64 * (r.val / 64 + 1))) := by
  unfold seen
  pointwise [k0_pay50, k0_pay47, k0_pay48, k0_pay49]
  rw [group, group]
  have hr := r.isLt
  have ht := t.isLt
  have : IntOp.cmpi .sle (BitVec.ofNat 32 (t.val / 64)) (BitVec.ofNat 32 (r.val / 64)) = BitVec.ofBool (decide (t.val / 64 ≤ r.val / 64)) := by
    word_omega
  rw [this]
  exact congrArg BitVec.ofBool (decide_eq_decide.2 (by omega))

/-- Lane `d` of head `e` of a slab. -/
def lane (e : Fin 2) (d : Fin 64) : Fin 128 := ⟨64 * e.val + d.val, by have := e.isLt; have := d.isLt; omega⟩

theorem select_ofBool {α : Type} (p : Prop) [Decidable p] (x y : α) : Scalar.select (BitVec.ofBool (decide p)) x y = if p then x else y := by
  by_cases h : p <;> simp [h, Scalar.select]

theorem head0 (f : Fin 128 → EReal) : ∑ l : Fin 128, (if l.val < 64 then f l else 0) = ∑ d, f (lane 0 d) := by
  rw [Fin.sum_univ_two_halves 64 64 rfl]
  have h2 : ∑ x : Fin 64, (if 64 + x.val < 64 then f ⟨64 + x.val, by have := x.isLt; omega⟩ else 0) = 0 :=
    Finset.sum_eq_zero fun x _ => if_neg (by omega)
  rw [h2, add_zero]
  refine Finset.sum_congr rfl fun x _ => ?_
  rw [if_pos (by exact x.isLt)]
  exact congrArg f (Fin.ext (by show x.val = 64 * 0 + x.val; omega))

theorem head1 (f : Fin 128 → EReal) : ∑ l : Fin 128, (if l.val < 64 then 0 else f l) = ∑ d, f (lane 1 d) := by
  rw [Fin.sum_univ_two_halves 64 64 rfl]
  have h2 : ∑ x : Fin 64, (if x.val < 64 then 0 else f ⟨x.val, by have := x.isLt; omega⟩) = 0 :=
    Finset.sum_eq_zero fun x _ => if_pos x.isLt
  rw [h2, zero_add]
  refine Finset.sum_congr rfl fun x _ => ?_
  rw [if_neg (by show ¬ (64 + x.val < 64); omega)]
  exact congrArg f (Fin.ext (by show 64 + x.val = 64 * 1 + x.val; omega))

/-- The mask's value is the bottom of the extended reals. -/
theorem mask_eq : Named.named (F := Ideal) κ (φ := .f32) "mask" 0xF149F2CA#32 = (⊥ : EReal) := rfl

theorem start_eq : Ideal.ofBits .f32 0xFF800000#32 = (⊥ : EReal) := by
  simp [Ideal.ofBits, Ideal.ieee]

section
variable (v0 : Vec Ideal S1x256x128 .bf16) (v1 : FVec Ideal S256x128 .bf16) (kb vb : Vec Ideal S1x256x128 .bf16) (r t : Fin 256)

theorem pay40_apply (l : Fin 128) : k0_pay40 v0 (ix2 r l) = v0 (ix3 0 r l) := by
  pointwise [k0_pay40]

/-- The scores of head 0 against a block. -/
theorem pay5_apply : k0_pay5 v1 k0_pay41 kb (ix2 r t) = ∑ d, v1 (ix2 r (lane 0 d)) * kb (ix3 0 t (lane 0 d)) := by
  pointwise [k0_pay5, k0_pay2, k0_pay4]
  simp only [pay41_apply, select_ofBool]
  exact head0 fun l => v1 (ix2 r l) * kb (ix3 0 t l)

/-- The scores of head 1 against a block. -/
theorem pay6_apply : k0_pay6 v1 k0_pay41 kb (ix2 r t) = ∑ d, v1 (ix2 r (lane 1 d)) * kb (ix3 0 t (lane 1 d)) := by
  pointwise [k0_pay6, k0_pay2, k0_pay4]
  simp only [pay41_apply, select_ofBool]
  exact head1 fun l => v1 (ix2 r l) * kb (ix3 0 t l)

theorem pay45_apply : k0_pay45 v0 kb (ix2 r t) = ∑ d, v0 (ix3 0 r (lane 0 d)) * kb (ix3 0 t (lane 0 d)) := by
  pointwise [k0_pay45, k0_pay42, k0_pay44, k0_pay40]
  simp only [pay41_apply, select_ofBool]
  exact head0 fun l => v0 (ix3 0 r l) * kb (ix3 0 t l)

theorem pay46_apply : k0_pay46 v0 kb (ix2 r t) = ∑ d, v0 (ix3 0 r (lane 1 d)) * kb (ix3 0 t (lane 1 d)) := by
  pointwise [k0_pay46, k0_pay42, k0_pay44, k0_pay40]
  simp only [pay41_apply, select_ofBool]
  exact head1 fun l => v0 (ix3 0 r l) * kb (ix3 0 t l)

end

section
variable (z w : ℕ → ℝ) (c : ℕ) (r : Fin 256) (l : Fin 128)

theorem masked0 (x0 kb : Vec Ideal S1x256x128 .bf16)
    (hz : ∀ t : Fin 256, ∑ d, x0 (ix3 0 r (lane 0 d)) * kb (ix3 0 t (lane 0 d)) = (z (c + t.val) : EReal)) (t : Fin 256) :
    k0_pay51 (k0_pay45 x0 kb) k0_pay47 k0_pay48 k0_pay49 (ix2 r t)
      = if t.val < 64 * (r.val / 64 + 1) then (z (c + t.val) : EReal) else ⊥ := by
  have e : k0_pay51 (k0_pay45 x0 kb) k0_pay47 k0_pay48 k0_pay49 (ix2 r t)
      = Scalar.select (seen (ix2 r t)) (k0_pay45 x0 kb (ix2 r t)) (⊥ : EReal) := rfl
  rw [e, seen_apply, select_ofBool, pay45_apply, hz]

theorem masked1 (x0 kb : Vec Ideal S1x256x128 .bf16)
    (hz : ∀ t : Fin 256, ∑ d, x0 (ix3 0 r (lane 1 d)) * kb (ix3 0 t (lane 1 d)) = (z (c + t.val) : EReal)) (t : Fin 256) :
    k0_pay58 (k0_pay46 x0 kb) seen (ix2 r t)
      = if t.val < 64 * (r.val / 64 + 1) then (z (c + t.val) : EReal) else ⊥ := by
  have e : k0_pay58 (k0_pay46 x0 kb) seen (ix2 r t)
      = Scalar.select (seen (ix2 r t)) (k0_pay46 x0 kb (ix2 r t)) (⊥ : EReal) := rfl
  rw [e, seen_apply, select_ofBool, pay46_apply, hz]

theorem first0 (x0 kb vb : Vec Ideal S1x256x128 .bf16)
    (hz : ∀ t : Fin 256, ∑ d, x0 (ix3 0 r (lane 0 d)) * kb (ix3 0 t (lane 0 d)) = (z (c + t.val) : EReal))
    (hw : ∀ t : Fin 256, vb (ix3 0 t l) = (w (c + t.val) : EReal)) :
    Good z w 0 c (c + 64 * (r.val / 64 + 1)) ((first x0 kb vb).m0 (ix2 r 0)) ((first x0 kb vb).l0 (ix2 r l)) ((first x0 kb vb).a0 (ix2 r l)) := by
  have hm : ∀ l', (first x0 kb vb).m0 (ix2 r l')
      = Finset.univ.fold max (⊥ : EReal) fun t : Fin 256 => if t.val < 64 * (r.val / 64 + 1) then (z (c + t.val) : EReal) else ⊥ := fun l' => by
    unfold first
    dsimp only
    pointwise [k0_pay54, k0_pay52]
    simp only [masked0 z c r x0 kb hz, start_eq]
  have hr := r.isLt
  refine good_first z w c (64 * (r.val / 64 + 1)) 256 (by omega) (by omega) _ _ _ (hm 0) ?_ ?_
  · rw [hm 0]
    unfold first
    dsimp only
    pointwise [k0_pay56, k0_pay55, k0_pay53, k0_pay52]
    simp only [masked0 z c r x0 kb hz, start_eq]
  · rw [hm 0]
    unfold first
    dsimp only
    pointwise [k0_pay57, k0_pay53, k0_pay52, k0_pay43]
    simp only [masked0 z c r x0 kb hz, start_eq, hw]

theorem first1 (x0 kb vb : Vec Ideal S1x256x128 .bf16)
    (hz : ∀ t : Fin 256, ∑ d, x0 (ix3 0 r (lane 1 d)) * kb (ix3 0 t (lane 1 d)) = (z (c + t.val) : EReal))
    (hw : ∀ t : Fin 256, vb (ix3 0 t l) = (w (c + t.val) : EReal)) :
    Good z w 0 c (c + 64 * (r.val / 64 + 1)) ((first x0 kb vb).m1 (ix2 r 0)) ((first x0 kb vb).l1 (ix2 r l)) ((first x0 kb vb).a1 (ix2 r l)) := by
  have hm : ∀ l', (first x0 kb vb).m1 (ix2 r l')
      = Finset.univ.fold max (⊥ : EReal) fun t : Fin 256 => if t.val < 64 * (r.val / 64 + 1) then (z (c + t.val) : EReal) else ⊥ := fun l' => by
    unfold first
    dsimp only
    pointwise [k0_pay61, k0_pay59]
    simp only [masked1 z c r x0 kb hz, start_eq]
  have hr := r.isLt
  refine good_first z w c (64 * (r.val / 64 + 1)) 256 (by omega) (by omega) _ _ _ (hm 0) ?_ ?_
  · rw [hm 0]
    unfold first
    dsimp only
    pointwise [k0_pay62, k0_pay60, k0_pay59]
    simp only [masked1 z c r x0 kb hz, start_eq]
  · rw [hm 0]
    unfold first
    dsimp only
    pointwise [k0_pay63, k0_pay60, k0_pay59, k0_pay43]
    simp only [masked1 z c r x0 kb hz, start_eq, hw]

variable (b d : ℕ)

theorem step0 (v1 : FVec Ideal S256x128 .bf16) (kb vb : Vec Ideal S1x256x128 .bf16) (s : St Ideal)
    (hz : ∀ t : Fin 256, ∑ d, v1 (ix2 r (lane 0 d)) * kb (ix3 0 t (lane 0 d)) = (z (b + t.val) : EReal))
    (hw : ∀ t : Fin 256, vb (ix3 0 t l) = (w (b + t.val) : EReal))
    (h : Good z w b c d (s.m0 (ix2 r 0)) (s.l0 (ix2 r l)) (s.a0 (ix2 r l))) :
    Good z w (b + 256) c d ((step v1 k0_pay41 kb vb s).m0 (ix2 r 0)) ((step v1 k0_pay41 kb vb s).l0 (ix2 r l))
      ((step v1 k0_pay41 kb vb s).a0 (ix2 r l)) := by
  have hm : (step v1 k0_pay41 kb vb s).m0 (ix2 r 0)
      = max (s.m0 (ix2 r 0)) (Finset.univ.fold max (⊥ : EReal) fun t : Fin 256 => (z (b + t.val) : EReal)) := by
    unfold step
    dsimp only
    pointwise [k0_pay11, k0_pay8, k0_pay7]
    simp only [pay5_apply, hz, start_eq]
  refine good_step z w b 256 c d (by omega) _ _ _ _ _ _ h hm ?_ ?_
  · rw [hm]
    unfold step
    dsimp only
    pointwise [k0_pay12, k0_pay9, k0_pay10, k0_pay8, k0_pay7]
    simp only [pay5_apply, hz, start_eq]
  · rw [hm]
    unfold step
    dsimp only
    pointwise [k0_pay13, k0_pay9, k0_pay10, k0_pay8, k0_pay7, k0_pay3]
    simp only [pay5_apply, hz, hw, start_eq]

theorem step1 (v1 : FVec Ideal S256x128 .bf16) (kb vb : Vec Ideal S1x256x128 .bf16) (s : St Ideal)
    (hz : ∀ t : Fin 256, ∑ d, v1 (ix2 r (lane 1 d)) * kb (ix3 0 t (lane 1 d)) = (z (b + t.val) : EReal))
    (hw : ∀ t : Fin 256, vb (ix3 0 t l) = (w (b + t.val) : EReal))
    (h : Good z w b c d (s.m1 (ix2 r 0)) (s.l1 (ix2 r l)) (s.a1 (ix2 r l))) :
    Good z w (b + 256) c d ((step v1 k0_pay41 kb vb s).m1 (ix2 r 0)) ((step v1 k0_pay41 kb vb s).l1 (ix2 r l))
      ((step v1 k0_pay41 kb vb s).a1 (ix2 r l)) := by
  have hm : (step v1 k0_pay41 kb vb s).m1 (ix2 r 0)
      = max (s.m1 (ix2 r 0)) (Finset.univ.fold max (⊥ : EReal) fun t : Fin 256 => (z (b + t.val) : EReal)) := by
    unfold step
    dsimp only
    pointwise [k0_pay18, k0_pay15, k0_pay14]
    simp only [pay6_apply, hz, start_eq]
  refine good_step z w b 256 c d (by omega) _ _ _ _ _ _ h hm ?_ ?_
  · rw [hm]
    unfold step
    dsimp only
    pointwise [k0_pay19, k0_pay16, k0_pay17, k0_pay15, k0_pay14]
    simp only [pay6_apply, hz, start_eq]
  · rw [hm]
    unfold step
    dsimp only
    pointwise [k0_pay64, k0_pay20, k0_pay16, k0_pay17, k0_pay15, k0_pay14, k0_pay3]
    simp only [pay6_apply, hz, hw, start_eq]

end

end Cert.Da
-- ==== Proof.DaPoint.lean ====
/-
  What a grid point computes, read at an entry: for each of its two heads the weighted mean of the values of every key a
  query sees, the second scaled and taken from the first, then the row normalised.
-/
module

public import proofs.«01_k».proof.Proof.DaBlock

@[expose] public section

set_option maxRecDepth 16384

noncomputable section

namespace Cert.Da

open Cert.Kernel5Ideal Cert.Kernel5Ideal.Gen Idealize.ShloMosaic Idealize.ShloMosaic.TcCoe Idealize.SL.Sem

/-- Row `t` of block `j` is row `256 j + t`. -/
theorem rows_apply (X : Vec Ideal S1x8192x128 .bf16) (j : Fin 32) (t : Fin 256) (l : Fin 128) :
    rows X j (ix3 0 t l) = X (ix3 0 ⟨256 * j.val + t.val, by have := j.isLt; have := t.isLt; omega⟩ l) := by
  unfold rows View.ld
  refine congrArg X (funext fun a => Fin.ext ?_)
  match a with
  | ⟨0, _⟩ => rfl
  | ⟨1, _⟩ => show 256 * j.val + 1 * t.val = 256 * j.val + t.val; omega
  | ⟨2, _⟩ => show 0 + 1 * l.val = l.val; omega

section
variable (x0 : Vec Ideal S1x256x128 .bf16) (K V : Vec Ideal S1x8192x128 .bf16) (j : Fin 32) (r : Fin 256) (l : Fin 128)
  (z w : ℕ → ℝ) (hw : ∀ (κ : ℕ) (h : κ < 8192), V (ix3 0 ⟨κ, h⟩ l) = (w κ : EReal))
include hw

theorem carried0 (hz : ∀ (κ : ℕ) (h : κ < 8192), ∑ d, x0 (ix3 0 r (lane 0 d)) * K (ix3 0 ⟨κ, h⟩ (lane 0 d)) = (z κ : EReal))
    (n : ℕ) (hn : n ≤ j.val) :
    Good z w (256 * n) (256 * j.val) (256 * j.val + 64 * (r.val / 64 + 1)) ((carried x0 K V j n).m0 (ix2 r 0))
      ((carried x0 K V j n).l0 (ix2 r l)) ((carried x0 K V j n).a0 (ix2 r l)) := by
  induction n with
  | zero =>
    refine first0 z w (256 * j.val) r l x0 _ _ (fun t => ?_) fun t => ?_
    · exact (Finset.sum_congr rfl fun d _ => congrArg (x0 (ix3 0 r (lane 0 d)) * ·) (rows_apply K j t (lane 0 d))).trans (hz _ _)
    · exact (rows_apply V j t l).trans (hw _ _)
  | succ n ih =>
    have hj := j.isLt
    have e : (nth n).val = n := Nat.mod_eq_of_lt (by omega)
    refine step0 z w (256 * j.val) r l (256 * n) _ (k0_pay40 x0) _ _ _ (fun t => ?_) (fun t => ?_) (ih (Nat.le_of_succ_le hn))
    · simp only [rows_apply, pay40_apply, e]; exact hz _ _
    · simp only [rows_apply, e]; exact hw _ _

theorem carried1 (hz : ∀ (κ : ℕ) (h : κ < 8192), ∑ d, x0 (ix3 0 r (lane 1 d)) * K (ix3 0 ⟨κ, h⟩ (lane 1 d)) = (z κ : EReal))
    (n : ℕ) (hn : n ≤ j.val) :
    Good z w (256 * n) (256 * j.val) (256 * j.val + 64 * (r.val / 64 + 1)) ((carried x0 K V j n).m1 (ix2 r 0))
      ((carried x0 K V j n).l1 (ix2 r l)) ((carried x0 K V j n).a1 (ix2 r l)) := by
  induction n with
  | zero =>
    refine first1 z w (256 * j.val) r l x0 _ _ (fun t => ?_) fun t => ?_
    · exact (Finset.sum_congr rfl fun d _ => congrArg (x0 (ix3 0 r (lane 1 d)) * ·) (rows_apply K j t (lane 1 d))).trans (hz _ _)
    · exact (rows_apply V j t l).trans (hw _ _)
  | succ n ih =>
    have hj := j.isLt
    have e : (nth n).val = n := Nat.mod_eq_of_lt (by omega)
    refine step1 z w (256 * j.val) r l (256 * n) _ (k0_pay40 x0) _ _ _ (fun t => ?_) (fun t => ?_) (ih (Nat.le_of_succ_le hn))
    · simp only [rows_apply, pay40_apply, e]; exact hz _ _
    · simp only [rows_apply, e]; exact hw _ _

end

/-- The weight of the second head. -/
def weight (p : Fin 4 → Fin 64 → EReal) : EReal :=
  Ideal.exp (∑ d, p 0 d * p 1 d) - Ideal.exp (∑ d, p 2 d * p 3 d) + Ideal.ofBits .f32 0x3E4CCCCD#32

/-- A row normalised to mean square one, with gains, and scaled. -/
def normed (o g : Fin 128 → EReal) (l : Fin 128) : EReal :=
  o l * Ideal.rsqrt (Ideal.div (∑ x, o x * o x) (Ideal.ofBits .f32 0x43000000#32) + Ideal.ofBits .f32 0x358637BD#32) * g l
    * Ideal.ofBits .f32 0x3F4CCCCD#32

theorem tail_apply (p : Vec Ideal S4x64 .f32) (a b e d : Vec Ideal S256x128 .f32) (g : Vec Ideal S1x128 .f32) (r : Fin 256) (l : Fin 128) :
    k0_pay1 (k0_pay66 p a b e d) (k0_pay67 g) (ix2 r l)
      = normed (fun x => Ideal.div (a (ix2 r x)) (b (ix2 r x)) - weight (fun n x => p (ix2 n x)) * Ideal.div (e (ix2 r x)) (d (ix2 r x)))
          (fun x => g (ix2 0 x)) l := by
  pointwise [k0_pay1, k0_pay66, k0_pay67]
  rfl

/-- The result at a lane. -/
theorem result_apply (i : grid0.Coords) (x0 : Vec Ideal S1x256x128 .bf16) (K V : Vec Ideal S1x8192x128 .bf16) (p : Vec Ideal S4x64 .f32)
    (g : Vec Ideal S1x128 .f32) (r : Fin 256) (l : Fin 128) (z : Fin 2 → ℕ → ℝ) (w : Fin 128 → ℕ → ℝ)
    (hz : ∀ (e : Fin 2) (κ : ℕ) (h : κ < 8192), ∑ d, x0 (ix3 0 r (lane e d)) * K (ix3 0 ⟨κ, h⟩ (lane e d)) = (z e κ : EReal))
    (hw : ∀ (x : Fin 128) (κ : ℕ) (h : κ < 8192), V (ix3 0 ⟨κ, h⟩ x) = (w x κ : EReal)) :
    result i x0 K V p g (ix2 r l)
      = normed (fun x => (mean (z 0) (w x) (64 * ((256 * (i 2).val + r.val) / 64 + 1)) : EReal)
          - weight (fun n x => p (ix2 n x)) * (mean (z 1) (w x) (64 * ((256 * (i 2).val + r.val) / 64 + 1)) : EReal)) (fun x => g (ix2 0 x)) l := by
  have hT : 64 * ((256 * (i 2).val + r.val) / 64 + 1) = 256 * (i 2).val + 64 * (r.val / 64 + 1) := by omega
  unfold result
  rw [tail_apply, hT]
  refine congrArg (fun o => normed o _ l) (funext fun x => ?_)
  have h0 := good_quot _ _ _ _ (by omega) _ _ _ (carried0 x0 K V (i 2) r x (z 0) (w x) (hw x) (hz 0) (i 2).val le_rfl)
  have h1 := good_quot _ _ _ _ (by omega) _ _ _ (carried1 x0 K V (i 2) r x (z 1) (w x) (hw x) (hz 1) (i 2).val le_rfl)
  rw [h0, h1]

end Cert.Da
-- ==== Proof.DaSlabs.lean ====
/-
  The array three of the kernel's windows read: the scaled queries, the keys and the values, each head group's lanes side
  by side.  Then what each window's block holds at a grid point.
-/
module

public import proofs.«01_k».proof.Proof.DaPoint
public import Idealize.ShloMosaic.Lib.StableHlo.ReadAt
public import Idealize.ShloMosaic.Lib.Pipeline.ValueKit

@[expose] public section

set_option maxRecDepth 16384

noncomputable section

namespace Cert.Da

open Cert.Kernel5Ideal Cert.Kernel5Ideal.Gen Idealize.ShloMosaic Idealize.ShloMosaic.TcCoe Idealize.SL.Sem

variable (m : (ℓ : Loc nD τ sig) → Buf (Elt Ideal) ℓ) (c : Dev nD)

/-- The kernel's arguments. -/
abbrev qa : FVec Ideal S2x4x2x8192x64 .f32 := m ((c.tc : Thread nD τ).loc main_arg0)
abbrev ka : FVec Ideal S2x4x2x8192x64 .f32 := m ((c.tc : Thread nD τ).loc main_arg1)
abbrev va : FVec Ideal S2x4x8192x128 .f32 := m ((c.tc : Thread nD τ).loc main_arg2)
abbrev la : FVec Ideal S1x4x64 .f32 := m ((c.tc : Thread nD τ).loc main_arg3)
abbrev ga : FVec Ideal S1x128 .f32 := m ((c.tc : Thread nD τ).loc main_arg4)

theorem slab_q (h : Fin 4) (row : Fin 16384) (l : Fin 128) :
    V m c main_v9 (ix3 ⟨h.val, by have := h.isLt; omega⟩ row l) =
      qa m c (ix5 ⟨row.val / 8192, by have := row.isLt; omega⟩ h ⟨l.val / 64, by have := l.isLt; omega⟩ ⟨row.val % 8192, by omega⟩ ⟨l.val % 64, by omega⟩) * Ideal.ofBits .f32 0x3E000000#32 := by
  have hh := h.isLt
  unfold V
  after_reads_at
  after_reads_at
  try rfl

theorem slab_k (h : Fin 4) (row : Fin 16384) (l : Fin 128) :
    V m c main_v9 (ix3 ⟨4 + h.val, by have := h.isLt; omega⟩ row l) =
      ka m c (ix5 ⟨row.val / 8192, by have := row.isLt; omega⟩ h ⟨l.val / 64, by have := l.isLt; omega⟩ ⟨row.val % 8192, by omega⟩ ⟨l.val % 64, by omega⟩) := by
  have hh := h.isLt
  unfold V
  after_reads_at
  after_reads_at

theorem slab_v (h : Fin 4) (row : Fin 16384) (l : Fin 128) :
    V m c main_v9 (ix3 ⟨8 + h.val, by have := h.isLt; omega⟩ row l) =
      va m c (ix4 ⟨row.val / 8192, by have := row.isLt; omega⟩ h ⟨row.val % 8192, by omega⟩ l) := by
  have hh := h.isLt
  unfold V
  after_reads_at
  rw [dif_neg (by first | omega | (dsimp only; omega)), dif_neg (by first | omega | (dsimp only; omega))]
  after_reads_at
  have e : (⟨8 + h.val - 4 - 4, by omega⟩ : Fin 4) = h := Fin.ext (by show 8 + h.val - 4 - 4 = h.val; omega)
  rw [e]

theorem lam_apply (n : Fin 4) (x : Fin 64) : V m c main_v10 (ix2 n x) = la m c (ix3 0 n x) := by
  unfold V
  after_reads_at

/-- The grid point's batch, head group, and block of rows. -/
def gb (t : Fin cfg0.N) : Fin 2 := grid0.coords t 0
def gh (t : Fin cfg0.N) : Fin 4 := grid0.coords t 1
def gi (t : Fin cfg0.N) : Fin 32 := grid0.coords t 2

theorem idx0 : ∀ t : Fin cfg0.N, win0_0.index t = ![(gh t).val, (gb t).val * 32 + (gi t).val, 0] :=
  (by decide +kernel : ∀ t : Fin grid0.N, _)
theorem idx1 : ∀ t : Fin cfg0.N, win0_1.index t = ![4 + (gh t).val, (gb t).val, 0] :=
  (by decide +kernel : ∀ t : Fin grid0.N, _)
theorem idx2 : ∀ t : Fin cfg0.N, win0_2.index t = ![8 + (gh t).val, (gb t).val, 0] :=
  (by decide +kernel : ∀ t : Fin grid0.N, _)
theorem idx3 : ∀ t : Fin cfg0.N, win0_3.index t = ![0, 0] :=
  (by decide +kernel : ∀ t : Fin grid0.N, _)
theorem idx4 : ∀ t : Fin cfg0.N, win0_4.index t = ![0, 0] :=
  (by decide +kernel : ∀ t : Fin grid0.N, _)
theorem idx5 : ∀ t : Fin cfg0.N, win0_5.index t = ![(gb t).val * 32 + (gi t).val, (gh t).val] :=
  (by decide +kernel : ∀ t : Fin grid0.N, _)

variable (t : Fin cfg0.N)

/-- The blocks of queries, keys, values, weight vectors and gains at a grid point. -/
abbrev queries : FVec Ideal S1x256x128 .bf16 := iblk m c 0 t
abbrev keys : FVec Ideal S1x8192x128 .bf16 := iblk m c 1 t
abbrev values : FVec Ideal S1x8192x128 .bf16 := iblk m c 2 t
abbrev weights : FVec Ideal S4x64 .f32 := iblk m c 3 t
abbrev gains : FVec Ideal S1x128 .f32 := iblk m c 4 t

/-- The position in its batch of row `r` of the grid point's block. -/
def pos (r : Fin 256) : Fin 8192 := ⟨256 * (gi t).val + r.val, by have := (gi t).isLt; have := r.isLt; omega⟩

theorem block_q (r : Fin 256) (e : Fin 2) (d : Fin 64) :
    queries m c t (ix3 0 r (lane e d)) = qa m c (ix5 (gb t) (gh t) e (pos t r) d) * Ideal.ofBits .f32 0x3E000000#32 := by
  have hb := (gb t).isLt
  have hh := (gh t).isLt
  have hi := (gi t).isLt
  have hr := r.isLt
  have he := e.isLt
  have hd := d.isLt
  refine Eq.trans (b := V m c main_v9 (ix3 ⟨(gh t).val, by omega⟩ ⟨8192 * (gb t).val + 256 * (gi t).val + r.val, by omega⟩ (lane e d))) ?_ ((slab_q m c (gh t) _ _).trans ?_)
  · blk_simp [iblk, idx0]
    refine congrArg (V m c main_v9) ?_
    blk_ext [idx0 t]
  · refine congrArg (fun x => qa m c x * Ideal.ofBits .f32 0x3E000000#32) ?_
    funext a
    refine Fin.ext ?_
    match a with
    | ⟨0, _⟩ => show (8192 * (gb t).val + 256 * (gi t).val + r.val) / 8192 = (gb t).val; omega
    | ⟨1, _⟩ => rfl
    | ⟨2, _⟩ => show (64 * e.val + d.val) / 64 = e.val; omega
    | ⟨3, _⟩ => show (8192 * (gb t).val + 256 * (gi t).val + r.val) % 8192 = 256 * (gi t).val + r.val; omega
    | ⟨4, _⟩ => show (64 * e.val + d.val) % 64 = d.val; omega

theorem block_k (p : Fin 8192) (e : Fin 2) (d : Fin 64) :
    keys m c t (ix3 0 p (lane e d)) = ka m c (ix5 (gb t) (gh t) e p d) := by
  have hb := (gb t).isLt
  have hh := (gh t).isLt
  have hp := p.isLt
  have he := e.isLt
  have hd := d.isLt
  refine Eq.trans (b := V m c main_v9 (ix3 ⟨4 + (gh t).val, by omega⟩ ⟨8192 * (gb t).val + p.val, by omega⟩ (lane e d))) ?_ ((slab_k m c (gh t) _ _).trans ?_)
  · blk_simp [iblk, idx1]
    refine congrArg (V m c main_v9) ?_
    blk_ext [idx1 t]
  · refine congrArg (ka m c) ?_
    funext a
    refine Fin.ext ?_
    match a with
    | ⟨0, _⟩ => show (8192 * (gb t).val + p.val) / 8192 = (gb t).val; omega
    | ⟨1, _⟩ => rfl
    | ⟨2, _⟩ => show (64 * e.val + d.val) / 64 = e.val; omega
    | ⟨3, _⟩ => show (8192 * (gb t).val + p.val) % 8192 = p.val; omega
    | ⟨4, _⟩ => show (64 * e.val + d.val) % 64 = d.val; omega

theorem block_v (p : Fin 8192) (l : Fin 128) :
    values m c t (ix3 0 p l) = va m c (ix4 (gb t) (gh t) p l) := by
  have hb := (gb t).isLt
  have hh := (gh t).isLt
  have hp := p.isLt
  refine Eq.trans (b := V m c main_v9 (ix3 ⟨8 + (gh t).val, by omega⟩ ⟨8192 * (gb t).val + p.val, by omega⟩ l)) ?_ ((slab_v m c (gh t) _ _).trans ?_)
  · blk_simp [iblk, idx2]
    refine congrArg (V m c main_v9) ?_
    blk_ext [idx2 t]
  · refine congrArg (va m c) ?_
    funext a
    refine Fin.ext ?_
    match a with
    | ⟨0, _⟩ => show (8192 * (gb t).val + p.val) / 8192 = (gb t).val; omega
    | ⟨1, _⟩ => rfl
    | ⟨2, _⟩ => show (8192 * (gb t).val + p.val) % 8192 = p.val; omega
    | ⟨3, _⟩ => rfl

theorem block_weights (n : Fin 4) (x : Fin 64) : weights m c t (ix2 n x) = la m c (ix3 0 n x) := by
  refine Eq.trans (b := V m c main_v10 (ix2 n x)) ?_ (lam_apply m c n x)
  blk_simp [iblk, idx3]
  refine congrArg (V m c main_v10) ?_
  blk_ext [idx3 t]

theorem block_gains (x : Fin 128) : gains m c t (ix2 0 x) = ga m c (ix2 0 x) := by
  refine Eq.trans (b := V m c main_arg4 (ix2 0 x)) ?_ (congrFun (V_main_arg4 m c) _)
  blk_simp [iblk, idx4]
  refine congrArg (V m c main_arg4) ?_
  blk_ext [idx4 t]

end Cert.Da
-- ==== Proof.DaBody.lean ====
/-
  What one grid point of differential attention leaves in its block of the result.
-/
module

public import proofs.«01_k».proof.Proof.DaTrip

@[expose] public section

set_option maxRecDepth 16384

noncomputable section

namespace Cert.Da

open Cert.Kernel5Ideal Cert.Kernel5Ideal.Gen Idealize.ShloMosaic Idealize.ShloMosaic.TcCoe Idealize.SL.Sem

variable {F : FTy → Type} [FloatOps F] [Named F]

/-- Equal operands give an equal weighted difference. -/
theorem pay66_congr {p p' : Vec F S4x64 .f32} {a a' b b' e e' d d' : Vec F S256x128 .f32} (h0 : p = p') (h1 : a = a') (h2 : b = b')
    (h3 : e = e') (h4 : d = d') : k0_pay66 p a b e d = k0_pay66 p' a' b' e' d' := by
  subst h0 h1 h2 h3 h4; rfl

/-- The grid point's block of the result is `result` of its blocks. -/
theorem out_eq (c : Dev nD) (i : grid0.Coords)
  (arg3 : Memref sig .tc .vmem S1x256x128 .bf16) (harg3 : arg3.IsWhole) (arg4 : Memref sig .tc .vmem S1x8192x128 .bf16) (harg4 : arg4.IsWhole)
  (arg5 : Memref sig .tc .vmem S1x8192x128 .bf16) (harg5 : arg5.IsWhole) (arg6 : Memref sig .tc .vmem S4x64 .f32) (harg6 : arg6.IsWhole)
  (arg7 : Memref sig .tc .vmem S1x128 .f32) (harg7 : arg7.IsWhole) (arg8 : Memref sig .tc .vmem S256x128 .bf16) (harg8 : arg8.IsWhole)
  (arg9 : Memref sig .tc .vmem S256x128 .f32) (harg9 : arg9.IsWhole) (arg10 : Memref sig .tc .vmem S256x128 .f32) (harg10 : arg10.IsWhole)
  (arg11 : Memref sig .tc .vmem S256x128 .f32) (harg11 : arg11.IsWhole) (arg12 : Memref sig .tc .vmem S256x128 .f32) (harg12 : arg12.IsWhole)
  (arg13 : Memref sig .tc .vmem S256x128 .f32) (harg13 : arg13.IsWhole) (arg14 : Memref sig .tc .vmem S256x128 .f32) (harg14 : arg14.IsWhole)
    (x0 : Vec F S1x256x128 .bf16) (x1 : Vec F S1x8192x128 .bf16) (x2 : Vec F S1x8192x128 .bf16) (x3 : Vec F S4x64 .f32) (x4 : Vec F S1x128 .f32) :
    out0_A_5 c i arg3 harg3 arg4 harg4 arg5 harg5 arg6 harg6 arg7 harg7 arg8 harg8 arg9 harg9 arg10 harg10 arg11 harg11 arg12 harg12 arg13 harg13 arg14 harg14 x0 x1 x2 x3 x4 = result i x0 x1 x2 x3 x4 := by
  unfold out0_A_5 kernelRun0_A
  dsimp only
  refine (read_writes_whole _ _ _ _ _).trans ?_
  unfold result carried
  refine congrArg₂ k0_pay1 (pay66_congr ?_ ?_ ?_ ?_ ?_) ?_
  · sl_unfold_words
    simp only [View.readAt_eq_ld, harg6.read_unread]
    exact View.ld_unit_zero (S := S4x64) hz2 _ _
  · sl_unfold_words
    rw [pb2_nil]
    unfold View.readCov
    simp only [View.readAt_eq_ld, View.ld_unit_zero (S := S256x128) hz2, List.nil_append, View.writes_append]
    refine (congrArg St.a0 (loop_eq Variants.none c none i arg3 harg3 arg4 harg4 arg5 harg5 arg6 harg6 arg7 harg7 arg8 harg8 arg9 harg9 arg10 harg10 arg11 harg11 arg12 harg12 arg13 harg13 arg14 harg14 _ _ _ _ _ _ _ _ _ _ _ _ (k0_t1_loop i).trips le_rfl)).trans ?_
    rw [trips_eq]
    simp only [harg3.read_unread, harg4.read_unread, harg5.read_unread, View.ld_unit_zero (S := S1x256x128) hz3]
    rw [← ld_off1 i, ← ld_off1 i]
    refine congrArg (fun s : St F => (iter (k0_pay40 x0) k0_pay41 x1 x2 s (i 2).val).a0) ?_
    unfold first seen
    apply St.ext <;> refine (read_writes_whole _ _ _ _ _).trans ?_ <;> dsimp only <;> unfold k0_off1 <;> rfl
  · sl_unfold_words
    rw [pb2_nil]
    unfold View.readCov
    simp only [View.readAt_eq_ld, View.ld_unit_zero (S := S256x128) hz2, List.nil_append, View.writes_append]
    refine (congrArg St.l0 (loop_eq Variants.none c none i arg3 harg3 arg4 harg4 arg5 harg5 arg6 harg6 arg7 harg7 arg8 harg8 arg9 harg9 arg10 harg10 arg11 harg11 arg12 harg12 arg13 harg13 arg14 harg14 _ _ _ _ _ _ _ _ _ _ _ _ (k0_t1_loop i).trips le_rfl)).trans ?_
    rw [trips_eq]
    simp only [harg3.read_unread, harg4.read_unread, harg5.read_unread, View.ld_unit_zero (S := S1x256x128) hz3]
    rw [← ld_off1 i, ← ld_off1 i]
    refine congrArg (fun s : St F => (iter (k0_pay40 x0) k0_pay41 x1 x2 s (i 2).val).l0) ?_
    unfold first seen
    apply St.ext <;> refine (read_writes_whole _ _ _ _ _).trans ?_ <;> dsimp only <;> unfold k0_off1 <;> rfl
  · sl_unfold_words
    rw [pb2_nil]
    unfold View.readCov
    simp only [View.readAt_eq_ld, View.ld_unit_zero (S := S256x128) hz2, List.nil_append, View.writes_append]
    refine (congrArg St.a1 (loop_eq Variants.none c none i arg3 harg3 arg4 harg4 arg5 harg5 arg6 harg6 arg7 harg7 arg8 harg8 arg9 harg9 arg10 harg10 arg11 harg11 arg12 harg12 arg13 harg13 arg14 harg14 _ _ _ _ _ _ _ _ _ _ _ _ (k0_t1_loop i).trips le_rfl)).trans ?_
    rw [trips_eq]
    simp only [harg3.read_unread, harg4.read_unread, harg5.read_unread, View.ld_unit_zero (S := S1x256x128) hz3]
    rw [← ld_off1 i, ← ld_off1 i]
    refine congrArg (fun s : St F => (iter (k0_pay40 x0) k0_pay41 x1 x2 s (i 2).val).a1) ?_
    unfold first seen
    apply St.ext <;> refine (read_writes_whole _ _ _ _ _).trans ?_ <;> dsimp only <;> unfold k0_off1 <;> rfl
  · sl_unfold_words
    rw [pb2_nil]
    unfold View.readCov
    simp only [View.readAt_eq_ld, View.ld_unit_zero (S := S256x128) hz2, List.nil_append, View.writes_append]
    refine (congrArg St.l1 (loop_eq Variants.none c none i arg3 harg3 arg4 harg4 arg5 harg5 arg6 harg6 arg7 harg7 arg8 harg8 arg9 harg9 arg10 harg10 arg11 harg11 arg12 harg12 arg13 harg13 arg14 harg14 _ _ _ _ _ _ _ _ _ _ _ _ (k0_t1_loop i).trips le_rfl)).trans ?_
    rw [trips_eq]
    simp only [harg3.read_unread, harg4.read_unread, harg5.read_unread, View.ld_unit_zero (S := S1x256x128) hz3]
    rw [← ld_off1 i, ← ld_off1 i]
    refine congrArg (fun s : St F => (iter (k0_pay40 x0) k0_pay41 x1 x2 s (i 2).val).l1) ?_
    unfold first seen
    apply St.ext <;> refine (read_writes_whole _ _ _ _ _).trans ?_ <;> dsimp only <;> unfold k0_off1 <;> rfl
  · refine congrArg k0_pay67 ?_
    sl_unfold_words
    simp only [View.readAt_eq_ld, harg7.read_unread]
    exact View.ld_unit_zero (S := S1x128) hz2 _ _

end Cert.Da
-- ==== Proof.DaFinite.lean ====
/-
  The precondition, read at an entry: every query, key, value and weight vector is a real number.
-/
module

public import proofs.«01_k».proof.Proof.DaPoint
public import proofs.«01_k».proof.Proof.Gen.Pre_finite

@[expose] public section

set_option maxRecDepth 16384

noncomputable section

namespace Cert.Da

open Cert.Pre_finite Idealize.ShloMosaic Idealize.ShloMosaic.TcCoe

theorem top_eq : Ideal.ofBits .f32 0x7F800000#32 = ⊤ := by simp [Ideal.ofBits, Ideal.ieee]

theorem andi_one (x y : BitVec 1) (h : IntOp.andi x y = 1#1) : x = 1#1 ∧ y = 1#1 := by
  revert x y; decide

/-- An entry strictly between the two ends is real. -/
theorem real_of_inside (x : EReal)
    (h : IntOp.andi (BitVec.ofBool (decide (Ideal.ofBits .f32 0xFF800000#32 < x))) (BitVec.ofBool (decide (x < Ideal.ofBits .f32 0x7F800000#32))) = 1#1) :
    ∃ r : ℝ, x = (r : EReal) := by
  obtain ⟨h1, h2⟩ := andi_one _ _ h
  rw [start_eq] at h1
  rw [top_eq] at h2
  have g1 : ⊥ < x := by
    by_contra hn
    rw [decide_eq_false hn] at h1
    exact absurd h1 (by decide)
  have g2 : x < ⊤ := by
    by_contra hn
    rw [decide_eq_false hn] at h2
    exact absurd h2 (by decide)
  exact ⟨x.toReal, (EReal.coe_toReal g2.ne g1.ne').symm⟩

/-- The scale of the scores is an eighth. -/
theorem scale_eq : Ideal.ofBits .f32 0x3E000000#32 = ((1 / 8 : ℝ) : EReal) := by
  simp [Ideal.ofBits, Ideal.ieee, -EReal.coe_mul]; norm_num

/-- A sum of products of real entries is real. -/
theorem real_dot (f g : Fin 64 → EReal) (hf : ∀ d, ∃ r : ℝ, f d = (r : EReal)) (hg : ∀ d, ∃ r : ℝ, g d = (r : EReal)) :
    ∃ r : ℝ, ∑ d, f d * g d = (r : EReal) := by
  choose a ha using hf
  choose b hb using hg
  exact ⟨∑ d, a d * b d, by rw [← sum_coe]; exact Finset.sum_congr rfl fun d _ => by rw [ha, hb, EReal.coe_mul]⟩

variable (q k : FVec Ideal S2x4x2x8192x64 .f32) (v : FVec Ideal S2x4x8192x128 .f32) (A : FVec Ideal S1x4x64 .f32) (g : FVec Ideal S1x128 .f32)
  (hf : Pre_finite.fn (F := Ideal) q k v A g = fun _ => 1#1)
include hf

theorem real_all (b : Fin 2) (h : Fin 4) (e : Fin 2) (p : Fin 8192) (d : Fin 64) :
    (∃ r : ℝ, q (ix5 b h e p d) = (r : EReal)) ∧ (∃ r : ℝ, k (ix5 b h e p d) = (r : EReal))
      ∧ (∃ r : ℝ, v (ix4 b h p ⟨e.val * 64 + d.val, by have := e.isLt; have := d.isLt; omega⟩) = (r : EReal))
      ∧ ∃ r : ℝ, A (ix3 0 h d) = (r : EReal) := by
  have := congrFun hf (ix5 b h e p d)
  revert this
  pointwise [Pre_finite.fn, Pre_finite.fn_part1]
  intro hx
  obtain ⟨h1, h4⟩ := andi_one _ _ hx
  obtain ⟨h2, h3⟩ := andi_one _ _ h1
  obtain ⟨h0, h1⟩ := andi_one _ _ h2
  exact ⟨real_of_inside _ h0, real_of_inside _ h1, real_of_inside _ h3, real_of_inside _ h4⟩

theorem real_value (b : Fin 2) (h : Fin 4) (p : Fin 8192) (x : Fin 128) : ∃ r : ℝ, v (ix4 b h p x) = (r : EReal) := by
  have hx := x.isLt
  obtain ⟨r, hr⟩ := (real_all q k v A g hf b h ⟨x.val / 64, by omega⟩ p ⟨x.val % 64, by omega⟩).2.2.1
  refine ⟨r, (congrArg (fun y => v (ix4 b h p y)) (Fin.ext ?_)).trans hr⟩
  show x.val = x.val / 64 * 64 + x.val % 64
  omega

/-- The scores of a query are real. -/
theorem real_scores (b : Fin 2) (h : Fin 4) (p : Fin 8192) :
    ∃ z : Fin 2 → ℕ → ℝ, ∀ (e : Fin 2) (κ : ℕ) (hk : κ < 8192),
      (∑ d, q (ix5 b h e p d) * k (ix5 b h e ⟨κ, hk⟩ d)) * Ideal.ofBits .f32 0x3E000000#32 = (z e κ : EReal) := by
  have hr : ∀ (e : Fin 2) (κ : ℕ), ∃ r : ℝ, ∀ hk : κ < 8192,
      (∑ d, q (ix5 b h e p d) * k (ix5 b h e ⟨κ, hk⟩ d)) * Ideal.ofBits .f32 0x3E000000#32 = (r : EReal) := fun e κ => by
    by_cases hk : κ < 8192
    · obtain ⟨r, hr⟩ := real_dot (fun d => q (ix5 b h e p d)) (fun d => k (ix5 b h e ⟨κ, hk⟩ d))
        (fun d => (real_all q k v A g hf b h e p d).1) fun d => (real_all q k v A g hf b h e ⟨κ, hk⟩ d).2.1
      exact ⟨r * (1 / 8), fun _ => by rw [hr, scale_eq, EReal.coe_mul]⟩
    · exact ⟨0, fun hn => absurd hn hk⟩
  choose z hz using hr
  exact ⟨z, hz⟩

/-- The values a head mixes are real. -/
theorem real_values (b : Fin 2) (h : Fin 4) :
    ∃ w : Fin 128 → ℕ → ℝ, ∀ (x : Fin 128) (κ : ℕ) (hk : κ < 8192), v (ix4 b h ⟨κ, hk⟩ x) = (w x κ : EReal) := by
  have hr : ∀ (x : Fin 128) (κ : ℕ), ∃ r : ℝ, ∀ hk : κ < 8192, v (ix4 b h ⟨κ, hk⟩ x) = (r : EReal) := fun x κ => by
    by_cases hk : κ < 8192
    · obtain ⟨r, hr⟩ := real_value q k v A g hf b h ⟨κ, hk⟩ x
      exact ⟨r, fun _ => hr⟩
    · exact ⟨0, fun hn => absurd hn hk⟩
  choose w hw using hr
  exact ⟨w, hw⟩

/-- The weight of the second head is real. -/
theorem real_weight : ∃ lam : ℝ, (weight fun n x => A (ix3 0 n x)) = (lam : EReal) := by
  have hA : ∀ (n : Fin 4) (x : Fin 64), ∃ r : ℝ, A (ix3 0 n x) = (r : EReal) := fun n x => (real_all q k v A g hf 0 n 0 0 x).2.2.2
  have h5 : ∃ r : ℝ, Ideal.ofBits .f32 0x3E4CCCCD#32 = (r : EReal) := by
    refine ⟨(Ideal.ofBits .f32 0x3E4CCCCD#32).toReal, (EReal.coe_toReal ?_ ?_).symm⟩ <;> simp [Ideal.ofBits, Ideal.ieee, -EReal.coe_mul]
  obtain ⟨s, hs⟩ := real_dot (fun x => A (ix3 0 0 x)) (fun x => A (ix3 0 1 x)) (hA 0) (hA 1)
  obtain ⟨t, ht⟩ := real_dot (fun x => A (ix3 0 2 x)) (fun x => A (ix3 0 3 x)) (hA 2) (hA 3)
  obtain ⟨u, hu⟩ := h5
  unfold weight
  rw [hs, ht, hu]
  exact ⟨Real.exp s - Real.exp t + u, by rw [EReal.coe_add, EReal.coe_sub]; rfl⟩

end Cert.Da
-- ==== Proof.DaReference.lean ====
/-
  The reference read at an entry: the masked scores of both heads of a group, their softmaxes, the difference, its
  product with the values, and the row normalised. The scores and values are taken to be real numbers.
-/
module

public import proofs.«01_k».proof.Proof.Gen.Reference5Ideal.Run
public import proofs.«01_k».proof.Proof.DaPoint

@[expose] public section

set_option maxRecDepth 16384

noncomputable section

namespace Cert.Da

open Cert.Reference5Ideal Cert.Reference5Ideal.Gen Idealize.ShloMosaic Idealize.ShloMosaic.TcCoe Idealize.SL.Sem

/-- The scores' array type. -/
abbrev Sq := FVec Ideal S2x4x2x8192x8192 .f32

/-- The key positions and the query positions, each divided by 64. -/
def keyGroup : IVec S1x8192 32 :=
  select (andi (cmpi .ne (signi (broadcastInDim S1x8192 ![1] bcast_S8192_S1x8192_1 (iotaInDim S8192 32 0))) (broadcastInDim S1x8192 ![] bcast_S_S1x8192 (signi (id (constantI S_ 32 64#32))))) (cmpi .ne (Host.remsi (broadcastInDim S1x8192 ![1] bcast_S8192_S1x8192_1 (iotaInDim S8192 32 0)) (broadcastInDim S1x8192 ![] bcast_S_S1x8192 (id (constantI S_ 32 64#32)))) (broadcastInDim S1x8192 ![] bcast_S_S1x8192 (constantI S_ 32 0#32)))) (subi (Host.divsi (broadcastInDim S1x8192 ![1] bcast_S8192_S1x8192_1 (iotaInDim S8192 32 0)) (broadcastInDim S1x8192 ![] bcast_S_S1x8192 (id (constantI S_ 32 64#32)))) (broadcastInDim S1x8192 ![] bcast_S_S1x8192 (constantI S_ 32 1#32))) (Host.divsi (broadcastInDim S1x8192 ![1] bcast_S8192_S1x8192_1 (iotaInDim S8192 32 0)) (broadcastInDim S1x8192 ![] bcast_S_S1x8192 (id (constantI S_ 32 64#32))))

def queryGroup : IVec S8192x1 32 :=
  select (andi (cmpi .ne (signi (broadcastInDim S8192x1 ![0] bcast_S8192_S8192x1_0 (iotaInDim S8192 32 0))) (broadcastInDim S8192x1 ![] bcast_S_S8192x1 (signi (id (constantI S_ 32 64#32))))) (cmpi .ne (Host.remsi (broadcastInDim S8192x1 ![0] bcast_S8192_S8192x1_0 (iotaInDim S8192 32 0)) (broadcastInDim S8192x1 ![] bcast_S_S8192x1 (id (constantI S_ 32 64#32)))) (broadcastInDim S8192x1 ![] bcast_S_S8192x1 (constantI S_ 32 0#32)))) (subi (Host.divsi (broadcastInDim S8192x1 ![0] bcast_S8192_S8192x1_0 (iotaInDim S8192 32 0)) (broadcastInDim S8192x1 ![] bcast_S_S8192x1 (id (constantI S_ 32 64#32)))) (broadcastInDim S8192x1 ![] bcast_S_S8192x1 (constantI S_ 32 1#32))) (Host.divsi (broadcastInDim S8192x1 ![0] bcast_S8192_S8192x1_0 (iotaInDim S8192 32 0)) (broadcastInDim S8192x1 ![] bcast_S_S8192x1 (id (constantI S_ 32 64#32))))

/-- The keys a query sees. -/
def maskR : IVec S8192x8192 1 :=
  cmpi .sle (broadcastInDim S8192x8192 ![0, 1] bcast_S1x8192_S8192x8192_0_1 keyGroup) (broadcastInDim S8192x8192 ![0, 1] bcast_S8192x1_S8192x8192_0_1 queryGroup)

/-- The scores, those of unseen keys replaced by `-∞`. -/
def scoreR (q k : FVec Ideal S2x4x2x8192x64 .f32) : Sq :=
  select (broadcastInDim S2x4x2x8192x8192 ![3, 4] bcast_S8192x8192_S2x4x2x8192x8192_3_4 maskR)
    (mulf (Host.dotGeneral dot_S2x4x2x8192x64_S2x4x2x8192x64_S2x4x2x8192x8192_4_4_3_3_012_012 none q k) (broadcastInDim S2x4x2x8192x8192 ![] bcast_S_S2x4x2x8192x8192 (constant S_ .f32 0x3E000000#32)))
    (broadcastInDim S2x4x2x8192x8192 ![] bcast_S_S2x4x2x8192x8192 (id (constant S_ .f32 0xFF800000#32)))

/-- A row's largest score. -/
def topR (s : Sq) : FVec Ideal S2x4x2x8192 .f32 :=
  maximumf (broadcastInDim S2x4x2x8192 ![] bcast_S_S2x4x2x8192 (constant S_ .f32 0xFF800000#32)) (Host.reduce FloatOps.maximumf s (constant S_ .f32 0xFF800000#32) reducesTo_S2x4x2x8192x8192_S2x4x2x8192_d4 h_S_)

def expR (s : Sq) : Sq :=
  Host.exp (subf s (broadcastInDim S2x4x2x8192x8192 ![0, 1, 2, 3, 4] bcast_S2x4x2x8192x1_S2x4x2x8192x8192_0_1_2_3_4 (broadcastInDim S2x4x2x8192x1 ![0, 1, 2, 3] bcast_S2x4x2x8192_S2x4x2x8192x1_0_1_2_3 (topR s))))

/-- The softmax of a row. -/
def softR (s : Sq) : Sq :=
  Host.divf (expR s) (broadcastInDim S2x4x2x8192x8192 ![0, 1, 2, 3, 4] bcast_S2x4x2x8192x1_S2x4x2x8192x8192_0_1_2_3_4 (broadcastInDim S2x4x2x8192x1 ![0, 1, 2, 3] bcast_S2x4x2x8192_S2x4x2x8192x1_0_1_2_3 (Host.reduceAdd (expR s) (constant S_ .f32 0x00000000#32) reducesTo_S2x4x2x8192x8192_S2x4x2x8192_d4 h_S_)))

/-- The weight of the second head. -/
def weightR (A : FVec Ideal S1x4x64 .f32) : FVec Ideal S_ .f32 :=
  addf (subf (Host.exp (Host.reduceAdd (mulf (shapeCast S64 (extractStridedSlice S1x64 ![0, 0] (shapeCast S4x64 A shapeCasts_S1x4x64_S4x64) slices_S4x64_S1x64_0_0) shapeCasts_S1x64_S64) (shapeCast S64 (extractStridedSlice S1x64 ![1, 0] (shapeCast S4x64 A shapeCasts_S1x4x64_S4x64) slices_S4x64_S1x64_1_0) shapeCasts_S1x64_S64)) (constant S_ .f32 0x00000000#32) reducesTo_S64_S_d0 h_S_))
    (Host.exp (Host.reduceAdd (mulf (shapeCast S64 (extractStridedSlice S1x64 ![2, 0] (shapeCast S4x64 A shapeCasts_S1x4x64_S4x64) slices_S4x64_S1x64_2_0) shapeCasts_S1x64_S64) (shapeCast S64 (extractStridedSlice S1x64 ![3, 0] (shapeCast S4x64 A shapeCasts_S1x4x64_S4x64) slices_S4x64_S1x64_3_0) shapeCasts_S1x64_S64)) (constant S_ .f32 0x00000000#32) reducesTo_S64_S_d0 h_S_)))
    (constant S_ .f32 0x3E4CCCCD#32)

/-- The first head's weights less the second head's scaled. -/
def diffR (p : Sq) (A : FVec Ideal S1x4x64 .f32) : FVec Ideal S2x4x8192x8192 .f32 :=
  subf (shapeCast S2x4x8192x8192 (extractStridedSlice S2x4x1x8192x8192 ![0, 0, 0, 0, 0] p slices_S2x4x2x8192x8192_S2x4x1x8192x8192_0_0_0_0_0) shapeCasts_S2x4x1x8192x8192_S2x4x8192x8192)
    (mulf (broadcastInDim S2x4x8192x8192 ![] bcast_S_S2x4x8192x8192 (weightR A)) (shapeCast S2x4x8192x8192 (extractStridedSlice S2x4x1x8192x8192 ![0, 0, 1, 0, 0] p slices_S2x4x2x8192x8192_S2x4x1x8192x8192_0_0_1_0_0) shapeCasts_S2x4x1x8192x8192_S2x4x8192x8192))

def mixR (d : FVec Ideal S2x4x8192x8192 .f32) (v : FVec Ideal S2x4x8192x128 .f32) : FVec Ideal S2x4x8192x128 .f32 :=
  Host.dotGeneral dot_S2x4x8192x8192_S2x4x8192x128_S2x4x8192x128_3_2_2_3_01_01 none d v

/-- The rows normalised. -/
def normR (o : FVec Ideal S2x4x8192x128 .f32) (g : FVec Ideal S1x128 .f32) : FVec Ideal S2x4x8192x128 .f32 :=
  mulf (mulf (mulf o (broadcastInDim S2x4x8192x128 ![0, 1, 2, 3] bcast_S2x4x8192x1_S2x4x8192x128_0_1_2_3 (Host.rsqrt (addf (Host.divf (broadcastInDim S2x4x8192x1 ![0, 1, 2] bcast_S2x4x8192_S2x4x8192x1_0_1_2 (Host.reduceAdd (mulf o o) (constant S_ .f32 0x00000000#32) reducesTo_S2x4x8192x128_S2x4x8192_d3 h_S_)) (broadcastInDim S2x4x8192x1 ![] bcast_S_S2x4x8192x1 (constant S_ .f32 0x43000000#32))) (broadcastInDim S2x4x8192x1 ![] bcast_S_S2x4x8192x1 (constant S_ .f32 0x358637BD#32))))))
    (broadcastInDim S2x4x8192x128 ![0, 1, 2, 3] bcast_S1x1x1x128_S2x4x8192x128_0_1_2_3 (broadcastInDim S1x1x1x128 ![3] bcast_S128_S1x1x1x128_3 (shapeCast S128 g shapeCasts_S1x128_S128))))
    (broadcastInDim S2x4x8192x128 ![] bcast_S_S2x4x8192x128 (constant S_ .f32 0x3F4CCCCD#32))

def joinR (n : FVec Ideal S2x4x8192x128 .f32) : FVec Ideal S16384x512 .bf16 :=
  truncf .bf16 (shapeCast S16384x512 (transpose S2x8192x4x128 [0, 2, 1, 3] n transposes_S2x4x8192x128_S2x8192x4x128_0_2_1_3) shapeCasts_S2x8192x4x128_S16384x512) bitsLt_bf16_f32

def outR (q k : FVec Ideal S2x4x2x8192x64 .f32) (v : FVec Ideal S2x4x8192x128 .f32) (A : FVec Ideal S1x4x64 .f32) (g : FVec Ideal S1x128 .f32) :
    FVec Ideal S16384x512 .bf16 :=
  joinR (normR (mixR (diffR (softR (scoreR q k)) A) v) g)

theorem reference_eq (m : (ℓ : Loc nD τ sig) → Buf (Elt Ideal) ℓ) (c : Dev nD) :
    Cert.Reference5Ideal.Value.res_main_v67 m c = outR (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- The quotient of a position by 64, rounded down. -/
theorem position (κ : Fin 8192) :
    Scalar.select
      (IntOp.andi
        (IntOp.cmpi CmpIPredicate.ne
          (if BitVec.ofNat 32 κ.val = 0 then (0 : BitVec 32) else if (BitVec.ofNat 32 κ.val).msb = true then -1 else 1)
          (if 64#32 = 0 then (0 : BitVec 32) else if (64#32).msb = true then -1 else 1))
        (IntOp.cmpi CmpIPredicate.ne (IntOp.remsi ArithUnit.host (BitVec.ofNat 32 κ.val) 64#32) 0#32))
      (IntOp.subi (IntOp.divsi ArithUnit.host (BitVec.ofNat 32 κ.val) 64#32) 1#32)
      (IntOp.divsi ArithUnit.host (BitVec.ofNat 32 κ.val) 64#32) = BitVec.ofNat 32 (κ.val / 64) := by
  revert κ
  decide +kernel

theorem keyGroup_apply (κ : Fin 8192) : keyGroup (ix2 0 κ) = BitVec.ofNat 32 (κ.val / 64) := by
  pointwise [keyGroup, id]
  exact position κ

theorem queryGroup_apply (p : Fin 8192) : queryGroup (ix2 p 0) = BitVec.ofNat 32 (p.val / 64) := by
  pointwise [queryGroup, id]
  exact position p

theorem maskR_apply (p κ : Fin 8192) : maskR (ix2 p κ) = BitVec.ofBool (decide (κ.val < 64 * (p.val / 64 + 1))) := by
  pointwise [maskR]
  rw [keyGroup_apply, queryGroup_apply]
  have hp := p.isLt
  have hk := κ.isLt
  have : IntOp.cmpi .sle (BitVec.ofNat 32 (κ.val / 64)) (BitVec.ofNat 32 (p.val / 64)) = BitVec.ofBool (decide (κ.val / 64 ≤ p.val / 64)) := by
    word_omega
  rw [this]
  exact congrArg BitVec.ofBool (decide_eq_decide.2 (by omega))

theorem scoreR_apply (q k : FVec Ideal S2x4x2x8192x64 .f32) (b : Fin 2) (h : Fin 4) (e : Fin 2) (p κ : Fin 8192) :
    scoreR q k (ix5 b h e p κ) = if κ.val < 64 * (p.val / 64 + 1) then (∑ d, q (ix5 b h e p d) * k (ix5 b h e κ d)) * Ideal.ofBits .f32 0x3E000000#32 else ⊥ := by
  pointwise [scoreR, id]
  rw [maskR_apply, select_ofBool, start_eq]

/-- The largest entry along the last of five axes. -/
theorem reduce_top {n0 n1 n2 n3 n4 : ℕ} {u : Shape} (h : (⟨5, ![n0, n1, n2, n3, n4]⟩ : Shape).ReducesTo [4] ⟨4, ![n0, n1, n2, n3]⟩) (hu : 0 < u.numel)
    (s : FVec Ideal ⟨5, ![n0, n1, n2, n3, n4]⟩ .f32) (init : FVec Ideal u .f32) (a : Fin n0) (b : Fin n1) (c : Fin n2) (d : Fin n3) :
    Host.reduce FloatOps.maximumf s init h hu (ix4 a b c d)
      = (Finset.univ : Finset (Fin n4)).fold (max : EReal → EReal → EReal) (init (Shape.Idx.first hu)) fun k => s (ix5 a b c d k) :=
  (Host.reduce_eq_fold _ s init h hu (ix4 a b c d)).trans (h.fold_fiber_r5_a4 (ix4 a b c d) FloatOps.maximumf (init (Shape.Idx.first hu)) s)

theorem topR_apply (s : Sq) (b : Fin 2) (h : Fin 4) (e : Fin 2) (p : Fin 8192) :
    topR s (ix4 b h e p) = Finset.univ.fold max (⊥ : EReal) fun κ : Fin 8192 => s (ix5 b h e p κ) := by
  have h2 : topR s (ix4 b h e p) = max (Ideal.ofBits .f32 0xFF800000#32) (Host.reduce FloatOps.maximumf s (constant S_ .f32 0xFF800000#32) reducesTo_S2x4x2x8192x8192_S2x4x2x8192_d4 h_S_ (ix4 b h e p)) := by
    unfold topR; rw [maximumf_apply, Ideal.maximumf_def]; congr 1
  have h3 : (constant (F := Ideal) S_ .f32 0xFF800000#32) (Shape.Idx.first h_S_) = (⊥ : EReal) := start_eq
  rw [h2, reduce_top reducesTo_S2x4x2x8192x8192_S2x4x2x8192_d4 h_S_ s (constant S_ .f32 0xFF800000#32) b h e p, h3, start_eq, max_eq_right bot_le]

theorem expR_apply (s : Sq) (b : Fin 2) (h : Fin 4) (e : Fin 2) (p κ : Fin 8192) :
    expR s (ix5 b h e p κ) = Ideal.exp (s (ix5 b h e p κ) - topR s (ix4 b h e p)) := by
  pointwise [expR]

theorem softR_apply (s : Sq) (b : Fin 2) (h : Fin 4) (e : Fin 2) (p κ : Fin 8192) :
    softR s (ix5 b h e p κ) = Ideal.div (expR s (ix5 b h e p κ)) (∑ x : Fin 8192, expR s (ix5 b h e p x)) := by
  pointwise [softR]

theorem weightR_apply (A : FVec Ideal S1x4x64 .f32) : weightR A ix0 = weight fun n x => A (ix3 0 n x) := by
  pointwise [weightR]
  rfl

theorem diffR_apply (P : Sq) (A : FVec Ideal S1x4x64 .f32) (b : Fin 2) (h : Fin 4) (p κ : Fin 8192) :
    diffR P A (ix4 b h p κ) = P (ix5 b h 0 p κ) - weightR A ix0 * P (ix5 b h 1 p κ) := by
  pointwise [diffR]

theorem mixR_apply (D : FVec Ideal S2x4x8192x8192 .f32) (v : FVec Ideal S2x4x8192x128 .f32) (b : Fin 2) (h : Fin 4) (p : Fin 8192) (l : Fin 128) :
    mixR D v (ix4 b h p l) = ∑ κ : Fin 8192, D (ix4 b h p κ) * v (ix4 b h κ l) := by
  pointwise [mixR]

theorem normR_apply (o : FVec Ideal S2x4x8192x128 .f32) (g : FVec Ideal S1x128 .f32) (b : Fin 2) (h : Fin 4) (p : Fin 8192) (l : Fin 128) :
    normR o g (ix4 b h p l) = normed (fun x => o (ix4 b h p x)) (fun x => g (ix2 0 x)) l := by
  pointwise [normR]
  rfl

theorem joinR_apply (n : FVec Ideal S2x4x8192x128 .f32) (i : Fin 16384) (j : Fin 512) :
    joinR n (ix2 i j) = n (ix4 ⟨i.val / 8192, by have := i.isLt; omega⟩ ⟨j.val / 128, by have := j.isLt; omega⟩ ⟨i.val % 8192, by omega⟩ ⟨j.val % 128, by omega⟩) := by
  pointwise [joinR]

/-- The softmax of a row whose scores are real. -/
theorem soft_row (q k : FVec Ideal S2x4x2x8192x64 .f32) (b : Fin 2) (h : Fin 4) (e : Fin 2) (p : Fin 8192) (z : ℕ → ℝ)
    (hz : ∀ (κ : ℕ) (hk : κ < 8192), (∑ d, q (ix5 b h e p d) * k (ix5 b h e ⟨κ, hk⟩ d)) * Ideal.ofBits .f32 0x3E000000#32 = (z κ : EReal)) :
    ∃ M : ℝ, ∀ κ : Fin 8192, softR (scoreR q k) (ix5 b h e p κ)
      = Ideal.div (Ideal.exp ((if κ.val < 64 * (p.val / 64 + 1) then (z κ.val : EReal) else ⊥) - (M : EReal))) (den z M 0 (64 * (p.val / 64 + 1)) : EReal) := by
  have hs : ∀ κ : Fin 8192, scoreR q k (ix5 b h e p κ) = if κ.val < 64 * (p.val / 64 + 1) then (z κ.val : EReal) else ⊥ := fun κ => by
    rw [scoreR_apply, hz κ.val κ.isLt]
  obtain ⟨M, hM⟩ := fold_max_real (fun κ : Fin 8192 => if κ.val < 64 * (p.val / 64 + 1) then (z κ.val : EReal) else ⊥)
    (fun t => by split_ifs; exacts [EReal.coe_ne_top _, bot_ne_top])
    ⟨⟨0, by omega⟩, by rw [if_pos (by show 0 < _; omega)]; exact EReal.coe_ne_bot _⟩
  have ht : topR (scoreR q k) (ix4 b h e p) = (M : EReal) := by
    rw [topR_apply, ← hM]
    exact congrArg (Finset.fold max (⊥ : EReal) · Finset.univ) (funext hs)
  have hr : 64 * (p.val / 64 + 1) ≤ 8192 := by have := p.isLt; omega
  refine ⟨M, fun κ => ?_⟩
  rw [softR_apply]
  simp only [expR_apply, hs, ht]
  have := den_masked z M 0 8192 (64 * (p.val / 64 + 1)) hr
  simp only [Nat.zero_add] at this
  rw [this]

/-- The reference's result at lane `j` of row `i`. -/
theorem outR_apply (q k : FVec Ideal S2x4x2x8192x64 .f32) (v : FVec Ideal S2x4x8192x128 .f32) (A : FVec Ideal S1x4x64 .f32) (g : FVec Ideal S1x128 .f32)
    (i : Fin 16384) (j : Fin 512) (b : Fin 2) (h : Fin 4) (p : Fin 8192) (l : Fin 128) (hi : i.val = 8192 * b.val + p.val) (hj : j.val = 128 * h.val + l.val)
    (z : Fin 2 → ℕ → ℝ) (w : Fin 128 → ℕ → ℝ) (lam : ℝ)
    (hz : ∀ (e : Fin 2) (κ : ℕ) (hk : κ < 8192), (∑ d, q (ix5 b h e p d) * k (ix5 b h e ⟨κ, hk⟩ d)) * Ideal.ofBits .f32 0x3E000000#32 = (z e κ : EReal))
    (hw : ∀ (x : Fin 128) (κ : ℕ) (hk : κ < 8192), v (ix4 b h ⟨κ, hk⟩ x) = (w x κ : EReal))
    (hl : (weight fun n x => A (ix3 0 n x)) = (lam : EReal)) :
    outR q k v A g (ix2 i j)
      = normed (fun x => (mean (z 0) (w x) (64 * (p.val / 64 + 1)) : EReal)
          - (weight fun n x => A (ix3 0 n x)) * (mean (z 1) (w x) (64 * (p.val / 64 + 1)) : EReal)) (fun x => g (ix2 0 x)) l := by
  have hp := p.isLt
  have hx := l.isLt
  have e1 : (⟨i.val / 8192, by have := i.isLt; omega⟩ : Fin 2) = b := Fin.ext (by show i.val / 8192 = b.val; omega)
  have e2 : (⟨j.val / 128, by have := j.isLt; omega⟩ : Fin 4) = h := Fin.ext (by show j.val / 128 = h.val; omega)
  have e3 : (⟨i.val % 8192, by omega⟩ : Fin 8192) = p := Fin.ext (by show i.val % 8192 = p.val; omega)
  have e4 : (⟨j.val % 128, by omega⟩ : Fin 128) = l := Fin.ext (by show j.val % 128 = l.val; omega)
  unfold outR
  rw [joinR_apply, e1, e2, e3, e4, normR_apply]
  refine congrArg (fun o => normed o _ l) (funext fun x => ?_)
  obtain ⟨M0, h0⟩ := soft_row q k b h 0 p (z 0) (hz 0)
  obtain ⟨M1, h1⟩ := soft_row q k b h 1 p (z 1) (hz 1)
  rw [mixR_apply, hl]
  have hr : 64 * (p.val / 64 + 1) ≤ 8192 := by omega
  refine Eq.trans (Finset.sum_congr rfl fun κ _ => ?_)
    (sum_difference (z 0) (z 1) (w x) lam M0 M1 (64 * (p.val / 64 + 1)) 8192 (by omega) hr)
  rw [diffR_apply, weightR_apply, hl, h0, h1, hw x κ.val κ.isLt]

end Cert.Da
-- ==== Proof.DaArray.lean ====
/-
  The kernel's result array: at every entry the output of the differential attention, as the reference spells it.
-/
module

public import proofs.«01_k».proof.Proof.DaSlabs
public import proofs.«01_k».proof.Proof.DaBody
public import proofs.«01_k».proof.Proof.DaFinite
public import proofs.«01_k».proof.Proof.DaReference
public import Idealize.ShloMosaic.Lib.Pipeline.Covers

@[expose] public section

set_option maxRecDepth 16384

noncomputable section

namespace Cert.Da

open Cert.Kernel5Ideal Cert.Kernel5Ideal.Gen Idealize.ShloMosaic Idealize.ShloMosaic.TcCoe Idealize.SL.Sem

/-- A common real factor leaves a sum of products. -/
theorem sum_scale (x : EReal) (h0 : 0 ≤ x) (hx : x ≠ ⊤) (f g : Fin 64 → EReal) : ∑ d, f d * x * g d = (∑ d, f d * g d) * x := by
  have e : ∀ d, f d * x * g d = f d * g d * x := fun d => by rw [mul_assoc, mul_comm x, ← mul_assoc]
  rw [Finset.sum_congr rfl fun d _ => e d]
  exact (Finset.sum_hom_rel (r := fun a b => a = b * x) (by rw [zero_mul]) fun d a b h => by
    rw [h, EReal.right_distrib_of_nonneg_of_ne_top h0 hx])

variable (m : (ℓ : Loc nD τ sig) → Buf (Elt Ideal) ℓ) (c : Dev nD)
  (hf : Pre_finite.fn (F := Ideal) (qa m c) (ka m c) (va m c) (la m c) (ga m c) = fun _ => 1#1)
include hf

/-- Row `r`, lane `l` of what a grid point computes is the reference's entry at the place where the block lies. -/
theorem block_out (t : Fin cfg0.N) (r : Fin 256) (l : Fin 128) (i : Fin 16384) (j : Fin 512)
    (hi : i.val = 8192 * (gb t).val + 256 * (gi t).val + r.val) (hj : j.val = 128 * (gh t).val + l.val) :
    result (F := Ideal) (grid0.coords t) (queries m c t) (keys m c t) (values m c t) (weights m c t) (gains m c t) (ix2 r l)
      = outR (qa m c) (ka m c) (va m c) (la m c) (ga m c) (ix2 i j) := by
  obtain ⟨z, hz⟩ := real_scores _ _ _ _ _ hf (gb t) (gh t) (pos t r)
  obtain ⟨w, hw⟩ := real_values _ _ _ _ _ hf (gb t) (gh t)
  obtain ⟨lam, hl⟩ := real_weight _ _ _ _ _ hf
  have hs : ∀ (e : Fin 2) (κ : ℕ) (hk : κ < 8192),
      ∑ d, queries m c t (ix3 0 r (lane e d)) * keys m c t (ix3 0 ⟨κ, hk⟩ (lane e d)) = (z e κ : EReal) := fun e κ hk => by
    rw [← hz e κ hk, ← sum_scale _ (by rw [scale_eq]; exact_mod_cast (by norm_num : (0 : ℝ) ≤ 1 / 8)) (by rw [scale_eq]; exact EReal.coe_ne_top _)]
    exact Finset.sum_congr rfl fun d _ => congrArg₂ (fun x y : EReal => x * y) (block_q m c t r e d) (block_k m c t ⟨κ, hk⟩ e d)
  have hv : ∀ (x : Fin 128) (κ : ℕ) (hk : κ < 8192), values m c t (ix3 0 ⟨κ, hk⟩ x) = (w x κ : EReal) := fun x κ hk =>
    (block_v m c t ⟨κ, hk⟩ x).trans (hw x κ hk)
  have hp : (fun n x => weights m c t (ix2 n x)) = fun n x => la m c (ix3 0 n x) := funext fun n => funext fun x => block_weights m c t n x
  have hg : (fun x => gains m c t (ix2 0 x)) = fun x => ga m c (ix2 0 x) := funext fun x => block_gains m c t x
  refine (result_apply (grid0.coords t) (queries m c t) (keys m c t) (values m c t) (weights m c t) (gains m c t) r l z w hs hv).trans ?_
  rw [hp, hg]
  exact (outR_apply (qa m c) (ka m c) (va m c) (la m c) (ga m c) i j (gb t) (gh t) (pos t r) l
    (by rw [hi]; show _ = 8192 * (gb t).val + (256 * (gi t).val + r.val); omega) hj z w lam hz hw hl).symm

omit hf in
theorem covers : (cfg0.win 5).Covers :=
  (cfg0.win 5).covers_of_indexMap_surj rfl (by decide) (by decide +kernel)

/-- The array the kernel leaves is the reference's result. -/
theorem array_eq : (dats m 0 c).arrAt 5 cfg0.N = outR (qa m c) (ka m c) (va m c) (la m c) (ga m c) := by
  refine (dats m 0 c).arrAt_eq_of_covers 5 _ covers fun t hf' y => ?_
  blk_simp
  rw [after0_5]
  unfold outsAt0
  rw [out_eq]
  obtain ⟨r, l, rfl⟩ : ∃ (r : Fin 256) (l : Fin 128), y = ix2 r l := ⟨y 0, y 1, by funext a; fin_cases a <;> rfl⟩
  have hb := (gb t).isLt
  have hh := (gh t).isLt
  have hI := (gi t).isLt
  have hr := r.isLt
  have hl := l.isLt
  refine (block_out m c hf t r l ⟨8192 * (gb t).val + 256 * (gi t).val + r.val, by omega⟩ ⟨128 * (gh t).val + l.val, by omega⟩ rfl rfl).trans
    (congrArg (outR (qa m c) (ka m c) (va m c) (la m c) (ga m c)) ?_)
  blk_ext [idx5 t]

end Cert.Da
-- ==== Proof.DaRunBits.lean ====
module

public import proofs.«01_k».proof.Proof.DaLoopBits
public import proofs.«01_k».proof.Proof.Gen.Kernel5.Frame
public import Idealize.ShloMosaic.Lib.Claim
public import Idealize.ShloMosaic.Lib.Pipeline.Value

/-! # Differential attention: the run of the kernel as written -/

@[expose] public section

set_option maxRecDepth 16384

noncomputable section

namespace Cert.DaBits

open Cert.Kernel5 Cert.Kernel5.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the result, through which its contents are read. -/
abbrev VO0_5 : View sig .tc .vmem S256x128 .bf16 := (Memref.whole cc0_stg5_0 : Memref sig .tc .vmem S256x128 .bf16).view

/-- The staging buffer of each window at a point, and that it is a whole buffer. -/
abbrev ms0_0 (t : Fin cfg0.N) : Memref sig .tc .vmem S1x256x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .bf16 := win0_5.stage (cfg0.slots t 5)
abbrev hs0_5 (t : Fin cfg0.N) : (ms0_5 t).IsWhole := hstage0_5 ((cfg0.slots t 5).cast nbuf0_5)

/-- The six scratch buffers: maximum, sum and accumulator of each of the two heads. -/
abbrev scM0_0 : Memref sig .tc .vmem S256x128 .f32 := Memref.whole cc0_scratch0
abbrev scM0_1 : Memref sig .tc .vmem S256x128 .f32 := Memref.whole cc0_scratch1
abbrev scM0_2 : Memref sig .tc .vmem S256x128 .f32 := Memref.whole cc0_scratch2
abbrev scM0_3 : Memref sig .tc .vmem S256x128 .f32 := Memref.whole cc0_scratch3
abbrev scM0_4 : Memref sig .tc .vmem S256x128 .f32 := Memref.whole cc0_scratch4
abbrev scM0_5 : Memref sig .tc .vmem S256x128 .f32 := Memref.whole cc0_scratch5

/-- The scratch buffers and the generator register, as the launch hands them to the body. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

set_option maxHeartbeats 1000000 in
/-- The body on any whole buffers: the inputs stay as they are, the scratch ends at something, and the
    result ends with a list of stores that the run itself finds. -/
noncomputable def kernelRun0_A (c : Dev nD) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole)
    (x0 : Vec F S1x256x128 .bf16) (x1 : Vec F S1x8192x128 .bf16) (x2 : Vec F S1x8192x128 .bf16) (x3 : Vec F S4x64 .f32) (x4 : Vec F S1x128 .f32) :
    { L5 : List (View.Piece (Elt F) S256x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_diffattn i arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_diffattn_eq_skeleton]; unfold cc0_diffattn_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg3.eq_unread hf0; obtain rfl := harg4.eq_unread hf1; obtain rfl := harg5.eq_unread hf2; obtain rfl := harg6.eq_unread hf3; obtain rfl := harg7.eq_unread hf4
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

/-- The stores to the result reach every entry of its block. -/
theorem cover0_A_5 (c : Dev nD) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole)
    (x0 : Vec F S1x256x128 .bf16) (x1 : Vec F S1x8192x128 .bf16) (x2 : Vec F S1x8192x128 .bf16) (x3 : Vec F S4x64 .f32) (x4 : Vec F S1x128 .f32) (y : S256x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 x0 x1 x2 x3 x4).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 x0 x1 x2 x3 x4).1 S256x128.size (by sl_kernel_rfl) y

/-- The block of the result that the body leaves. -/
def out0_A_5 (c : Dev nD) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole)
    (x0 : Vec F S1x256x128 .bf16) (x1 : Vec F S1x8192x128 .bf16) (x2 : Vec F S1x8192x128 .bf16) (x3 : Vec F S4x64 .f32) (x4 : Vec F S1x128 .f32) : Vec F S256x128 .bf16 :=
  VO0_5.read (Elt F) (VO0_5.writes (Elt F) VO0_5.junk (kernelRun0_A c i arg3 harg3 arg4 harg4 arg5 harg5 arg6 harg6 arg7 harg7 arg8 harg8 arg9 harg9 arg10 harg10 arg11 harg11 arg12 harg12 arg13 harg13 arg14 harg14 x0 x1 x2 x3 x4).1)

/-- The block that the body leaves at a point. -/
def outsAt0 (c : Dev nD) (t : Fin cfg0.N) : Vec F S256x128 .bf16 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t)

/-- The data of the launch: the arrays as the region finds them, the inputs left as they are, the result
    as the body leaves it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
  Φ _ := Pipeline.ΦA spec0 c
  q w := Pipeline.shareOf spec0 w
  owed _ := 0

/-- The arrays are those the region finds. -/
theorem A_eq (c : Dev nD) (w : Fin cfg0.W) : (dats m 0 c).A w = V m c (Pipeline.arrRef spec0 w) := by
  dsimp only [dats]

/-- What each window holds after the body. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t) := by dsimp only [dats]

/-- Each input window holds its block before the body. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body starts from. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What the body ends with. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1200000 in
/-- The body, at any point, goes from the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0
  unfold out0_A_5
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, ⟨%e5, H5⟩, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 c _ _ _ _ _ _ _ _ _ _ _ _ _ _ _ _ _ _ _ _ _ _ _ _ _ _ _ _ _ _)

/-- The body called at a point is the body run above. -/
theorem defs₀_row (t : Fin cfg0.N) :
    defs₀ (F := F) .tc cfg0.body (cfg0.bodyArgs t (cfg0.slots t)) = bodyAt0 t := by
  unfold defs₀; rw [Defs.onTc_tc]

/-- The body does what the launch asks of it, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole run ends, with the arrays as the data of the launch say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The whole run ends, with the arrays as the data of the launch say. -/
theorem run_main : θ_run defs (onTc (τ := τ) (main (F := F))) (s₀ m ρ) (Pipeline.FramePost cfgs (dats m) 0 (V m)) :=
  (θ_run defs _ _).mono (fun _ h => h.1) (run_main_quiescent m ρ)

/-- The run leaves the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The run ends, leaves the arguments as they were, and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.DaBits

end
-- ==== Proof.DaClaim.lean ====
/-
  The differential attention's claims about values and about the runs.
-/
module

public import proofs.«01_k».proof.Defs
public import proofs.«01_k».proof.Proof.DaArray
public import proofs.«01_k».proof.Proof.DaRunBits
public import proofs.«01_k».proof.Proof.Gen.Reference5Ideal
public import Idealize.ShloMosaic.Adequacy

@[expose] public section

noncomputable section

namespace Cert.Da

open Idealize.ShloMosaic Idealize.SL.Sem

/-- The reference runs, keeps its arguments, and leaves every counter at zero. -/
theorem quiescent_reference : Cert.quiescent_Reference5Ideal (hReference5Ideal := Cert.Reference5Ideal.Gen.facts) := fun m g _ =>
  (θ_run _ _ _).mono (fun r h => ⟨fun c => (h c).2, Idealize.ShloMosaic.sem_eq_zero_of_no_sems (by decide) r.2⟩)
    (Cert.Reference5Ideal.Value.run m g)

/-- The mask's constant stands for the bottom of the extended reals. -/
theorem preserves : Cert.preserves_Kernel5_Kernel5Ideal :=
  IdealRules.named_const.statement Cert.Kernel5Ideal.κ "mask" .f32 0xF149F2CA#32 ⊥ rfl

/-- On finite queries, keys, values and weight vectors the kernel computes what the reference computes. -/
theorem algebraic : Cert.algebraic_Kernel5Ideal_Reference5Ideal_pre_finite (hKernel5Ideal := Cert.Kernel5Ideal.Gen.facts)
    (hReference5Ideal := Cert.Reference5Ideal.Gen.facts) (hPre_finite := Cert.Pre_finite.Gen.facts) := by
  intro m g m' g' hpre hagree
  refine ⟨fun c => (dats m 0 c).arrAt 5 Cert.Kernel5Ideal.cfg0.N, run_blocks m g,
    (θ_run _ _ _).mono (fun r h c => ⟨?_, (h c).2⟩) (Cert.Reference5Ideal.Value.run m' g')⟩
  obtain ⟨a0, a1, a2, a3, a4⟩ := hagree c
  refine (h c).1.trans ((reference_eq m' c).trans ?_)
  rw [a0, a1, a2, a3, a4]
  exact (array_eq m c (hpre c)).symm

end Cert.Da
-- ==== Proof.IpKernel.lean ====
/-
  The in-projection: what the kernel computes from the blocks it is given. A block of 512 rows is normalised and
  multiplied by the six sections of the weights; the first two sections are normalised head by head and rotated.
-/
module

public import proofs.«01_k».proof.Proof.Gen.Kernel4Ideal.Value
public import Idealize.ShloMosaic.Lib.Pointwise
public import Idealize.ShloMosaic.Lib.Pipeline.ValueKit

@[expose] public section

set_option maxRecDepth 16384

noncomputable section

namespace Cert.Ip

open Cert.Kernel4Ideal Cert.Kernel4Ideal.Gen Idealize.ShloMosaic Idealize.ShloMosaic.TcCoe Idealize.SL.Sem

/-- A section of a block of rows, from the normalised rows and the weights. -/
def tS (H : FVec Ideal S512x1024 .bf16) (x2 : FVec Ideal S1024x3072 .bf16) (s : Fin 6) (r : Fin 512) (j : Fin 512) : EReal :=
  ∑ k : Fin 1024, H (ix2 r k) * x2 (ix2 k ⟨512 * s.val + j.val, by have := s.isLt; have := j.isLt; omega⟩)

/-- A row of one of the first two sections, each head divided by its root mean square, times its gain. The heads are told
    apart by the matrix `x4`; the squares are summed in two parts. -/
def nS (t : Fin 512 → EReal) (x4 : FVec Ideal S512x512 .bf16) (g : EReal) (j : Fin 512) : EReal :=
  t j * Ideal.rsqrt (((∑ k : Fin 512, t k * t k * x4 (ix2 k j)) + ∑ k : Fin 512, (t k * t k - t k * t k) * x4 (ix2 k j)) * Ideal.ofBits .f32 0x3C800000#32
    + Ideal.ofBits .f32 0x358637BD#32) * g

/-- Slab `b` of a row rotated by the tables. -/
def ropeS (n : Fin 512 → EReal) (C A B : FVec Ideal S512x128 .f32) (r : Fin 512) (b : Fin 4) (l : Fin 128) : EReal :=
  n ⟨128 * b.val + l.val, by have := b.isLt; have := l.isLt; omega⟩ * C (ix2 r l)
    + n ⟨128 * b.val + (l.val + 128 - 120) % 128, by have := b.isLt; have := l.isLt; omega⟩ * A (ix2 r l)
    + n ⟨128 * b.val + (l.val + 128 - 8) % 128, by have := b.isLt; have := l.isLt; omega⟩ * B (ix2 r l)

variable (x0 : FVec Ideal S512x1024 .f32) (x1 : FVec Ideal S1x1024 .f32) (x2 : FVec Ideal S1024x3072 .bf16)
  (x3 : FVec Ideal S2x512 .f32) (x4 : FVec Ideal S512x512 .bf16) (x5 x6 x7 : FVec Ideal S512x128 .f32)

/-- A normalised row. -/
theorem pay59_apply (r : Fin 512) (j : Fin 1024) :
    k0_pay59 (F := Ideal) x0 x1 x2 x3 x4 x5 x6 x7 (ix2 r j)
      = x0 (ix2 r j) * Ideal.rsqrt (Ideal.div (∑ k, x0 (ix2 r k) * x0 (ix2 r k)) (Ideal.ofBits .f32 0x44800000#32) + Ideal.ofBits .f32 0x358637BD#32) * x1 (ix2 0 j) := by
  pointwise [k0_pay59, k0_pay2]

/-- The first section's rows, normalised. -/
theorem pay13_apply (r j : Fin 512) :
    k0_pay13 (F := Ideal) (k0_pay63 (F := Ideal) x0 x1 x2 x3 x4 x5 x6 x7) (k0_pay64 (F := Ideal) x0 x1 x2 x3 x4 x5 x6 x7) (k0_pay65 (F := Ideal) x0 x1 x2 x3 x4 x5 x6 x7)
        (k0_pay66 (F := Ideal) x0 x1 x2 x3 x4 x5 x6 x7) (ix2 r j)
      = nS (tS (k0_pay59 (F := Ideal) x0 x1 x2 x3 x4 x5 x6 x7) x2 0 r) x4 (x3 (ix2 0 j)) j := by
  have h : k0_pay2 (F := Ideal) (View.ld x0 r0_0) (View.ld x1 r0_1) = k0_pay59 (F := Ideal) x0 x1 x2 x3 x4 x5 x6 x7 := rfl
  unfold k0_pay63 k0_pay64 k0_pay65 k0_pay66
  unfold k0_pay11 k0_pay12 k0_pay10 k0_pay9 k0_pay7
  rw [h]
  generalize k0_pay59 (F := Ideal) x0 x1 x2 x3 x4 x5 x6 x7 = H
  pointwise [k0_pay13, k0_pay8, k0_pay6]
  simp only [nS, tS, Fin.val_zero, mul_zero, zero_add, Nat.zero_add]

/-- The second section's rows, normalised. -/
theorem pay27_apply (r j : Fin 512) :
    k0_pay27 (F := Ideal) (k0_pay67 (F := Ideal) x0 x1 x2 x3 x4 x5 x6 x7) (k0_pay68 (F := Ideal) x0 x1 x2 x3 x4 x5 x6 x7) (k0_pay69 (F := Ideal) x0 x1 x2 x3 x4 x5 x6 x7)
        (k0_pay70 (F := Ideal) x0 x1 x2 x3 x4 x5 x6 x7) (ix2 r j)
      = nS (tS (k0_pay59 (F := Ideal) x0 x1 x2 x3 x4 x5 x6 x7) x2 1 r) x4 (x3 (ix2 1 j)) j := by
  unfold k0_pay67 k0_pay68 k0_pay69 k0_pay70
  generalize k0_pay59 (F := Ideal) x0 x1 x2 x3 x4 x5 x6 x7 = H
  pointwise [k0_pay27, k0_pay23, k0_pay24, k0_pay25, k0_pay26, k0_pay6]
  rfl

section
variable (C A B : FVec Ideal S512x128 .f32)

section
variable (v27 : FVec Ideal S512x512 .f32) (v29 : FVec Ideal S1x512 .f32) (v35 v36 : FVec Ideal S512x512 .f32) (r : Fin 512) (l : Fin 128)

theorem query0 : k0_pay19 (F := Ideal) (k0_pay14 (F := Ideal) C A B v27 v29 v35 v36) (ix3 0 r l)
    = ropeS (fun j => k0_pay13 (F := Ideal) v27 v29 v35 v36 (ix2 r j)) C A B r 0 l * Ideal.ofBits .f32 0x3E000000#32 := by
  unfold k0_pay14
  generalize k0_pay13 (F := Ideal) v27 v29 v35 v36 = N
  pointwise [k0_pay19]
  simp only [ropeS, tS, Fin.val_zero, mul_zero, zero_add, Nat.zero_add]

theorem query1 : k0_pay20 (F := Ideal) (k0_pay15 (F := Ideal) C A B v27 v29 v35 v36) (ix3 0 r l)
    = ropeS (fun j => k0_pay13 (F := Ideal) v27 v29 v35 v36 (ix2 r j)) C A B r 1 l * Ideal.ofBits .f32 0x3E000000#32 := by
  unfold k0_pay15
  generalize k0_pay13 (F := Ideal) v27 v29 v35 v36 = N
  pointwise [k0_pay20]
  rfl

theorem query2 : k0_pay21 (F := Ideal) (k0_pay16 (F := Ideal) C A B v27 v29 v35 v36) (ix3 0 r l)
    = ropeS (fun j => k0_pay13 (F := Ideal) v27 v29 v35 v36 (ix2 r j)) C A B r 2 l * Ideal.ofBits .f32 0x3E000000#32 := by
  unfold k0_pay16
  generalize k0_pay13 (F := Ideal) v27 v29 v35 v36 = N
  pointwise [k0_pay21]
  rfl

theorem query3 : k0_pay22 (F := Ideal) B (k0_pay17 (F := Ideal) v27 v29 v35 v36) (k0_pay18 (F := Ideal) C A v27 v29 v35 v36) 8#32 (ix3 0 r l)
    = ropeS (fun j => k0_pay13 (F := Ideal) v27 v29 v35 v36 (ix2 r j)) C A B r 3 l * Ideal.ofBits .f32 0x3E000000#32 := by
  unfold k0_pay18 k0_pay17
  generalize k0_pay13 (F := Ideal) v27 v29 v35 v36 = N
  pointwise [k0_pay22]
  rfl

theorem key0 : k0_pay32 (F := Ideal) (k0_pay28 (F := Ideal) C A B v27 v29 v35 v36) (ix3 0 r l)
    = ropeS (fun j => k0_pay27 (F := Ideal) v27 v29 v35 v36 (ix2 r j)) C A B r 0 l * Ideal.ofBits .f32 0x3F800000#32 := by
  unfold k0_pay28
  generalize k0_pay27 (F := Ideal) v27 v29 v35 v36 = N
  pointwise [k0_pay32]
  simp only [ropeS, tS, Fin.val_zero, mul_zero, zero_add, Nat.zero_add]

theorem key1 : k0_pay33 (F := Ideal) (k0_pay29 (F := Ideal) C A B v27 v29 v35 v36) (ix3 0 r l)
    = ropeS (fun j => k0_pay27 (F := Ideal) v27 v29 v35 v36 (ix2 r j)) C A B r 1 l * Ideal.ofBits .f32 0x3F800000#32 := by
  unfold k0_pay29
  generalize k0_pay27 (F := Ideal) v27 v29 v35 v36 = N
  pointwise [k0_pay33]
  rfl

theorem key2 : k0_pay34 (F := Ideal) (k0_pay30 (F := Ideal) C A B v27 v29 v35 v36) (ix3 0 r l)
    = ropeS (fun j => k0_pay27 (F := Ideal) v27 v29 v35 v36 (ix2 r j)) C A B r 2 l * Ideal.ofBits .f32 0x3F800000#32 := by
  unfold k0_pay30
  generalize k0_pay27 (F := Ideal) v27 v29 v35 v36 = N
  pointwise [k0_pay34]
  rfl

theorem key3 : k0_pay35 (F := Ideal) (k0_pay31 (F := Ideal) C A B v27 v29 v35 v36) (ix3 0 r l)
    = ropeS (fun j => k0_pay27 (F := Ideal) v27 v29 v35 v36 (ix2 r j)) C A B r 3 l * Ideal.ofBits .f32 0x3F800000#32 := by
  unfold k0_pay31
  generalize k0_pay27 (F := Ideal) v27 v29 v35 v36 = N
  pointwise [k0_pay35]
  rfl

end

end

section
variable (H : FVec Ideal S512x1024 .bf16) (r : Fin 512) (l : Fin 128)

theorem plain8 : k0_pay37 (F := Ideal) H (View.ld x2 r0_16) (ix3 0 r l)
    = tS H x2 2 r ⟨128 * 0 + l.val, by have := l.isLt; omega⟩ * Ideal.ofBits .f32 0x3F800000#32 := by
  pointwise [k0_pay37, k0_pay36]
  simp only [ropeS, tS, Fin.val_zero, mul_zero, zero_add, Nat.zero_add]
  rfl

theorem plain9 : k0_pay38 (F := Ideal) H (View.ld x2 r0_16) (ix3 0 r l)
    = tS H x2 2 r ⟨128 * 1 + l.val, by have := l.isLt; omega⟩ * Ideal.ofBits .f32 0x3F800000#32 := by
  pointwise [k0_pay38, k0_pay36]
  rfl

theorem plain10 : k0_pay40 (F := Ideal) (k0_pay39 (F := Ideal) H (View.ld x2 r0_16)) (ix3 0 r l)
    = tS H x2 2 r ⟨128 * 2 + l.val, by have := l.isLt; omega⟩ * Ideal.ofBits .f32 0x3F800000#32 := by
  pointwise [k0_pay40, k0_pay39, k0_pay36]
  rfl

theorem plain11 : k0_pay41 (F := Ideal) (k0_pay36 (F := Ideal) H (View.ld x2 r0_16)) (ix3 0 r l)
    = tS H x2 2 r ⟨128 * 3 + l.val, by have := l.isLt; omega⟩ * Ideal.ofBits .f32 0x3F800000#32 := by
  pointwise [k0_pay41, k0_pay36]
  rfl

theorem plain12 : k0_pay43 (F := Ideal) H (View.ld x2 r0_21) (ix3 0 r l)
    = tS H x2 3 r ⟨128 * 0 + l.val, by have := l.isLt; omega⟩ * Ideal.ofBits .f32 0x3E000000#32 := by
  pointwise [k0_pay43, k0_pay42]
  simp only [ropeS, tS, Fin.val_zero, mul_zero, zero_add, Nat.zero_add]
  rfl

theorem plain13 : k0_pay44 (F := Ideal) H (View.ld x2 r0_21) (ix3 0 r l)
    = tS H x2 3 r ⟨128 * 1 + l.val, by have := l.isLt; omega⟩ * Ideal.ofBits .f32 0x3E000000#32 := by
  pointwise [k0_pay44, k0_pay42]
  rfl

theorem plain14 : k0_pay46 (F := Ideal) (k0_pay45 (F := Ideal) H (View.ld x2 r0_21)) (ix3 0 r l)
    = tS H x2 3 r ⟨128 * 2 + l.val, by have := l.isLt; omega⟩ * Ideal.ofBits .f32 0x3E000000#32 := by
  pointwise [k0_pay46, k0_pay45, k0_pay42]
  rfl

theorem plain15 : k0_pay47 (F := Ideal) (k0_pay42 (F := Ideal) H (View.ld x2 r0_21)) (ix3 0 r l)
    = tS H x2 3 r ⟨128 * 3 + l.val, by have := l.isLt; omega⟩ * Ideal.ofBits .f32 0x3E000000#32 := by
  pointwise [k0_pay47, k0_pay42]
  rfl

theorem plain16 : k0_pay49 (F := Ideal) H (View.ld x2 r0_26) (ix3 0 r l)
    = tS H x2 4 r ⟨128 * 0 + l.val, by have := l.isLt; omega⟩ * Ideal.ofBits .f32 0x3F800000#32 := by
  pointwise [k0_pay49, k0_pay48]
  simp only [ropeS, tS, Fin.val_zero, mul_zero, zero_add, Nat.zero_add]
  rfl

theorem plain17 : k0_pay50 (F := Ideal) H (View.ld x2 r0_26) (ix3 0 r l)
    = tS H x2 4 r ⟨128 * 1 + l.val, by have := l.isLt; omega⟩ * Ideal.ofBits .f32 0x3F800000#32 := by
  pointwise [k0_pay50, k0_pay48]
  rfl

theorem plain18 : k0_pay51 (F := Ideal) H (View.ld x2 r0_26) (ix3 0 r l)
    = tS H x2 4 r ⟨128 * 2 + l.val, by have := l.isLt; omega⟩ * Ideal.ofBits .f32 0x3F800000#32 := by
  pointwise [k0_pay51, k0_pay48]
  rfl

theorem plain19 : k0_pay53 (F := Ideal) (k0_pay52 (F := Ideal) H (View.ld x2 r0_26)) (ix3 0 r l)
    = tS H x2 4 r ⟨128 * 3 + l.val, by have := l.isLt; omega⟩ * Ideal.ofBits .f32 0x3F800000#32 := by
  pointwise [k0_pay53, k0_pay52, k0_pay48]
  rfl

theorem plain20 : k0_pay55 (F := Ideal) H (View.ld x2 r0_31) (ix3 0 r l)
    = tS H x2 5 r ⟨128 * 0 + l.val, by have := l.isLt; omega⟩ * Ideal.ofBits .f32 0x3F800000#32 := by
  pointwise [k0_pay55, k0_pay54]
  simp only [ropeS, tS, Fin.val_zero, mul_zero, zero_add, Nat.zero_add]
  rfl

theorem plain21 : k0_pay56 (F := Ideal) H (View.ld x2 r0_31) (ix3 0 r l)
    = tS H x2 5 r ⟨128 * 1 + l.val, by have := l.isLt; omega⟩ * Ideal.ofBits .f32 0x3F800000#32 := by
  pointwise [k0_pay56, k0_pay54]
  rfl

theorem plain22 : k0_pay57 (F := Ideal) H (View.ld x2 r0_31) (ix3 0 r l)
    = tS H x2 5 r ⟨128 * 2 + l.val, by have := l.isLt; omega⟩ * Ideal.ofBits .f32 0x3F800000#32 := by
  pointwise [k0_pay57, k0_pay54]
  rfl

theorem plain23 : k0_pay1 (F := Ideal) (k0_pay58 (F := Ideal) H (View.ld x2 r0_31)) (ix3 0 r l)
    = tS H x2 5 r ⟨128 * 3 + l.val, by have := l.isLt; omega⟩ * Ideal.ofBits .f32 0x3F800000#32 := by
  pointwise [k0_pay1, k0_pay58, k0_pay54]
  rfl

end

/-- The body's result at slab `s`, row `r`, lane `l`. -/
def outS (s : Fin 24) (r : Fin 512) (l : Fin 128) : EReal :=
  if s.val < 4 then ropeS (fun j => nS (tS (k0_pay59 (F := Ideal) x0 x1 x2 x3 x4 x5 x6 x7) x2 0 r) x4 (x3 (ix2 0 j)) j) x5 x6 x7 r ⟨s.val % 4, by omega⟩ l * Ideal.ofBits .f32 0x3E000000#32
  else if s.val < 8 then ropeS (fun j => nS (tS (k0_pay59 (F := Ideal) x0 x1 x2 x3 x4 x5 x6 x7) x2 1 r) x4 (x3 (ix2 1 j)) j) x5 x6 x7 r ⟨s.val % 4, by omega⟩ l * Ideal.ofBits .f32 0x3F800000#32
  else tS (k0_pay59 (F := Ideal) x0 x1 x2 x3 x4 x5 x6 x7) x2 ⟨s.val / 4, by have := s.isLt; omega⟩ r ⟨128 * (s.val % 4) + l.val, by have := l.isLt; omega⟩
    * (if s.val / 4 = 3 then Ideal.ofBits .f32 0x3E000000#32 else Ideal.ofBits .f32 0x3F800000#32)

theorem table5 : k0_pay60 (F := Ideal) x0 x1 x2 x3 x4 x5 x6 x7 = x5 := by
  funext y
  obtain ⟨r, l, rfl⟩ : ∃ (r : Fin 512) (l : Fin 128), y = ix2 r l := ⟨y 0, y 1, by funext a; fin_cases a <;> rfl⟩
  pointwise [k0_pay60, k0_pay3]

theorem table6 : k0_pay61 (F := Ideal) x0 x1 x2 x3 x4 x5 x6 x7 = x6 := by
  funext y
  obtain ⟨r, l, rfl⟩ : ∃ (r : Fin 512) (l : Fin 128), y = ix2 r l := ⟨y 0, y 1, by funext a; fin_cases a <;> rfl⟩
  pointwise [k0_pay61, k0_pay4]

theorem table7 : k0_pay62 (F := Ideal) x0 x1 x2 x3 x4 x5 x6 x7 = x7 := by
  funext y
  obtain ⟨r, l, rfl⟩ : ∃ (r : Fin 512) (l : Fin 128), y = ix2 r l := ⟨y 0, y 1, by funext a; fin_cases a <;> rfl⟩
  pointwise [k0_pay62, k0_pay5]

/-- A store of slab `s` puts its entries at the slab's place. -/
theorem piece {g : Fin 24 → Fin 512 → Fin 128 → EReal} {p : FVec Ideal S1x512x128 .bf16} (x : S1x512x128.Idx) {s : Fin 24}
    (h : ∀ (r : Fin 512) (l : Fin 128), p (ix3 0 r l) = g s r l) {a : Fin 24} {b : Fin 512} {d : Fin 128} (ha : a.val = s.val + 1 * (x 0 : Fin 1).val)
    (hb : b.val = 0 + 1 * (x 1 : Fin 512).val) (hd : d.val = 0 + 1 * (x 2 : Fin 128).val) : p x = g a b d := by
  obtain ⟨z, n, r, rfl⟩ : ∃ (z : Fin 1) (n : Fin 512) (r : Fin 128), x = ix3 z n r := ⟨x 0, x 1, x 2, by funext a; fin_cases a <;> rfl⟩
  have hz : z = 0 := Subsingleton.elim _ _
  subst hz
  obtain rfl : b = n := Fin.ext (by rw [hb]; show 0 + 1 * n.val = _; omega)
  obtain rfl : d = r := Fin.ext (by rw [hd]; show 0 + 1 * r.val = _; omega)
  obtain rfl : a = s := Fin.ext (by rw [ha]; show s.val + 1 * 0 = _; omega)
  rw [h]

/-- All the slabs, as the body stores them. -/
theorem out8_apply (s : Fin 24) (r : Fin 512) (l : Fin 128) :
    out0_8 (F := Ideal) x0 x1 x2 x3 x4 x5 x6 x7 (ix3 s r l) = outS x0 x1 x2 x3 x4 x5 x6 x7 s r l := by
  unfold out0_8
  refine (View.canon_apply_of_pieces (fun y => outS x0 x1 x2 x3 x4 x5 x6 x7 (y 0) (y 1) (y 2)) _ ?_ _ (cover0_8 ..)).trans rfl
  rw [table5, table6, table7]
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl
  · exact piece (g := outS x0 x1 x2 x3 x4 x5 x6 x7) (s := 23) x (fun r l => plain23 x2 _ r l) rfl rfl rfl
  · exact piece (g := outS x0 x1 x2 x3 x4 x5 x6 x7) (s := 22) x (fun r l => plain22 x2 _ r l) rfl rfl rfl
  · exact piece (g := outS x0 x1 x2 x3 x4 x5 x6 x7) (s := 21) x (fun r l => plain21 x2 _ r l) rfl rfl rfl
  · exact piece (g := outS x0 x1 x2 x3 x4 x5 x6 x7) (s := 20) x (fun r l => plain20 x2 _ r l) rfl rfl rfl
  · exact piece (g := outS x0 x1 x2 x3 x4 x5 x6 x7) (s := 19) x (fun r l => plain19 x2 _ r l) rfl rfl rfl
  · exact piece (g := outS x0 x1 x2 x3 x4 x5 x6 x7) (s := 18) x (fun r l => plain18 x2 _ r l) rfl rfl rfl
  · exact piece (g := outS x0 x1 x2 x3 x4 x5 x6 x7) (s := 17) x (fun r l => plain17 x2 _ r l) rfl rfl rfl
  · exact piece (g := outS x0 x1 x2 x3 x4 x5 x6 x7) (s := 16) x (fun r l => plain16 x2 _ r l) rfl rfl rfl
  · exact piece (g := outS x0 x1 x2 x3 x4 x5 x6 x7) (s := 15) x (fun r l => plain15 x2 _ r l) rfl rfl rfl
  · exact piece (g := outS x0 x1 x2 x3 x4 x5 x6 x7) (s := 14) x (fun r l => plain14 x2 _ r l) rfl rfl rfl
  · exact piece (g := outS x0 x1 x2 x3 x4 x5 x6 x7) (s := 13) x (fun r l => plain13 x2 _ r l) rfl rfl rfl
  · exact piece (g := outS x0 x1 x2 x3 x4 x5 x6 x7) (s := 12) x (fun r l => plain12 x2 _ r l) rfl rfl rfl
  · exact piece (g := outS x0 x1 x2 x3 x4 x5 x6 x7) (s := 11) x (fun r l => plain11 x2 _ r l) rfl rfl rfl
  · exact piece (g := outS x0 x1 x2 x3 x4 x5 x6 x7) (s := 10) x (fun r l => plain10 x2 _ r l) rfl rfl rfl
  · exact piece (g := outS x0 x1 x2 x3 x4 x5 x6 x7) (s := 9) x (fun r l => plain9 x2 _ r l) rfl rfl rfl
  · exact piece (g := outS x0 x1 x2 x3 x4 x5 x6 x7) (s := 8) x (fun r l => plain8 x2 _ r l) rfl rfl rfl
  · exact piece (g := outS x0 x1 x2 x3 x4 x5 x6 x7) (s := 7) x (fun r l => (key3 x5 x6 x7 _ _ _ _ r l).trans (by simp only [pay27_apply]; rfl)) rfl rfl rfl
  · exact piece (g := outS x0 x1 x2 x3 x4 x5 x6 x7) (s := 6) x (fun r l => (key2 x5 x6 x7 _ _ _ _ r l).trans (by simp only [pay27_apply]; rfl)) rfl rfl rfl
  · exact piece (g := outS x0 x1 x2 x3 x4 x5 x6 x7) (s := 5) x (fun r l => (key1 x5 x6 x7 _ _ _ _ r l).trans (by simp only [pay27_apply]; rfl)) rfl rfl rfl
  · exact piece (g := outS x0 x1 x2 x3 x4 x5 x6 x7) (s := 4) x (fun r l => (key0 x5 x6 x7 _ _ _ _ r l).trans (by simp only [pay27_apply]; rfl)) rfl rfl rfl
  · exact piece (g := outS x0 x1 x2 x3 x4 x5 x6 x7) (s := 3) x (fun r l => (query3 x5 x6 x7 _ _ _ _ r l).trans (by simp only [pay13_apply]; rfl)) rfl rfl rfl
  · exact piece (g := outS x0 x1 x2 x3 x4 x5 x6 x7) (s := 2) x (fun r l => (query2 x5 x6 x7 _ _ _ _ r l).trans (by simp only [pay13_apply]; rfl)) rfl rfl rfl
  · exact piece (g := outS x0 x1 x2 x3 x4 x5 x6 x7) (s := 1) x (fun r l => (query1 x5 x6 x7 _ _ _ _ r l).trans (by simp only [pay13_apply]; rfl)) rfl rfl rfl
  · exact piece (g := outS x0 x1 x2 x3 x4 x5 x6 x7) (s := 0) x (fun r l => (query0 x5 x6 x7 _ _ _ _ r l).trans (by simp only [pay13_apply]; rfl)) rfl rfl rfl

end Cert.Ip
-- ==== Proof.IpReference.lean ====
/-
  The in-projection's reference read at an entry: the rows normalised, their product with the weights, the first two
  sections' heads normalised and rotated, the sections laid out in slabs of 128.
-/
module

public import proofs.«01_k».proof.Proof.Gen.Reference4Ideal.Run
public import Idealize.ShloMosaic.Lib.Pointwise
public import Idealize.ShloMosaic.Lib.StableHlo.ReadAt

@[expose] public section

set_option maxRecDepth 16384

noncomputable section

namespace Cert.Ip

open Cert.Reference4Ideal Cert.Reference4Ideal.Gen Idealize.ShloMosaic Idealize.ShloMosaic.TcCoe Idealize.SL.Sem

/-- A row divided by its root mean square, times a gain. -/
def rowNorm (x g : Fin 1024 → EReal) (j : Fin 1024) : EReal :=
  x j * Ideal.rsqrt (Ideal.div (∑ k, x k * x k) (Ideal.ofBits .f32 0x44800000#32) + Ideal.ofBits .f32 0x358637BD#32) * g j

/-- A head divided by its root mean square, times a gain. -/
def headNorm (t g : Fin 64 → EReal) (d : Fin 64) : EReal :=
  t d * Ideal.rsqrt (Ideal.div (∑ k, t k * t k) (Ideal.ofBits .f32 0x42800000#32) + Ideal.ofBits .f32 0x358637BD#32) * g d

/-- The first eight entries of a head against the next eight, rotated; the others as they are. -/
def turn (n : Fin 64 → EReal) (C S : Fin 8 → EReal) (d : Fin 64) : EReal :=
  if h : d.val < 8 then n d * C ⟨d.val, h⟩ - n ⟨8 + d.val, by omega⟩ * S ⟨d.val, h⟩
  else if h2 : d.val < 16 then n d * C ⟨d.val - 8, by omega⟩ + n ⟨d.val - 8, by omega⟩ * S ⟨d.val - 8, by omega⟩
  else n d

/-- The angles' cosines and sines. -/
def cosR : FVec Ideal S8192x8 .f32 := (Host.cos (mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.divf (broadcastInDim S8 ![] bcast_S_S8 (constant S_ .f32 0x3F800000#32)) (Host.powf (broadcastInDim S8 ![] bcast_S_S8 (constant S_ .f32 0x48F42400#32)) (Host.divf (addf (broadcastInDim S8 ![] bcast_S_S8 (constant S_ .f32 0x00000000#32)) (mulf (broadcastInDim S8 ![] bcast_S_S8 (constant S_ .f32 0x40000000#32)) (sitofp .f32 (iotaInDim S8 32 0)))) (broadcastInDim S8 ![] bcast_S_S8 (constant S_ .f32 0x41800000#32)))))))))
def sinR : FVec Ideal S8192x8 .f32 := (Host.sin (mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.divf (broadcastInDim S8 ![] bcast_S_S8 (constant S_ .f32 0x3F800000#32)) (Host.powf (broadcastInDim S8 ![] bcast_S_S8 (constant S_ .f32 0x48F42400#32)) (Host.divf (addf (broadcastInDim S8 ![] bcast_S_S8 (constant S_ .f32 0x00000000#32)) (mulf (broadcastInDim S8 ![] bcast_S_S8 (constant S_ .f32 0x40000000#32)) (sitofp .f32 (iotaInDim S8 32 0)))) (broadcastInDim S8 ![] bcast_S_S8 (constant S_ .f32 0x41800000#32)))))))))

variable (X : FVec Ideal S2x8192x1024 .f32) (G : FVec Ideal S1x1024 .f32) (W : FVec Ideal S1x1024x3072 .f32) (Q : FVec Ideal S1x2x64 .f32)

def hR : FVec Ideal S2x8192x1024 .f32 := (mulf (mulf X (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf X X) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ G shapeCasts_S1x1024_S1024))))

theorem hR_apply (b : Fin 2) (p : Fin 8192) (j : Fin 1024) :
    hR X G (ix3 b p j) = rowNorm (fun k => X (ix3 b p k)) (fun k => G (ix2 0 k)) j := by
  pointwise [hR]
  rfl

/-- A row of the product. -/
def proj (b : Fin 2) (p : Fin 8192) (j : Fin 3072) : EReal :=
  ∑ k, rowNorm (fun k => X (ix3 b p k)) (fun k => G (ix2 0 k)) k * W (ix3 0 k j)

def projR : FVec Ideal S2x8192x3072 .f32 := (Host.dotGeneral dot_S2x8192x1024_S1024x3072_S2x8192x3072_2_0_01_1_n_n none (hR X G) (shapeCast _ W shapeCasts_S1x1024x3072_S1024x3072))

theorem projR_apply (b : Fin 2) (p : Fin 8192) (j : Fin 3072) : projR X G W (ix3 b p j) = proj X G W b p j := by
  pointwise [projR]
  simp only [hR_apply]
  rfl

section
variable (P : FVec Ideal S2x8192x3072 .f32)

/-- The first section's heads and the second's, normalised. -/
def queryR : FVec Ideal S2x8192x8x64 .f32 := (mulf (mulf (shapeCast _ (extractStridedSlice S2x8192x512 ![0, 0, 0] P slices_S2x8192x3072_S2x8192x512_0_0_0) shapeCasts_S2x8192x512_S2x8192x8x64) (broadcastInDim S2x8192x8x64 ![0, 1, 2, 3] bcast_S2x8192x8x1_S2x8192x8x64_0_1_2_3 (Host.rsqrt (addf (Host.divf (broadcastInDim S2x8192x8x1 ![0, 1, 2] bcast_S2x8192x8_S2x8192x8x1_0_1_2 (Host.reduceAdd (mulf (shapeCast _ (extractStridedSlice S2x8192x512 ![0, 0, 0] P slices_S2x8192x3072_S2x8192x512_0_0_0) shapeCasts_S2x8192x512_S2x8192x8x64) (shapeCast _ (extractStridedSlice S2x8192x512 ![0, 0, 0] P slices_S2x8192x3072_S2x8192x512_0_0_0) shapeCasts_S2x8192x512_S2x8192x8x64)) (constant S_ .f32 0x00000000#32) reducesTo_S2x8192x8x64_S2x8192x8_d3 h_S_)) (broadcastInDim S2x8192x8x1 ![] bcast_S_S2x8192x8x1 (constant S_ .f32 0x42800000#32))) (broadcastInDim S2x8192x8x1 ![] bcast_S_S2x8192x8x1 (constant S_ .f32 0x358637BD#32)))))) (broadcastInDim S2x8192x8x64 ![0, 1, 2, 3] bcast_S1x1x1x64_S2x8192x8x64_0_1_2_3 (broadcastInDim S1x1x1x64 ![3] bcast_S64_S1x1x1x64_3 (shapeCast _ (extractStridedSlice S1x1x64 ![0, 0, 0] Q slices_S1x2x64_S1x1x64_0_0_0) shapeCasts_S1x1x64_S64))))
def keyR : FVec Ideal S2x8192x8x64 .f32 := (mulf (mulf (shapeCast _ (extractStridedSlice S2x8192x512 ![0, 0, 512] P slices_S2x8192x3072_S2x8192x512_0_0_512) shapeCasts_S2x8192x512_S2x8192x8x64) (broadcastInDim S2x8192x8x64 ![0, 1, 2, 3] bcast_S2x8192x8x1_S2x8192x8x64_0_1_2_3 (Host.rsqrt (addf (Host.divf (broadcastInDim S2x8192x8x1 ![0, 1, 2] bcast_S2x8192x8_S2x8192x8x1_0_1_2 (Host.reduceAdd (mulf (shapeCast _ (extractStridedSlice S2x8192x512 ![0, 0, 512] P slices_S2x8192x3072_S2x8192x512_0_0_512) shapeCasts_S2x8192x512_S2x8192x8x64) (shapeCast _ (extractStridedSlice S2x8192x512 ![0, 0, 512] P slices_S2x8192x3072_S2x8192x512_0_0_512) shapeCasts_S2x8192x512_S2x8192x8x64)) (constant S_ .f32 0x00000000#32) reducesTo_S2x8192x8x64_S2x8192x8_d3 h_S_)) (broadcastInDim S2x8192x8x1 ![] bcast_S_S2x8192x8x1 (constant S_ .f32 0x42800000#32))) (broadcastInDim S2x8192x8x1 ![] bcast_S_S2x8192x8x1 (constant S_ .f32 0x358637BD#32)))))) (broadcastInDim S2x8192x8x64 ![0, 1, 2, 3] bcast_S1x1x1x64_S2x8192x8x64_0_1_2_3 (broadcastInDim S1x1x1x64 ![3] bcast_S64_S1x1x1x64_3 (shapeCast _ (extractStridedSlice S1x1x64 ![0, 1, 0] Q slices_S1x2x64_S1x1x64_0_1_0) shapeCasts_S1x1x64_S64))))

theorem queryR_apply (b : Fin 2) (p : Fin 8192) (h : Fin 8) (d : Fin 64) :
    queryR Q P (ix4 b p h d) = headNorm (fun k => P (ix3 b p ⟨h.val * 64 + k.val, by have := h.isLt; have := k.isLt; omega⟩)) (fun k => Q (ix3 0 0 k)) d := by
  pointwise [queryR]
  rfl

theorem keyR_apply (b : Fin 2) (p : Fin 8192) (h : Fin 8) (d : Fin 64) :
    keyR Q P (ix4 b p h d) = headNorm (fun k => P (ix3 b p ⟨512 + (h.val * 64 + k.val), by have := h.isLt; have := k.isLt; omega⟩)) (fun k => Q (ix3 0 1 k)) d := by
  pointwise [keyR]
  rfl

/-- The heads rotated. -/
def turnR (N : FVec Ideal S2x8192x8x64 .f32) (C S : FVec Ideal S8192x8 .f32) : FVec Ideal S2x8192x8x64 .f32 := ((concatenate S2x8192x8x64 3 [⟨S2x8192x8x8, ((subf (mulf (extractStridedSlice S2x8192x8x8 ![0, 0, 0, 0] N slices_S2x8192x8x64_S2x8192x8x8_0_0_0_0) (broadcastInDim S2x8192x8x8 ![0, 1, 2, 3] bcast_S1x8192x1x8_S2x8192x8x8_0_1_2_3 (broadcastInDim S1x8192x1x8 ![1, 2, 3] bcast_S8192x1x8_S1x8192x1x8_1_2_3 (broadcastInDim S8192x1x8 ![0, 2] bcast_S8192x8_S8192x1x8_0_2 C)))) (mulf (extractStridedSlice S2x8192x8x8 ![0, 0, 0, 8] N slices_S2x8192x8x64_S2x8192x8x8_0_0_0_8) (broadcastInDim S2x8192x8x8 ![0, 1, 2, 3] bcast_S1x8192x1x8_S2x8192x8x8_0_1_2_3 (broadcastInDim S1x8192x1x8 ![1, 2, 3] bcast_S8192x1x8_S1x8192x1x8_1_2_3 (broadcastInDim S8192x1x8 ![0, 2] bcast_S8192x8_S8192x1x8_0_2 S))))) : (⟨S2x8192x8x8, .f32⟩ : BufTy).Contents (Elt Ideal))⟩, ⟨S2x8192x8x8, ((addf (mulf (extractStridedSlice S2x8192x8x8 ![0, 0, 0, 8] N slices_S2x8192x8x64_S2x8192x8x8_0_0_0_8) (broadcastInDim S2x8192x8x8 ![0, 1, 2, 3] bcast_S1x8192x1x8_S2x8192x8x8_0_1_2_3 (broadcastInDim S1x8192x1x8 ![1, 2, 3] bcast_S8192x1x8_S1x8192x1x8_1_2_3 (broadcastInDim S8192x1x8 ![0, 2] bcast_S8192x8_S8192x1x8_0_2 C)))) (mulf (extractStridedSlice S2x8192x8x8 ![0, 0, 0, 0] N slices_S2x8192x8x64_S2x8192x8x8_0_0_0_0) (broadcastInDim S2x8192x8x8 ![0, 1, 2, 3] bcast_S1x8192x1x8_S2x8192x8x8_0_1_2_3 (broadcastInDim S1x8192x1x8 ![1, 2, 3] bcast_S8192x1x8_S1x8192x1x8_1_2_3 (broadcastInDim S8192x1x8 ![0, 2] bcast_S8192x8_S8192x1x8_0_2 S))))) : (⟨S2x8192x8x8, .f32⟩ : BufTy).Contents (Elt Ideal))⟩, ⟨S2x8192x8x48, ((extractStridedSlice S2x8192x8x48 ![0, 0, 0, 16] N slices_S2x8192x8x64_S2x8192x8x48_0_0_0_16) : (⟨S2x8192x8x48, .f32⟩ : BufTy).Contents (Elt Ideal))⟩] concatenates_S2x8192x8x8_S2x8192x8x8_S2x8192x8x48_S2x8192x8x64_d3 : (⟨S2x8192x8x64, .f32⟩ : BufTy).Contents (Elt Ideal)))

theorem turnR_apply (N : FVec Ideal S2x8192x8x64 .f32) (C S : FVec Ideal S8192x8 .f32) (b : Fin 2) (p : Fin 8192) (h : Fin 8) (d : Fin 64) :
    turnR N C S (ix4 b p h d) = turn (fun k => N (ix4 b p h k)) (fun k => C (ix2 p k)) (fun k => S (ix2 p k)) d := by
  pointwise [turnR]
  unfold turn
  by_cases c1 : d.val < 8
  · rw [dif_pos c1, dif_pos c1]
    try rfl
  rw [dif_neg c1, dif_neg c1]
  by_cases c2 : d.val < 16
  · rw [dif_pos (show d.val - 8 < 8 by omega), dif_pos c2]
    exact congrArg (fun x => N (ix4 b p h x) * _ + _) (Fin.ext (by dsimp only; omega))
  · rw [dif_neg (show ¬ d.val - 8 < 8 by omega), dif_neg c2]
    exact congrArg (fun x => N (ix4 b p h x)) (Fin.ext (by dsimp only; omega))

/-- The six sections side by side, in slabs of 128. -/
def joinR (R0 R1 : FVec Ideal S2x8192x8x64 .f32) : FVec Ideal S24x16384x128 .bf16 := truncf .bf16 (transpose S24x16384x128 [1, 0, 2] (shapeCast _ ((concatenate S2x8192x3072 2 [⟨S2x8192x512, ((shapeCast _ (mulf R0 (broadcastInDim S2x8192x8x64 ![] bcast_S_S2x8192x8x64 (constant S_ .f32 0x3E000000#32))) shapeCasts_S2x8192x8x64_S2x8192x512) : (⟨S2x8192x512, .f32⟩ : BufTy).Contents (Elt Ideal))⟩, ⟨S2x8192x512, ((shapeCast _ R1 shapeCasts_S2x8192x8x64_S2x8192x512) : (⟨S2x8192x512, .f32⟩ : BufTy).Contents (Elt Ideal))⟩, ⟨S2x8192x512, ((extractStridedSlice S2x8192x512 ![0, 0, 1024] P slices_S2x8192x3072_S2x8192x512_0_0_1024) : (⟨S2x8192x512, .f32⟩ : BufTy).Contents (Elt Ideal))⟩, ⟨S2x8192x512, ((mulf (extractStridedSlice S2x8192x512 ![0, 0, 1536] P slices_S2x8192x3072_S2x8192x512_0_0_1536) (broadcastInDim S2x8192x512 ![] bcast_S_S2x8192x512 (constant S_ .f32 0x3E000000#32))) : (⟨S2x8192x512, .f32⟩ : BufTy).Contents (Elt Ideal))⟩, ⟨S2x8192x512, ((extractStridedSlice S2x8192x512 ![0, 0, 2048] P slices_S2x8192x3072_S2x8192x512_0_0_2048) : (⟨S2x8192x512, .f32⟩ : BufTy).Contents (Elt Ideal))⟩, ⟨S2x8192x512, ((extractStridedSlice S2x8192x512 ![0, 0, 2560] P slices_S2x8192x3072_S2x8192x512_0_0_2560) : (⟨S2x8192x512, .f32⟩ : BufTy).Contents (Elt Ideal))⟩] concatenates_S2x8192x512_S2x8192x512_S2x8192x512_S2x8192x512_S2x8192x512_S2x8192x512_S2x8192x3072_d2 : (⟨S2x8192x3072, .f32⟩ : BufTy).Contents (Elt Ideal))) shapeCasts_S2x8192x3072_S16384x24x128) transposes_S16384x24x128_S24x16384x128_1_0_2) bitsLt_bf16_f32

set_option maxHeartbeats 2000000 in
theorem joinR_apply (R0 R1 : FVec Ideal S2x8192x8x64 .f32) (s : Fin 24) (p : Fin 16384) (l : Fin 128) :
    joinR P R0 R1 (ix3 s p l)
      = if s.val < 4 then R0 (ix4 ⟨p.val / 8192, by have := p.isLt; omega⟩ ⟨p.val % 8192, by omega⟩ ⟨(2 * s.val + l.val / 64) % 8, by omega⟩ ⟨l.val % 64, by omega⟩) * Ideal.ofBits .f32 0x3E000000#32
        else if s.val < 8 then R1 (ix4 ⟨p.val / 8192, by have := p.isLt; omega⟩ ⟨p.val % 8192, by omega⟩ ⟨(2 * s.val + l.val / 64) % 8, by omega⟩ ⟨l.val % 64, by omega⟩)
        else if s.val / 4 = 3 then P (ix3 ⟨p.val / 8192, by have := p.isLt; omega⟩ ⟨p.val % 8192, by omega⟩ ⟨128 * s.val + l.val, by have := s.isLt; have := l.isLt; omega⟩) * Ideal.ofBits .f32 0x3E000000#32
        else P (ix3 ⟨p.val / 8192, by have := p.isLt; omega⟩ ⟨p.val % 8192, by omega⟩ ⟨128 * s.val + l.val, by have := s.isLt; have := l.isLt; omega⟩) := by
  have hs := s.isLt
  have hl := l.isLt
  pointwise [joinR]
  by_cases c1 : s.val < 4
  · rw [dif_pos (show s.val * 128 + l.val < 512 by omega), if_pos c1]
    exact congrArg₂ (fun x y => R0 (ix4 _ _ x y) * _) (Fin.ext (by dsimp only; omega)) (Fin.ext (by dsimp only; omega))
  rw [dif_neg (show ¬ s.val * 128 + l.val < 512 by omega), if_neg c1]
  by_cases c2 : s.val < 8
  · rw [dif_pos (show s.val * 128 + l.val - 512 < 512 by omega), if_pos c2]
    exact congrArg₂ (fun x y => R1 (ix4 _ _ x y)) (Fin.ext (by dsimp only; omega)) (Fin.ext (by dsimp only; omega))
  rw [dif_neg (show ¬ s.val * 128 + l.val - 512 < 512 by omega), if_neg c2]
  by_cases c3 : s.val < 12
  · rw [dif_pos (show s.val * 128 + l.val - 512 - 512 < 512 by omega), if_neg (show ¬ s.val / 4 = 3 by omega)]
    exact congrArg (fun x => P (ix3 _ _ x)) (Fin.ext (by dsimp only; omega))
  rw [dif_neg (show ¬ s.val * 128 + l.val - 512 - 512 < 512 by omega)]
  by_cases c4 : s.val < 16
  · rw [dif_pos (show s.val * 128 + l.val - 512 - 512 - 512 < 512 by omega), if_pos (show s.val / 4 = 3 by omega)]
    exact congrArg (fun x => P (ix3 _ _ x) * _) (Fin.ext (by dsimp only; omega))
  rw [dif_neg (show ¬ s.val * 128 + l.val - 512 - 512 - 512 < 512 by omega), if_neg (show ¬ s.val / 4 = 3 by omega)]
  by_cases c5 : s.val < 20
  · rw [dif_pos (show s.val * 128 + l.val - 512 - 512 - 512 - 512 < 512 by omega)]
    exact congrArg (fun x => P (ix3 _ _ x)) (Fin.ext (by dsimp only; omega))
  · rw [dif_neg (show ¬ s.val * 128 + l.val - 512 - 512 - 512 - 512 < 512 by omega)]
    exact congrArg (fun x => P (ix3 _ _ x)) (Fin.ext (by dsimp only; omega))

end

theorem reference_eq (m : (ℓ : Loc nD τ sig) → Buf (Elt Ideal) ℓ) (c : Dev nD) (X : FVec Ideal S2x8192x1024 .f32) (G : FVec Ideal S1x1024 .f32)
    (W : FVec Ideal S1x1024x3072 .f32) (Q : FVec Ideal S1x2x64 .f32) (h0 : m ((c.tc : Thread nD τ).loc main_arg0) = X) (h1 : m ((c.tc : Thread nD τ).loc main_arg1) = G)
    (h2 : m ((c.tc : Thread nD τ).loc main_arg2) = W) (h3 : m ((c.tc : Thread nD τ).loc main_arg3) = Q) :
    Cert.Reference4Ideal.Value.res_out0 m c
      = joinR (projR X G W) (turnR (queryR Q (projR X G W)) cosR sinR) (turnR (keyR Q (projR X G W)) cosR sinR) := by
  subst h0 h1 h2 h3
  rfl

end Cert.Ip
-- ==== Proof.IpFinite.lean ====
/-
  The in-projection's arithmetic: a normalised row is real where its gains are, so the squares of the first two sections
  are, and the part of them that the kernel adds in a second sum is zero; the kernel's rotation is the reference's.
-/
module

public import proofs.«01_k».proof.Proof.IpKernel
public import proofs.«01_k».proof.Proof.IpReference
public import proofs.«01_k».proof.Proof.DaFinite
public import proofs.«01_k».proof.Proof.Gen.Pre_sections_finite

@[expose] public section

set_option maxRecDepth 16384

noncomputable section

namespace Cert.Ip

open Idealize.ShloMosaic Cert.Da

theorem one_eq : Ideal.ofBits .f32 0x3F800000#32 = 1 := by
  rw [show Ideal.ofBits .f32 0x3F800000#32 = ((1 : ℝ) : EReal) by simp [Ideal.ofBits, Ideal.ieee, -EReal.coe_mul]; norm_num]
  rfl

theorem width_eq : Ideal.ofBits .f32 0x44800000#32 = ((1024 : ℝ) : EReal) := by
  simp [Ideal.ofBits, Ideal.ieee, -EReal.coe_mul]; norm_num

theorem head_eq : Ideal.ofBits .f32 0x42800000#32 = ((64 : ℝ) : EReal) := by
  simp [Ideal.ofBits, Ideal.ieee, -EReal.coe_mul]; norm_num

theorem part_eq : Ideal.ofBits .f32 0x3C800000#32 = ((1 / 64 : ℝ) : EReal) := by
  simp [Ideal.ofBits, Ideal.ieee, -EReal.coe_mul]; norm_num

theorem eps_eq : ∃ e : ℝ, 0 < e ∧ Ideal.ofBits .f32 0x358637BD#32 = (e : EReal) := by
  refine ⟨(Ideal.ofBits .f32 0x358637BD#32).toReal, ?_, (EReal.coe_toReal ?_ ?_).symm⟩
  · simp [Ideal.ofBits, Ideal.ieee, -EReal.coe_mul]
  · simp [Ideal.ofBits, Ideal.ieee, -EReal.coe_mul]
  · simp [Ideal.ofBits, Ideal.ieee, -EReal.coe_mul]

theorem div_real (x : EReal) (y : ℝ) (hy : y ≠ 0) : Ideal.div x (y : EReal) = x * ((1 / y : ℝ) : EReal) := by
  unfold Ideal.div
  rw [if_neg (by exact_mod_cast hy), one_div, EReal.coe_inv]

/-- A square is not negative. -/
theorem square_nonneg (x : EReal) : 0 ≤ x * x := by
  induction x with
  | bot => simp
  | top => simp
  | coe r => rw [← EReal.coe_mul]; exact_mod_cast mul_self_nonneg r

/-- Where the gains are real, so is a normalised row. -/
theorem rowNorm_real (x g : Fin 1024 → EReal) (hg : ∀ j, ∃ r : ℝ, g j = (r : EReal)) (j : Fin 1024) : ∃ r : ℝ, rowNorm x g j = (r : EReal) := by
  obtain ⟨e, he, hE⟩ := eps_eq
  obtain ⟨γ, hγ⟩ := hg j
  unfold rowNorm
  rw [hE, width_eq, div_real _ _ (by norm_num), hγ]
  have hS : 0 ≤ ∑ k, x k * x k := Finset.sum_nonneg fun k _ => square_nonneg _
  by_cases hT : ∑ k, x k * x k = ⊤
  · have h1 : (⊤ : EReal) * ((1 / 1024 : ℝ) : EReal) + (e : EReal) = ⊤ := by
      rw [EReal.top_mul_coe_of_pos (by norm_num), EReal.top_add_coe]
    rw [hT, h1]
    refine ⟨0, ?_⟩
    show x j * 0 * _ = _
    rw [mul_zero, zero_mul]; rfl
  · obtain ⟨σ, hσ⟩ : ∃ σ : ℝ, ∑ k, x k * x k = (σ : EReal) :=
      ⟨_, (EReal.coe_toReal hT (fun h => by rw [h] at hS; exact absurd hS (by simp))).symm⟩
    have hle : x j * x j ≤ ∑ k, x k * x k := Finset.single_le_sum (f := fun k => x k * x k) (fun k _ => square_nonneg _) (Finset.mem_univ j)
    obtain ⟨ξ, hξ⟩ : ∃ ξ : ℝ, x j = (ξ : EReal) := by
      refine ⟨(x j).toReal, (EReal.coe_toReal ?_ ?_).symm⟩
      · intro h
        rw [h, EReal.top_mul_top] at hle
        exact hT (top_le_iff.1 hle)
      · intro h
        rw [h, EReal.bot_mul_bot] at hle
        exact hT (top_le_iff.1 hle)
    have h0 : 0 ≤ σ := by rw [hσ] at hS; exact_mod_cast hS
    have hp : 0 < σ * (1 / 1024) + e := by positivity
    rw [hσ, hξ, ← EReal.coe_mul, ← EReal.coe_add]
    refine ⟨ξ * (Real.sqrt (σ * (1 / 1024) + e))⁻¹ * γ, ?_⟩
    have hr : Ideal.rsqrt ((σ * (1 / 1024) + e : ℝ) : EReal) = (((Real.sqrt (σ * (1 / 1024) + e))⁻¹ : ℝ) : EReal) := by
      show (if σ * (1 / 1024) + e < 0 then (⊥ : EReal) else if σ * (1 / 1024) + e = 0 then ⊤ else _) = _
      rw [if_neg (by linarith), if_neg hp.ne']
    rw [hr, EReal.coe_mul, EReal.coe_mul]

/-- A sum of products of real entries is real. -/
theorem real_sum {n : ℕ} (f g : Fin n → EReal) (hf : ∀ d, ∃ r : ℝ, f d = (r : EReal)) (hg : ∀ d, ∃ r : ℝ, g d = (r : EReal)) :
    ∃ r : ℝ, ∑ d, f d * g d = (r : EReal) := by
  choose a ha using hf
  choose b hb using hg
  exact ⟨∑ d, a d * b d, by rw [← sum_coe]; exact Finset.sum_congr rfl fun d _ => by rw [ha, hb, EReal.coe_mul]⟩

/-- A sum over a row of eight heads, where all heads but one count nothing. -/
theorem sum_group (n : ℕ) (f : Fin (n * 64) → EReal) (a : Fin n) :
    ∑ k : Fin (n * 64), f k * (if k.val / 64 = a.val then 1 else 0)
      = ∑ d : Fin 64, f ⟨a.val * 64 + d.val, by have := a.isLt; have := d.isLt; omega⟩ := by
  rw [← finProdFinEquiv.sum_comp, Fintype.sum_prod_type, Finset.sum_eq_single a]
  · refine Finset.sum_congr rfl fun d _ => ?_
    have hd := d.isLt
    have hv : (finProdFinEquiv (a, d)).val = d.val + 64 * a.val := rfl
    rw [if_pos (by rw [hv]; omega), mul_one]
    exact congrArg f (Fin.ext (by rw [hv]; show _ = a.val * 64 + d.val; omega))
  · intro b _ hb
    refine Finset.sum_eq_zero fun d _ => ?_
    have hd := d.isLt
    have hv : (finProdFinEquiv (b, d)).val = d.val + 64 * b.val := rfl
    have hne : b.val ≠ a.val := fun h => hb (Fin.ext h)
    rw [if_neg (by rw [hv]; omega), mul_zero]
  · intro h
    exact absurd (Finset.mem_univ a) h

/-- Where a row is real, the kernel's normalised head is the reference's. -/
theorem nS_eq (t : Fin 512 → EReal) (ht : ∀ j, ∃ r : ℝ, t j = (r : EReal)) (x4 : Cert.Kernel4Ideal.S512x512.Idx → EReal)
    (h4 : ∀ k j : Fin 512, x4 (ix2 k j) = if k.val / 64 = j.val / 64 then 1 else 0) (g : Fin 64 → EReal) (a : Fin 8) (d : Fin 64) (j : Fin 512)
    (hj : j.val = a.val * 64 + d.val) :
    nS t x4 (g d) j = headNorm (fun k => t ⟨a.val * 64 + k.val, by have := a.isLt; have := k.isLt; omega⟩) g d := by
  have hd := d.isLt
  unfold nS headNorm
  have hz : ∑ k : Fin 512, (t k * t k - t k * t k) * x4 (ix2 k j) = 0 := Finset.sum_eq_zero fun k _ => by
    obtain ⟨r, hr⟩ := ht k
    rw [hr, ← EReal.coe_mul, ← EReal.coe_sub, sub_self, EReal.coe_zero, zero_mul]
  have hs : ∑ k : Fin 512, t k * t k * x4 (ix2 k j) = ∑ k : Fin 64, t ⟨a.val * 64 + k.val, by have := a.isLt; have := k.isLt; omega⟩
      * t ⟨a.val * 64 + k.val, by have := a.isLt; have := k.isLt; omega⟩ := by
    refine Eq.trans (Finset.sum_congr rfl fun k _ => ?_) (sum_group 8 (fun k => t k * t k) a)
    rw [h4, show j.val / 64 = a.val by omega]
  rw [hz, hs, add_zero, head_eq, div_real _ _ (by norm_num), part_eq]
  exact congrArg (fun x => t x * Ideal.rsqrt _ * g d) (Fin.ext hj)

/-- The kernel's rotation of a slab is the reference's of the head. -/
theorem ropeS_eq (n : Fin 512 → EReal) (C A B : Cert.Kernel4Ideal.S512x128.Idx → EReal) (r : Fin 512) (b : Fin 4) (l : Fin 128) (C0 S0 : Fin 8 → EReal)
    (hC : C (ix2 r l) = if h : l.val % 64 < 8 then C0 ⟨l.val % 64, h⟩ else if h : l.val % 64 < 16 then C0 ⟨l.val % 64 - 8, by omega⟩ else 1)
    (hA : A (ix2 r l) = if h : l.val % 64 < 8 then - S0 ⟨l.val % 64, h⟩ else 0)
    (hB : B (ix2 r l) = if h : l.val % 64 < 8 then 0 else if h : l.val % 64 < 16 then S0 ⟨l.val % 64 - 8, by omega⟩ else 0) :
    ropeS n C A B r b l = turn (fun k => n ⟨128 * b.val + 64 * (l.val / 64) + k.val, by have := b.isLt; have := l.isLt; have := k.isLt; omega⟩) C0 S0 ⟨l.val % 64, by omega⟩ := by
  have hb := b.isLt
  have hl := l.isLt
  unfold ropeS turn
  rw [hC, hA, hB]
  have h0 : ∀ (x y : Fin 512), x.val = y.val → n x = n y := fun x y h => congrArg n (Fin.ext h)
  split_ifs with h1 h2
  · rw [mul_zero, add_zero, mul_neg, ← sub_eq_add_neg]
    rw [h0 ⟨128 * b.val + l.val, by omega⟩ ⟨128 * b.val + 64 * (l.val / 64) + l.val % 64, by omega⟩ (by dsimp only; omega),
      h0 ⟨128 * b.val + (l.val + 128 - 120) % 128, by omega⟩ ⟨128 * b.val + 64 * (l.val / 64) + (8 + l.val % 64), by omega⟩ (by dsimp only; omega)]
  · rw [mul_zero, add_zero]
    rw [h0 ⟨128 * b.val + l.val, by omega⟩ ⟨128 * b.val + 64 * (l.val / 64) + l.val % 64, by omega⟩ (by dsimp only; omega),
      h0 ⟨128 * b.val + (l.val + 128 - 8) % 128, by omega⟩ ⟨128 * b.val + 64 * (l.val / 64) + (l.val % 64 - 8), by omega⟩ (by dsimp only; omega)]
  · rw [mul_zero, mul_zero, add_zero, add_zero, mul_one]
    exact h0 _ _ (by dsimp only; omega)

section
open Cert.Reference4Ideal

variable (X : FVec Ideal S2x8192x1024 .f32) (G : FVec Ideal S1x1024 .f32) (W : FVec Ideal S1x1024x3072 .f32) (Q : FVec Ideal S1x2x64 .f32)
  (hf : Pre_sections_finite.fn (F := Ideal) X G W Q = fun _ => 1#1)
include hf

theorem real_entries (k j : Fin 1024) : (∃ r : ℝ, W (ix3 0 k ⟨j.val, by have := j.isLt; omega⟩) = (r : EReal)) ∧ ∃ r : ℝ, G (ix2 0 k) = (r : EReal) := by
  have h1 := congrFun hf (ix3 0 k j)
  revert h1
  pointwise [Pre_sections_finite.fn]
  intro hx
  obtain ⟨h1, h2⟩ := andi_one _ _ hx
  exact ⟨real_of_inside _ h1, real_of_inside _ h2⟩

/-- The first two sections of the product are real. -/
theorem proj_real (b : Fin 2) (p : Fin 8192) (j : Fin 3072) (hj : j.val < 1024) : ∃ r : ℝ, proj X G W b p j = (r : EReal) := by
  unfold proj
  exact real_sum _ _ (fun k => rowNorm_real _ _ (fun k => (real_entries X G W Q hf k 0).2) k)
    fun k => (real_entries X G W Q hf k ⟨j.val, hj⟩).1

end

end Cert.Ip
-- ==== Proof.IpArray.lean ====
/-
  The in-projection's array: at every entry what the reference's holds.
-/
module

public import proofs.«01_k».proof.Proof.IpFinite
public import Idealize.ShloMosaic.Lib.Pipeline.Covers
public import Idealize.ShloMosaic.Lib.StableHlo.ReadAt

@[expose] public section

set_option maxRecDepth 16384

noncomputable section

namespace Cert.Ip

open Cert.Kernel4Ideal Cert.Kernel4Ideal.Gen Idealize.ShloMosaic Idealize.ShloMosaic.TcCoe Idealize.SL.Sem

/-- The grid point's block of rows. -/
def gi (t : Fin cfg0.N) : Fin 32 := grid0.coords t 0

theorem idx0 : ∀ t : Fin cfg0.N, win0_0.index t = ![(gi t).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![(gi t).val % 16, 0] := (by decide +kernel : ∀ t : Fin grid0.N, _)
theorem idx6 : ∀ t : Fin cfg0.N, win0_6.index t = ![(gi t).val % 16, 0] := (by decide +kernel : ∀ t : Fin grid0.N, _)
theorem idx7 : ∀ t : Fin cfg0.N, win0_7.index t = ![(gi t).val % 16, 0] := (by decide +kernel : ∀ t : Fin grid0.N, _)
theorem idx8 : ∀ t : Fin cfg0.N, win0_8.index t = ![0, (gi t).val, 0] := (by decide +kernel : ∀ t : Fin grid0.N, _)

variable (m : (ℓ : Loc nD τ sig) → Buf (Elt Ideal) ℓ) (c : Dev nD) (t : Fin cfg0.N)

/-- The arguments. -/
abbrev ax : FVec Ideal S2x8192x1024 .f32 := m ((c.tc : Thread nD τ).loc main_arg0)
abbrev ag : FVec Ideal S1x1024 .f32 := m ((c.tc : Thread nD τ).loc main_arg1)
abbrev aw : FVec Ideal S1x1024x3072 .f32 := m ((c.tc : Thread nD τ).loc main_arg2)
abbrev aq : FVec Ideal S1x2x64 .f32 := m ((c.tc : Thread nD τ).loc main_arg3)

/-- The blocks at a grid point. -/
abbrev b0 : FVec Ideal S512x1024 .f32 := iblk m c 0 t
abbrev b1 : FVec Ideal S1x1024 .f32 := iblk m c 1 t
abbrev b2 : FVec Ideal S1024x3072 .bf16 := iblk m c 2 t
abbrev b3 : FVec Ideal S2x512 .f32 := iblk m c 3 t
abbrev b4 : FVec Ideal S512x512 .bf16 := iblk m c 4 t
abbrev b5 : FVec Ideal S512x128 .f32 := iblk m c 5 t
abbrev b6 : FVec Ideal S512x128 .f32 := iblk m c 6 t
abbrev b7 : FVec Ideal S512x128 .f32 := iblk m c 7 t

/-- Row `r` of the grid point's block among all the rows: its batch and its position. -/
def rowOf (r : Fin 512) : Fin 16384 := ⟨512 * (gi t).val + r.val, by have := (gi t).isLt; have := r.isLt; omega⟩
def batchOf : Fin 2 := ⟨(gi t).val / 16, by have := (gi t).isLt; omega⟩
def posOf (r : Fin 512) : Fin 8192 := ⟨(gi t).val % 16 * 512 + r.val, by have := r.isLt; omega⟩

theorem block0 (r : Fin 512) (j : Fin 1024) : b0 m c t (ix2 r j) = ax m c (ix3 (batchOf t) (posOf t r) j) := by
  have hg := (gi t).isLt
  have hr := r.isLt
  refine Eq.trans (b := V m c main_v47 (ix2 (rowOf t r) j)) ?_ ?_
  · blk_simp [iblk, idx0]
    refine congrArg (V m c main_v47) ?_
    unfold rowOf
    blk_ext [idx0 t]
  · unfold V
    after_reads_at
    refine congrArg₂ (fun x y => ax m c (ix3 x y j)) (Fin.ext ?_) (Fin.ext ?_)
    · show (512 * (gi t).val + r.val) / 8192 = (gi t).val / 16
      omega
    · show (512 * (gi t).val + r.val) % 8192 = (gi t).val % 16 * 512 + r.val
      omega

theorem block1 (j : Fin 1024) : b1 m c t (ix2 0 j) = ag m c (ix2 0 j) := by
  refine Eq.trans (b := V m c main_v49 (ix2 0 j)) ?_ ?_
  · blk_simp [iblk, idx1]
    refine congrArg (V m c main_v49) ?_
    blk_ext [idx1 t]
  · unfold V
    after_reads_at
    try rfl

theorem block2 (k : Fin 1024) (j : Fin 3072) : b2 m c t (ix2 k j) = aw m c (ix3 0 k j) := by
  refine Eq.trans (b := V m c main_v51 (ix2 k j)) ?_ ?_
  · blk_simp [iblk, idx2]
    refine congrArg (V m c main_v51) ?_
    blk_ext [idx2 t]
  · unfold V
    after_reads_at
    try rfl

theorem block3 (s : Fin 2) (j : Fin 512) : b3 m c t (ix2 s j) = aq m c (ix3 0 s ⟨j.val % 64, by omega⟩) := by
  refine Eq.trans (b := V m c main_v38 (ix2 s j)) ?_ ?_
  · blk_simp [iblk, idx3]
    refine congrArg (V m c main_v38) ?_
    blk_ext [idx3 t]
  · unfold V
    after_reads_at
    try rfl

/-- The quotient of a column by 64, rounded down. -/
theorem column (κ : Fin 512) :
    Scalar.select
      (IntOp.andi
        (IntOp.cmpi CmpIPredicate.ne
          (if BitVec.ofNat 32 κ.val = 0 then (0 : BitVec 32) else if (BitVec.ofNat 32 κ.val).msb = true then -1 else 1)
          (if 64#32 = 0 then (0 : BitVec 32) else if (64#32).msb = true then -1 else 1))
        (IntOp.cmpi CmpIPredicate.ne (IntOp.remsi ArithUnit.host (BitVec.ofNat 32 κ.val) 64#32) 0#32))
      (IntOp.subi (IntOp.divsi ArithUnit.host (BitVec.ofNat 32 κ.val) 64#32) 1#32)
      (IntOp.divsi ArithUnit.host (BitVec.ofNat 32 κ.val) 64#32) = BitVec.ofNat 32 (κ.val / 64) := by
  revert κ
  decide +kernel

/-- The matrix that tells the heads apart. -/
theorem block4 (k j : Fin 512) : b4 m c t (ix2 k j) = if k.val / 64 = j.val / 64 then 1 else 0 := by
  refine Eq.trans (b := V m c main_v46 (ix2 k j)) ?_ ?_
  · blk_simp [iblk, idx4]
    refine congrArg (V m c main_v46) ?_
    blk_ext [idx4 t]
  · unfold V
    after_reads_at
    refine Eq.trans (congrArg₂ (fun x y => FloatOps.uitofp (F := Ideal) FTy.bf16 (IntOp.cmpi CmpIPredicate.eq x y)) (column k) (column j)) ?_
    show ((IntOp.cmpi CmpIPredicate.eq (BitVec.ofNat 32 (k.val / 64)) (BitVec.ofNat 32 (j.val / 64))).toNat : EReal) = _
    have hk := k.isLt
    have hj := j.isLt
    by_cases h : k.val / 64 = j.val / 64
    · rw [if_pos h, h]
      simp [IntOp.cmpi]
    · rw [if_neg h]
      have hn : ¬ BitVec.ofNat 32 (k.val / 64) = BitVec.ofNat 32 (j.val / 64) := fun e => h (by
        have := congrArg BitVec.toNat e
        rw [BitVec.toNat_ofNat, BitVec.toNat_ofNat] at this
        omega)
      simp [IntOp.cmpi, hn]

theorem zero_eq : Ideal.ofBits .f32 0x00000000#32 = 0 := by
  simp [Ideal.ofBits, Ideal.ieee, -EReal.coe_mul]

/-- The reference's cosines and sines at an entry. -/
theorem cosR_apply (p : Fin 8192) (k : Fin 8) :
    cosR (ix2 p k) = Ideal.cos (FloatOps.sitofp (F := Ideal) FTy.f32 (BitVec.ofNat 32 p.val) *
      Ideal.div 1 (Ideal.pow (Ideal.ofBits FTy.f32 0x48F42400#32)
        (Ideal.div (Ideal.ofBits FTy.f32 0x40000000#32 * FloatOps.sitofp (F := Ideal) FTy.f32 (BitVec.ofNat 32 k.val)) (Ideal.ofBits FTy.f32 0x41800000#32)))) := by
  pointwise [cosR]

theorem sinR_apply (p : Fin 8192) (k : Fin 8) :
    sinR (ix2 p k) = Ideal.sin (FloatOps.sitofp (F := Ideal) FTy.f32 (BitVec.ofNat 32 p.val) *
      Ideal.div 1 (Ideal.pow (Ideal.ofBits FTy.f32 0x48F42400#32)
        (Ideal.div (Ideal.ofBits FTy.f32 0x40000000#32 * FloatOps.sitofp (F := Ideal) FTy.f32 (BitVec.ofNat 32 k.val)) (Ideal.ofBits FTy.f32 0x41800000#32)))) := by
  pointwise [sinR]

set_option maxHeartbeats 600000 in
/-- The rotation's tables: the cosines, and the sines with either sign. -/
theorem table5_eq (r : Fin 512) (l : Fin 128) :
    b5 m c t (ix2 r l) = if h : l.val % 64 < 8 then cosR (ix2 (posOf t r) ⟨l.val % 64, h⟩)
      else if h : l.val % 64 < 16 then cosR (ix2 (posOf t r) ⟨l.val % 64 - 8, by omega⟩) else 1 := by
  refine Eq.trans (b := V m c main_v28 (ix2 (posOf t r) l)) ?_ ?_
  · blk_simp [iblk, idx5]
    refine congrArg (V m c main_v28) ?_
    unfold posOf
    blk_ext [idx5 t]
  · unfold V
    after_reads_at
    by_cases c1 : l.val % 64 < 8
    · rw [dif_pos c1, dif_pos c1]
      after_reads_at
      rw [cosR_apply]
    rw [dif_neg c1, dif_neg c1]
    by_cases c2 : l.val % 64 < 16
    · rw [dif_pos (show l.val % 64 - 8 < 8 by omega), dif_pos c2]
      after_reads_at
      rw [cosR_apply]
    · rw [dif_neg (show ¬ l.val % 64 - 8 < 8 by omega), dif_neg c2]
      after_reads_at

set_option maxHeartbeats 600000 in
theorem table6_eq (r : Fin 512) (l : Fin 128) :
    b6 m c t (ix2 r l) = if h : l.val % 64 < 8 then - sinR (ix2 (posOf t r) ⟨l.val % 64, h⟩) else 0 := by
  refine Eq.trans (b := V m c main_v31 (ix2 (posOf t r) l)) ?_ ?_
  · blk_simp [iblk, idx6]
    refine congrArg (V m c main_v31) ?_
    unfold posOf
    blk_ext [idx6 t]
  · unfold V
    after_reads_at
    by_cases c1 : l.val % 64 < 8
    · rw [dif_pos c1, dif_pos c1]
      after_reads_at
      rw [sinR_apply]
    rw [dif_neg c1, dif_neg c1]
    by_cases c2 : l.val % 64 < 16
    · rw [dif_pos (show l.val % 64 - 8 < 8 by omega)]
      after_reads_at
    · rw [dif_neg (show ¬ l.val % 64 - 8 < 8 by omega)]
      after_reads_at

set_option maxHeartbeats 600000 in
theorem table7_eq (r : Fin 512) (l : Fin 128) :
    b7 m c t (ix2 r l) = if h : l.val % 64 < 8 then 0 else if h : l.val % 64 < 16 then sinR (ix2 (posOf t r) ⟨l.val % 64 - 8, by omega⟩) else 0 := by
  refine Eq.trans (b := V m c main_v34 (ix2 (posOf t r) l)) ?_ ?_
  · blk_simp [iblk, idx7]
    refine congrArg (V m c main_v34) ?_
    unfold posOf
    blk_ext [idx7 t]
  · unfold V
    after_reads_at
    by_cases c1 : l.val % 64 < 8
    · rw [dif_pos c1, dif_pos c1]
      after_reads_at
    rw [dif_neg c1, dif_neg c1]
    by_cases c2 : l.val % 64 < 16
    · rw [dif_pos (show l.val % 64 - 8 < 8 by omega), dif_pos c2]
      after_reads_at
      rw [sinR_apply]
    · rw [dif_neg (show ¬ l.val % 64 - 8 < 8 by omega), dif_neg c2]
      after_reads_at

/-- A row of the block, normalised. -/
theorem row_eq (r : Fin 512) (j : Fin 1024) :
    k0_pay59 (F := Ideal) (b0 m c t) (b1 m c t) (b2 m c t) (b3 m c t) (b4 m c t) (b5 m c t) (b6 m c t) (b7 m c t) (ix2 r j)
      = rowNorm (fun k => ax m c (ix3 (batchOf t) (posOf t r) k)) (fun k => ag m c (ix2 0 k)) j := by
  refine (pay59_apply (b0 m c t) (b1 m c t) (b2 m c t) (b3 m c t) (b4 m c t) (b5 m c t) (b6 m c t) (b7 m c t) r j).trans ?_
  simp only [block0, block1]
  rfl

/-- The kernel's normalised rows. -/
abbrev hK : FVec Ideal S512x1024 .bf16 :=
  k0_pay59 (F := Ideal) (b0 m c t) (b1 m c t) (b2 m c t) (b3 m c t) (b4 m c t) (b5 m c t) (b6 m c t) (b7 m c t)

/-- A section of the product. -/
theorem section_eq (s : Fin 6) (r j : Fin 512) :
    tS (hK m c t) (b2 m c t) s r j
      = proj (ax m c) (ag m c) (aw m c) (batchOf t) (posOf t r) ⟨512 * s.val + j.val, by have := s.isLt; have := j.isLt; omega⟩ :=
  Finset.sum_congr rfl fun k _ => congrArg₂ (fun x y : EReal => x * y) (row_eq m c t r k) (block2 m c t k _)

section
variable (hf : Cert.Pre_sections_finite.fn (F := Ideal) (ax m c) (ag m c) (aw m c) (aq m c) = fun _ => 1#1)
include hf

theorem section_real (s : Fin 6) (hs : s.val < 2) (r j : Fin 512) : ∃ x : ℝ, tS (hK m c t) (b2 m c t) s r j = (x : EReal) := by
  rw [section_eq]
  exact proj_real (ax m c) (ag m c) (aw m c) (aq m c) hf _ _ _ (by dsimp only; have := j.isLt; omega)

/-- A normalised head of the first section, and of the second. -/
theorem query_head (r j : Fin 512) :
    nS (tS (hK m c t) (b2 m c t) 0 r) (b4 m c t) (b3 m c t (ix2 0 j)) j
      = queryR (aq m c) (projR (ax m c) (ag m c) (aw m c)) (ix4 (batchOf t) (posOf t r) ⟨j.val / 64, by have := j.isLt; omega⟩ ⟨j.val % 64, by omega⟩) := by
  have hj := j.isLt
  rw [block3]
  refine (nS_eq _ (section_real m c t hf 0 (by decide) r) _ (block4 m c t) (fun d => aq m c (ix3 0 0 d)) ⟨j.val / 64, by omega⟩ ⟨j.val % 64, by omega⟩ j (by dsimp only; omega)).trans ?_
  rw [queryR_apply]
  refine congrArg (fun f => headNorm f (fun d => aq m c (ix3 0 0 d)) ⟨j.val % 64, by omega⟩) (funext fun k => ?_)
  rw [section_eq, projR_apply]
  exact congrArg (proj (ax m c) (ag m c) (aw m c) (batchOf t) (posOf t r)) (Fin.ext (by show 512 * 0 + _ = _; dsimp only; omega))

theorem key_head (r j : Fin 512) :
    nS (tS (hK m c t) (b2 m c t) 1 r) (b4 m c t) (b3 m c t (ix2 1 j)) j
      = keyR (aq m c) (projR (ax m c) (ag m c) (aw m c)) (ix4 (batchOf t) (posOf t r) ⟨j.val / 64, by have := j.isLt; omega⟩ ⟨j.val % 64, by omega⟩) := by
  have hj := j.isLt
  rw [block3]
  refine (nS_eq _ (section_real m c t hf 1 (by decide) r) _ (block4 m c t) (fun d => aq m c (ix3 0 1 d)) ⟨j.val / 64, by omega⟩ ⟨j.val % 64, by omega⟩ j (by dsimp only; omega)).trans ?_
  rw [keyR_apply]
  refine congrArg (fun f => headNorm f (fun d => aq m c (ix3 0 1 d)) ⟨j.val % 64, by omega⟩) (funext fun k => ?_)
  rw [section_eq, projR_apply]
  rfl

/-- A slab of rotated heads. -/
theorem slab_eq (n : Fin 512 → EReal) (N : FVec Ideal Cert.Reference4Ideal.S2x8192x8x64 .f32) (r : Fin 512)
    (hn : ∀ j : Fin 512, n j = N (ix4 (batchOf t) (posOf t r) ⟨j.val / 64, by have := j.isLt; omega⟩ ⟨j.val % 64, by omega⟩)) (b : Fin 4) (l : Fin 128) :
    ropeS n (b5 m c t) (b6 m c t) (b7 m c t) r b l
      = turnR N cosR sinR (ix4 (batchOf t) (posOf t r) ⟨2 * b.val + l.val / 64, by have := b.isLt; have := l.isLt; omega⟩ ⟨l.val % 64, by omega⟩) := by
  have hb := b.isLt
  have hl := l.isLt
  refine (ropeS_eq n _ _ _ r b l (fun k => cosR (ix2 (posOf t r) k)) (fun k => sinR (ix2 (posOf t r) k)) (table5_eq m c t r l) (table6_eq m c t r l) (table7_eq m c t r l)).trans ?_
  rw [turnR_apply]
  refine congrArg (fun f => turn f (fun k => cosR (ix2 (posOf t r) k)) (fun k => sinR (ix2 (posOf t r) k)) ⟨l.val % 64, by omega⟩) (funext fun k => (hn _).trans ?_)
  have hk := k.isLt
  exact congrArg₂ (fun x y => N (ix4 (batchOf t) (posOf t r) x y)) (Fin.ext (by dsimp only; omega)) (Fin.ext (by dsimp only; omega))

/-- The array the reference computes. -/
abbrev resultR : FVec Ideal S24x16384x128 .bf16 :=
  joinR (projR (ax m c) (ag m c) (aw m c)) (turnR (queryR (aq m c) (projR (ax m c) (ag m c) (aw m c))) cosR sinR)
    (turnR (keyR (aq m c) (projR (ax m c) (ag m c) (aw m c))) cosR sinR)

theorem entry_eq (s : Fin 24) (r : Fin 512) (l : Fin 128) :
    out0_8 (F := Ideal) (b0 m c t) (b1 m c t) (b2 m c t) (b3 m c t) (b4 m c t) (b5 m c t) (b6 m c t) (b7 m c t) (ix3 s r l)
      = resultR m c (ix3 s (rowOf t r) l) := by
  have hs := s.isLt
  have hr := r.isLt
  have hl := l.isLt
  have hg := (gi t).isLt
  have hb : ∀ h, (⟨(rowOf t r).val / 8192, h⟩ : Fin 2) = batchOf t := fun _ => Fin.ext (by show (512 * (gi t).val + r.val) / 8192 = (gi t).val / 16; omega)
  have hp : ∀ h, (⟨(rowOf t r).val % 8192, h⟩ : Fin 8192) = posOf t r :=
    fun _ => Fin.ext (by show (512 * (gi t).val + r.val) % 8192 = (gi t).val % 16 * 512 + r.val; omega)
  refine (out8_apply (b0 m c t) (b1 m c t) (b2 m c t) (b3 m c t) (b4 m c t) (b5 m c t) (b6 m c t) (b7 m c t) s r l).trans ?_
  unfold outS resultR
  rw [joinR_apply, hb, hp]
  by_cases c1 : s.val < 4
  · rw [if_pos c1, if_pos c1]
    refine congrArg₂ (fun x y : EReal => x * y) ((slab_eq m c t hf _ (queryR (aq m c) (projR (ax m c) (ag m c) (aw m c))) r (query_head m c t hf r) _ l).trans ?_) rfl
    exact congrArg (fun x => turnR (queryR (aq m c) (projR (ax m c) (ag m c) (aw m c))) cosR sinR (ix4 (batchOf t) (posOf t r) x ⟨l.val % 64, by omega⟩)) (Fin.ext (by dsimp only; omega))
  rw [if_neg c1, if_neg c1]
  by_cases c2 : s.val < 8
  · rw [if_pos c2, if_pos c2, one_eq, mul_one]
    refine (slab_eq m c t hf _ (keyR (aq m c) (projR (ax m c) (ag m c) (aw m c))) r (key_head m c t hf r) _ l).trans ?_
    exact congrArg (fun x => turnR (keyR (aq m c) (projR (ax m c) (ag m c) (aw m c))) cosR sinR (ix4 (batchOf t) (posOf t r) x ⟨l.val % 64, by omega⟩)) (Fin.ext (by dsimp only; omega))
  rw [if_neg c2, if_neg c2]
  have hv : tS (hK m c t) (b2 m c t) ⟨s.val / 4, by omega⟩ r ⟨128 * (s.val % 4) + l.val, by omega⟩
      = projR (ax m c) (ag m c) (aw m c) (ix3 (batchOf t) (posOf t r) ⟨128 * s.val + l.val, by omega⟩) := by
    rw [section_eq, projR_apply]
    exact congrArg (proj (ax m c) (ag m c) (aw m c) (batchOf t) (posOf t r)) (Fin.ext (by dsimp only; omega))
  by_cases c3 : s.val / 4 = 3
  · rw [if_pos c3, if_pos c3]
    exact congrArg₂ (fun x y : EReal => x * y) hv rfl
  · rw [if_neg c3, if_neg c3, one_eq, mul_one]
    exact hv

end

/-- Every block of rows is some grid point's. -/
theorem covers8 : (cfg0.win 8).Covers := (cfg0.win 8).covers_of_indexMap_surj rfl (by decide) (by decide +kernel)

/-- The whole array. -/
theorem array8 (hf : Cert.Pre_sections_finite.fn (F := Ideal) (ax m c) (ag m c) (aw m c) (aq m c) = fun _ => 1#1) :
    (dats m 0 c).arrAt 8 cfg0.N = resultR m c := by
  refine (dats m 0 c).arrAt_eq_of_covers 8 _ covers8 fun t hf' y => ?_
  blk_simp
  rw [after0_8]
  obtain ⟨s, r, l, rfl⟩ : ∃ (s : Fin 24) (r : Fin 512) (l : Fin 128), y = ix3 s r l := ⟨y 0, y 1, y 2, by funext a; fin_cases a <;> rfl⟩
  refine (entry_eq m c t hf s r l).trans (congrArg (resultR m c) ?_)
  unfold rowOf
  blk_ext [idx8 t]

end Cert.Ip
-- ==== Proof.IpClaim.lean ====
/-
  The in-projection's claims about values and about the reference's run.
-/
module

public import proofs.«01_k».proof.Defs
public import proofs.«01_k».proof.Proof.IpArray
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import Idealize.ShloMosaic.Adequacy

@[expose] public section

noncomputable section

namespace Cert.Ip

open Idealize.ShloMosaic Idealize.SL.Sem

/-- The reference runs, keeps its arguments, and leaves every counter at zero. -/
theorem quiescent_reference : Cert.quiescent_Reference4Ideal (hReference4Ideal := Cert.Reference4Ideal.Gen.facts) := fun m g _ =>
  (θ_run _ _ _).mono (fun r h => ⟨fun c => (h c).2, Idealize.ShloMosaic.sem_eq_zero_of_no_sems (by decide) r.2⟩)
    (Cert.Reference4Ideal.Value.run m g)

/-- Where the gains and the first two sections of the weights are finite the kernel computes what the reference computes. -/
theorem algebraic : Cert.algebraic_Kernel4Ideal_Reference4Ideal_pre_sections_finite (hKernel4Ideal := Cert.Kernel4Ideal.Gen.facts)
    (hReference4Ideal := Cert.Reference4Ideal.Gen.facts) (hPre_sections_finite := Cert.Pre_sections_finite.Gen.facts) := by
  intro m g m' g' hpre hagree
  refine ⟨fun c => (Cert.Kernel4Ideal.Gen.dats m 0 c).arrAt 8 Cert.Kernel4Ideal.cfg0.N, Cert.Kernel4Ideal.Value.run_blocks m g,
    (θ_run _ _ _).mono (fun r h c => ⟨?_, (h c).2⟩) (Cert.Reference4Ideal.Value.run m' g')⟩
  obtain ⟨a0, a1, a2, a3⟩ := hagree c
  exact (h c).1.trans ((reference_eq m' c _ _ _ _ a0 a1 a2 a3).trans (array8 m c (hpre c)).symm)

end Cert.Ip
-- ==== Proof.lean ====
/-
  The claims of the layer's calls: each printed kernel and its exact reading run and stop quiescent, so does its
  reference, and over the extended reals the kernel and its reference end with equal results.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel5
public import proofs.«01_k».proof.Proof.Gen.Kernel5.Skeleton
public import proofs.«01_k».proof.Proof.Gen.Kernel5.Loops
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Loops
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Pre_finite
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_sections_finite
public import proofs.«01_k».proof.Proof.Array
public import proofs.«01_k».proof.Proof.ExpClaim
public import proofs.«01_k».proof.Proof.OutClaim
public import proofs.«01_k».proof.Proof.DaClaim
public import proofs.«01_k».proof.Proof.IpClaim
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs, keeps its argument, and leaves every counter at zero. -/
theorem quiescent_reference : Cert.quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩)
    (Cert.ReferenceIdeal.Value.run m g)

/-- The stick-breaking kernel computes what the reference computes. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => (Cert.KernelIdeal.Gen.dats m 0 c).arrAt 3 Cert.KernelIdeal.cfg0.N, Cert.KernelIdeal.Value.run_blocks m g,
    (θ_run _ _ _).mono (fun r h c => ⟨?_, (h c).2⟩) (Cert.ReferenceIdeal.Value.run m' g')⟩
  refine (h c).1.trans ((Cert.Sb.reference_eq m' c).trans ?_)
  rw [hagree c]
  exact (Cert.Sb.array_eq m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel5.Gen.facts, Cert.Kernel5Ideal.Gen.facts, Cert.Reference5Ideal.Gen.facts,
  Cert.Kernel4.Gen.facts, Cert.Kernel4Ideal.Gen.facts, Cert.Reference4Ideal.Gen.facts, Cert.Pre_finite.Gen.facts, Cert.Pre_sections_finite.Gen.facts,
  fun m g _ => Cert.Kernel.Gen.frame m g, fun m g _ => Cert.KernelIdeal.Gen.frame m g, quiescent_reference,
  fun m g _ => Cert.Kernel2.Gen.frame m g, fun m g _ => Cert.Kernel2Ideal.Gen.frame m g, Cert.Ex.quiescent_reference,
  fun m g _ => Cert.Kernel3.Gen.frame m g, fun m g _ => Cert.Kernel3Ideal.Gen.frame m g, Cert.Op.quiescent_reference,
  fun m g _ => Cert.DaBits.frame m g, fun m g _ => Cert.Da.frame m g, fun m g _ => Cert.Da.frame m g,
  Cert.Da.quiescent_reference, fun m g _ => Cert.Da.quiescent_reference m g trivial,
  fun m g _ => Cert.Kernel4.Gen.frame m g, fun m g _ => Cert.Kernel4Ideal.Gen.frame m g, fun m g _ => Cert.Kernel4Ideal.Gen.frame m g,
  Cert.Ip.quiescent_reference, fun m g _ => Cert.Ip.quiescent_reference m g trivial,
  trivial, algebraic, trivial, Cert.Ex.algebraic, trivial, Cert.Op.algebraic, Cert.Da.preserves, Cert.Da.algebraic, trivial, Cert.Ip.algebraic⟩

end Cert.Proof

end
